-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Proja (m : (ℓ : Loc Cert.Proja.nD Cert.Proja.τ Cert.Proja.sig) → Buf (Elt Bits) ℓ) : Prop :=
  True

def Pre_ProjaIdeal (m : (ℓ : Loc Cert.ProjaIdeal.nD Cert.ProjaIdeal.τ Cert.ProjaIdeal.sig) → Buf (Elt Ideal) ℓ) : Prop :=
  True

def Pre_ProjaRefIdeal (m : (ℓ : Loc Cert.ProjaRefIdeal.nD Cert.ProjaRefIdeal.τ Cert.ProjaRefIdeal.sig) → Buf (Elt Ideal) ℓ) : Prop :=
  True

def Pre_Projc (m : (ℓ : Loc Cert.Projc.nD Cert.Projc.τ Cert.Projc.sig) → Buf (Elt Bits) ℓ) : Prop :=
  True

def Pre_ProjcIdeal (m : (ℓ : Loc Cert.ProjcIdeal.nD Cert.ProjcIdeal.τ Cert.ProjcIdeal.sig) → Buf (Elt Ideal) ℓ) : Prop :=
  True

def Pre_ProjcRefIdeal (m : (ℓ : Loc Cert.ProjcRefIdeal.nD Cert.ProjcRefIdeal.τ Cert.ProjcRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_qk [hPre_finite_qk : Cert.Pre_finite_qk.Facts] (m : (ℓ : Loc Cert.SbIdeal.nD Cert.SbIdeal.τ Cert.SbIdeal.sig) → Buf (Elt Ideal) ℓ) : Prop :=
  ∀ c : Dev Cert.SbIdeal.nD,
    (Cert.Pre_finite_qk.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_Proja [hProja : Cert.Proja.Facts] : Prop :=
  ∀ (m : (ℓ : Loc Cert.Proja.nD Cert.Proja.τ Cert.Proja.sig) → Buf (Elt Bits) ℓ) (g : Dev Cert.Proja.nD → PrngReg), Pre_Proja m →
    θ_run (Cert.Proja.defs (F := Bits)) (onTc (τ := Cert.Proja.τ) (Cert.Proja.main (F := Bits))) ⟨m, fun _ => 0, g⟩ (fun r => (∀ c : Dev Cert.Proja.nD,
      r.2.mem ((c.tc : Thread Cert.Proja.nD Cert.Proja.τ).loc Cert.Proja.main_arg0) = m ((c.tc : Thread Cert.Proja.nD Cert.Proja.τ).loc Cert.Proja.main_arg0)
      ∧ r.2.mem ((c.tc : Thread Cert.Proja.nD Cert.Proja.τ).loc Cert.Proja.main_arg1) = m ((c.tc : Thread Cert.Proja.nD Cert.Proja.τ).loc Cert.Proja.main_arg1))
      ∧ r.2.sem = fun _ => 0)

def quiescent_ProjaIdeal [hProjaIdeal : Cert.ProjaIdeal.Facts] : Prop :=
  ∀ (m : (ℓ : Loc Cert.ProjaIdeal.nD Cert.ProjaIdeal.τ Cert.ProjaIdeal.sig) → Buf (Elt Ideal) ℓ) (g : Dev Cert.ProjaIdeal.nD → PrngReg), Pre_ProjaIdeal m →
    θ_run (Cert.ProjaIdeal.defs (F := Ideal)) (onTc (τ := Cert.ProjaIdeal.τ) (Cert.ProjaIdeal.main (F := Ideal))) ⟨m, fun _ => 0, g⟩ (fun r => (∀ c : Dev Cert.ProjaIdeal.nD,
      r.2.mem ((c.tc : Thread Cert.ProjaIdeal.nD Cert.ProjaIdeal.τ).loc Cert.ProjaIdeal.main_arg0) = m ((c.tc : Thread Cert.ProjaIdeal.nD Cert.ProjaIdeal.τ).loc Cert.ProjaIdeal.main_arg0)
      ∧ r.2.mem ((c.tc : Thread Cert.ProjaIdeal.nD Cert.ProjaIdeal.τ).loc Cert.ProjaIdeal.main_arg1) = m ((c.tc : Thread Cert.ProjaIdeal.nD Cert.ProjaIdeal.τ).loc Cert.ProjaIdeal.main_arg1))
      ∧ r.2.sem = fun _ => 0)

def quiescent_ProjaRefIdeal [hProjaRefIdeal : Cert.ProjaRefIdeal.Facts] : Prop :=
  ∀ (m : (ℓ : Loc Cert.ProjaRefIdeal.nD Cert.ProjaRefIdeal.τ Cert.ProjaRefIdeal.sig) → Buf (Elt Ideal) ℓ) (g : Dev Cert.ProjaRefIdeal.nD → PrngReg), Pre_ProjaRefIdeal m →
    θ_run (Cert.ProjaRefIdeal.defs (F := Ideal)) (onTc (τ := Cert.ProjaRefIdeal.τ) (Cert.ProjaRefIdeal.main (F := Ideal))) ⟨m, fun _ => 0, g⟩ (fun r => (∀ c : Dev Cert.ProjaRefIdeal.nD,
      r.2.mem ((c.tc : Thread Cert.ProjaRefIdeal.nD Cert.ProjaRefIdeal.τ).loc Cert.ProjaRefIdeal.main_arg0) = m ((c.tc : Thread Cert.ProjaRefIdeal.nD Cert.ProjaRefIdeal.τ).loc Cert.ProjaRefIdeal.main_arg0)
      ∧ r.2.mem ((c.tc : Thread Cert.ProjaRefIdeal.nD Cert.ProjaRefIdeal.τ).loc Cert.ProjaRefIdeal.main_arg1) = m ((c.tc : Thread Cert.ProjaRefIdeal.nD Cert.ProjaRefIdeal.τ).loc Cert.ProjaRefIdeal.main_arg1))
      ∧ r.2.sem = fun _ => 0)

def quiescent_Projc [hProjc : Cert.Projc.Facts] : Prop :=
  ∀ (m : (ℓ : Loc Cert.Projc.nD Cert.Projc.τ Cert.Projc.sig) → Buf (Elt Bits) ℓ) (g : Dev Cert.Projc.nD → PrngReg), Pre_Projc m →
    θ_run (Cert.Projc.defs (F := Bits)) (onTc (τ := Cert.Projc.τ) (Cert.Projc.main (F := Bits))) ⟨m, fun _ => 0, g⟩ (fun r => (∀ c : Dev Cert.Projc.nD,
      r.2.mem ((c.tc : Thread Cert.Projc.nD Cert.Projc.τ).loc Cert.Projc.main_arg0) = m ((c.tc : Thread Cert.Projc.nD Cert.Projc.τ).loc Cert.Projc.main_arg0)
      ∧ r.2.mem ((c.tc : Thread Cert.Projc.nD Cert.Projc.τ).loc Cert.Projc.main_arg1) = m ((c.tc : Thread Cert.Projc.nD Cert.Projc.τ).loc Cert.Projc.main_arg1))
      ∧ r.2.sem = fun _ => 0)

def quiescent_ProjcIdeal [hProjcIdeal : Cert.ProjcIdeal.Facts] : Prop :=
  ∀ (m : (ℓ : Loc Cert.ProjcIdeal.nD Cert.ProjcIdeal.τ Cert.ProjcIdeal.sig) → Buf (Elt Ideal) ℓ) (g : Dev Cert.ProjcIdeal.nD → PrngReg), Pre_ProjcIdeal m →
    θ_run (Cert.ProjcIdeal.defs (F := Ideal)) (onTc (τ := Cert.ProjcIdeal.τ) (Cert.ProjcIdeal.main (F := Ideal))) ⟨m, fun _ => 0, g⟩ (fun r => (∀ c : Dev Cert.ProjcIdeal.nD,
      r.2.mem ((c.tc : Thread Cert.ProjcIdeal.nD Cert.ProjcIdeal.τ).loc Cert.ProjcIdeal.main_arg0) = m ((c.tc : Thread Cert.ProjcIdeal.nD Cert.ProjcIdeal.τ).loc Cert.ProjcIdeal.main_arg0)
      ∧ r.2.mem ((c.tc : Thread Cert.ProjcIdeal.nD Cert.ProjcIdeal.τ).loc Cert.ProjcIdeal.main_arg1) = m ((c.tc : Thread Cert.ProjcIdeal.nD Cert.ProjcIdeal.τ).loc Cert.ProjcIdeal.main_arg1))
      ∧ r.2.sem = fun _ => 0)

def quiescent_ProjcRefIdeal [hProjcRefIdeal : Cert.ProjcRefIdeal.Facts] : Prop :=
  ∀ (m : (ℓ : Loc Cert.ProjcRefIdeal.nD Cert.ProjcRefIdeal.τ Cert.ProjcRefIdeal.sig) → Buf (Elt Ideal) ℓ) (g : Dev Cert.ProjcRefIdeal.nD → PrngReg), Pre_ProjcRefIdeal m →
    θ_run (Cert.ProjcRefIdeal.defs (F := Ideal)) (onTc (τ := Cert.ProjcRefIdeal.τ) (Cert.ProjcRefIdeal.main (F := Ideal))) ⟨m, fun _ => 0, g⟩ (fun r => (∀ c : Dev Cert.ProjcRefIdeal.nD,
      r.2.mem ((c.tc : Thread Cert.ProjcRefIdeal.nD Cert.ProjcRefIdeal.τ).loc Cert.ProjcRefIdeal.main_arg0) = m ((c.tc : Thread Cert.ProjcRefIdeal.nD Cert.ProjcRefIdeal.τ).loc Cert.ProjcRefIdeal.main_arg0)
      ∧ r.2.mem ((c.tc : Thread Cert.ProjcRefIdeal.nD Cert.ProjcRefIdeal.τ).loc Cert.ProjcRefIdeal.main_arg1) = m ((c.tc : Thread Cert.ProjcRefIdeal.nD Cert.ProjcRefIdeal.τ).loc Cert.ProjcRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite_qk [hSbIdeal : Cert.SbIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_qk m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v6)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v6) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v94) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v15) = v0 c
          ∧ r.2.mem ((c.tc : Thread Cert.DownRefIdeal.nD Cert.DownRefIdeal.τ).loc Cert.DownRefIdeal.main_v29) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)) →
    ∃ (v0 : (c : Dev Cert.OutpIdeal.nD) → Buf (Elt Ideal) ((c.tc : Thread Cert.OutpIdeal.nD Cert.OutpIdeal.τ).loc Cert.OutpIdeal.main_v3_0)) (v1 : (c : Dev Cert.OutpIdeal.nD) → Buf (Elt Ideal) ((c.tc : Thread Cert.OutpIdeal.nD Cert.OutpIdeal.τ).loc Cert.OutpIdeal.main_v3_1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v3_0) = v0 c
          ∧ r.2.mem ((c.tc : Thread Cert.OutpIdeal.nD Cert.OutpIdeal.τ).loc Cert.OutpIdeal.main_v3_1) = v1 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v15) = v0 c
          ∧ r.2.mem ((c.tc : Thread Cert.OutpRefIdeal.nD Cert.OutpRefIdeal.τ).loc Cert.OutpRefIdeal.main_v29) = v1 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v5_0)) (v1 : (c : Dev Cert.PleIdeal.nD) → Buf (Elt Ideal) ((c.tc : Thread Cert.PleIdeal.nD Cert.PleIdeal.τ).loc Cert.PleIdeal.main_v5_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5_0) = v0 c
          ∧ r.2.mem ((c.tc : Thread Cert.PleIdeal.nD Cert.PleIdeal.τ).loc Cert.PleIdeal.main_v5_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v23) = v0 c
          ∧ r.2.mem ((c.tc : Thread Cert.PleRefIdeal.nD Cert.PleRefIdeal.τ).loc Cert.PleRefIdeal.main_v37) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v19)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v19) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v59) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_Proja_ProjaIdeal : Prop :=
  True

def algebraic_ProjaIdeal_ProjaRefIdeal [hProjaIdeal : Cert.ProjaIdeal.Facts] [hProjaRefIdeal : Cert.ProjaRefIdeal.Facts] : Prop :=
  ∀ (m : (ℓ : Loc Cert.ProjaIdeal.nD Cert.ProjaIdeal.τ Cert.ProjaIdeal.sig) → Buf (Elt Ideal) ℓ) (g : Dev Cert.ProjaIdeal.nD → PrngReg)
    (m' : (ℓ : Loc Cert.ProjaRefIdeal.nD Cert.ProjaRefIdeal.τ Cert.ProjaRefIdeal.sig) → Buf (Elt Ideal) ℓ) (g' : Dev Cert.ProjaRefIdeal.nD → PrngReg), Pre_ProjaIdeal m →
    (∀ c : Dev Cert.ProjaIdeal.nD,
      m' ((c.tc : Thread Cert.ProjaRefIdeal.nD Cert.ProjaRefIdeal.τ).loc Cert.ProjaRefIdeal.main_arg0) = m ((c.tc : Thread Cert.ProjaIdeal.nD Cert.ProjaIdeal.τ).loc Cert.ProjaIdeal.main_arg0)
      ∧ m' ((c.tc : Thread Cert.ProjaRefIdeal.nD Cert.ProjaRefIdeal.τ).loc Cert.ProjaRefIdeal.main_arg1) = m ((c.tc : Thread Cert.ProjaIdeal.nD Cert.ProjaIdeal.τ).loc Cert.ProjaIdeal.main_arg1)) →
    ∃ (v0 : (c : Dev Cert.ProjaIdeal.nD) → Buf (Elt Ideal) ((c.tc : Thread Cert.ProjaIdeal.nD Cert.ProjaIdeal.τ).loc Cert.ProjaIdeal.main_v2)),
      θ_run (Cert.ProjaIdeal.defs (F := Ideal)) (onTc (τ := Cert.ProjaIdeal.τ) (Cert.ProjaIdeal.main (F := Ideal))) ⟨m, fun _ => 0, g⟩ (fun r => ∀ c : Dev Cert.ProjaIdeal.nD,
          r.2.mem ((c.tc : Thread Cert.ProjaIdeal.nD Cert.ProjaIdeal.τ).loc Cert.ProjaIdeal.main_v2) = v0 c
          ∧ r.2.mem ((c.tc : Thread Cert.ProjaIdeal.nD Cert.ProjaIdeal.τ).loc Cert.ProjaIdeal.main_arg0) = m ((c.tc : Thread Cert.ProjaIdeal.nD Cert.ProjaIdeal.τ).loc Cert.ProjaIdeal.main_arg0)
          ∧ r.2.mem ((c.tc : Thread Cert.ProjaIdeal.nD Cert.ProjaIdeal.τ).loc Cert.ProjaIdeal.main_arg1) = m ((c.tc : Thread Cert.ProjaIdeal.nD Cert.ProjaIdeal.τ).loc Cert.ProjaIdeal.main_arg1))
      ∧ θ_run (Cert.ProjaRefIdeal.defs (F := Ideal)) (onTc (τ := Cert.ProjaRefIdeal.τ) (Cert.ProjaRefIdeal.main (F := Ideal))) ⟨m', fun _ => 0, g'⟩ (fun r => ∀ c : Dev Cert.ProjaRefIdeal.nD,
          r.2.mem ((c.tc : Thread Cert.ProjaRefIdeal.nD Cert.ProjaRefIdeal.τ).loc Cert.ProjaRefIdeal.main_v2) = v0 c
          ∧ r.2.mem ((c.tc : Thread Cert.ProjaRefIdeal.nD Cert.ProjaRefIdeal.τ).loc Cert.ProjaRefIdeal.main_arg0) = m' ((c.tc : Thread Cert.ProjaRefIdeal.nD Cert.ProjaRefIdeal.τ).loc Cert.ProjaRefIdeal.main_arg0)
          ∧ r.2.mem ((c.tc : Thread Cert.ProjaRefIdeal.nD Cert.ProjaRefIdeal.τ).loc Cert.ProjaRefIdeal.main_arg1) = m' ((c.tc : Thread Cert.ProjaRefIdeal.nD Cert.ProjaRefIdeal.τ).loc Cert.ProjaRefIdeal.main_arg1))

def preserves_Projc_ProjcIdeal : Prop :=
  True

def algebraic_ProjcIdeal_ProjcRefIdeal [hProjcIdeal : Cert.ProjcIdeal.Facts] [hProjcRefIdeal : Cert.ProjcRefIdeal.Facts] : Prop :=
  ∀ (m : (ℓ : Loc Cert.ProjcIdeal.nD Cert.ProjcIdeal.τ Cert.ProjcIdeal.sig) → Buf (Elt Ideal) ℓ) (g : Dev Cert.ProjcIdeal.nD → PrngReg)
    (m' : (ℓ : Loc Cert.ProjcRefIdeal.nD Cert.ProjcRefIdeal.τ Cert.ProjcRefIdeal.sig) → Buf (Elt Ideal) ℓ) (g' : Dev Cert.ProjcRefIdeal.nD → PrngReg), Pre_ProjcIdeal m →
    (∀ c : Dev Cert.ProjcIdeal.nD,
      m' ((c.tc : Thread Cert.ProjcRefIdeal.nD Cert.ProjcRefIdeal.τ).loc Cert.ProjcRefIdeal.main_arg0) = m ((c.tc : Thread Cert.ProjcIdeal.nD Cert.ProjcIdeal.τ).loc Cert.ProjcIdeal.main_arg0)
      ∧ m' ((c.tc : Thread Cert.ProjcRefIdeal.nD Cert.ProjcRefIdeal.τ).loc Cert.ProjcRefIdeal.main_arg1) = m ((c.tc : Thread Cert.ProjcIdeal.nD Cert.ProjcIdeal.τ).loc Cert.ProjcIdeal.main_arg1)) →
    ∃ (v0 : (c : Dev Cert.ProjcIdeal.nD) → Buf (Elt Ideal) ((c.tc : Thread Cert.ProjcIdeal.nD Cert.ProjcIdeal.τ).loc Cert.ProjcIdeal.main_v2)),
      θ_run (Cert.ProjcIdeal.defs (F := Ideal)) (onTc (τ := Cert.ProjcIdeal.τ) (Cert.ProjcIdeal.main (F := Ideal))) ⟨m, fun _ => 0, g⟩ (fun r => ∀ c : Dev Cert.ProjcIdeal.nD,
          r.2.mem ((c.tc : Thread Cert.ProjcIdeal.nD Cert.ProjcIdeal.τ).loc Cert.ProjcIdeal.main_v2) = v0 c
          ∧ r.2.mem ((c.tc : Thread Cert.ProjcIdeal.nD Cert.ProjcIdeal.τ).loc Cert.ProjcIdeal.main_arg0) = m ((c.tc : Thread Cert.ProjcIdeal.nD Cert.ProjcIdeal.τ).loc Cert.ProjcIdeal.main_arg0)
          ∧ r.2.mem ((c.tc : Thread Cert.ProjcIdeal.nD Cert.ProjcIdeal.τ).loc Cert.ProjcIdeal.main_arg1) = m ((c.tc : Thread Cert.ProjcIdeal.nD Cert.ProjcIdeal.τ).loc Cert.ProjcIdeal.main_arg1))
      ∧ θ_run (Cert.ProjcRefIdeal.defs (F := Ideal)) (onTc (τ := Cert.ProjcRefIdeal.τ) (Cert.ProjcRefIdeal.main (F := Ideal))) ⟨m', fun _ => 0, g'⟩ (fun r => ∀ c : Dev Cert.ProjcRefIdeal.nD,
          r.2.mem ((c.tc : Thread Cert.ProjcRefIdeal.nD Cert.ProjcRefIdeal.τ).loc Cert.ProjcRefIdeal.main_v3) = v0 c
          ∧ r.2.mem ((c.tc : Thread Cert.ProjcRefIdeal.nD Cert.ProjcRefIdeal.τ).loc Cert.ProjcRefIdeal.main_arg0) = m' ((c.tc : Thread Cert.ProjcRefIdeal.nD Cert.ProjcRefIdeal.τ).loc Cert.ProjcRefIdeal.main_arg0)
          ∧ r.2.mem ((c.tc : Thread Cert.ProjcRefIdeal.nD Cert.ProjcRefIdeal.τ).loc Cert.ProjcRefIdeal.main_arg1) = m' ((c.tc : Thread Cert.ProjcRefIdeal.nD Cert.ProjcRefIdeal.τ).loc Cert.ProjcRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Sb_SbIdeal : Prop :=
  True

def algebraic_SbIdeal_SbRefIdeal_pre_finite_qk [hSbIdeal : Cert.SbIdeal.Facts] [hSbRefIdeal : Cert.SbRefIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_qk m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v33) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)) →
    ∃ (v0 : (c : Dev Cert.PrepIdeal.nD) → Buf (Elt Ideal) ((c.tc : Thread Cert.PrepIdeal.nD Cert.PrepIdeal.τ).loc Cert.PrepIdeal.main_v17_0)) (v1 : (c : Dev Cert.PrepIdeal.nD) → Buf (Elt Ideal) ((c.tc : Thread Cert.PrepIdeal.nD Cert.PrepIdeal.τ).loc Cert.PrepIdeal.main_v17_1)) (v2 : (c : Dev Cert.PrepIdeal.nD) → Buf (Elt Ideal) ((c.tc : Thread Cert.PrepIdeal.nD Cert.PrepIdeal.τ).loc Cert.PrepIdeal.main_v17_2)) (v3 : (c : Dev Cert.PrepIdeal.nD) → Buf (Elt Ideal) ((c.tc : Thread Cert.PrepIdeal.nD Cert.PrepIdeal.τ).loc Cert.PrepIdeal.main_v17_3)) (v4 : (c : Dev Cert.PrepIdeal.nD) → Buf (Elt Ideal) ((c.tc : Thread Cert.PrepIdeal.nD Cert.PrepIdeal.τ).loc Cert.PrepIdeal.main_v17_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v17_0) = v0 c
          ∧ r.2.mem ((c.tc : Thread Cert.PrepIdeal.nD Cert.PrepIdeal.τ).loc Cert.PrepIdeal.main_v17_1) = v1 c
          ∧ r.2.mem ((c.tc : Thread Cert.PrepIdeal.nD Cert.PrepIdeal.τ).loc Cert.PrepIdeal.main_v17_2) = v2 c
          ∧ r.2.mem ((c.tc : Thread Cert.PrepIdeal.nD Cert.PrepIdeal.τ).loc Cert.PrepIdeal.main_v17_3) = v3 c
          ∧ r.2.mem ((c.tc : Thread Cert.PrepIdeal.nD Cert.PrepIdeal.τ).loc Cert.PrepIdeal.main_v17_6) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v53) = v0 c
          ∧ r.2.mem ((c.tc : Thread Cert.PrepRefIdeal.nD Cert.PrepRefIdeal.τ).loc Cert.PrepRefIdeal.main_v54) = v1 c
          ∧ r.2.mem ((c.tc : Thread Cert.PrepRefIdeal.nD Cert.PrepRefIdeal.τ).loc Cert.PrepRefIdeal.main_v14) = v2 c
          ∧ r.2.mem ((c.tc : Thread Cert.PrepRefIdeal.nD Cert.PrepRefIdeal.τ).loc Cert.PrepRefIdeal.main_v56) = v3 c
          ∧ r.2.mem ((c.tc : Thread Cert.PrepRefIdeal.nD Cert.PrepRefIdeal.τ).loc Cert.PrepRefIdeal.main_v57) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10))

def Claim : Prop :=
  ∃ (hLru : Cert.Lru.Facts) (hLruIdeal : Cert.LruIdeal.Facts) (hLruRefIdeal : Cert.LruRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hDown : Cert.Down.Facts) (hDownIdeal : Cert.DownIdeal.Facts) (hDownRefIdeal : Cert.DownRefIdeal.Facts) (hOutp : Cert.Outp.Facts) (hOutpIdeal : Cert.OutpIdeal.Facts) (hOutpRefIdeal : Cert.OutpRefIdeal.Facts) (hPle : Cert.Ple.Facts) (hPleIdeal : Cert.PleIdeal.Facts) (hPleRefIdeal : Cert.PleRefIdeal.Facts) (hRope : Cert.Rope.Facts) (hRopeIdeal : Cert.RopeIdeal.Facts) (hRopeRefIdeal : Cert.RopeRefIdeal.Facts) (hProja : Cert.Proja.Facts) (hProjaIdeal : Cert.ProjaIdeal.Facts) (hProjaRefIdeal : Cert.ProjaRefIdeal.Facts) (hProjc : Cert.Projc.Facts) (hProjcIdeal : Cert.ProjcIdeal.Facts) (hProjcRefIdeal : Cert.ProjcRefIdeal.Facts) (hNorm : Cert.Norm.Facts) (hNormIdeal : Cert.NormIdeal.Facts) (hNormRefIdeal : Cert.NormRefIdeal.Facts) (hSb : Cert.Sb.Facts) (hSbIdeal : Cert.SbIdeal.Facts) (hSbRefIdeal : Cert.SbRefIdeal.Facts) (hPrep : Cert.Prep.Facts) (hPrepIdeal : Cert.PrepIdeal.Facts) (hPrepRefIdeal : Cert.PrepRefIdeal.Facts) (hPre_finite_qk : Cert.Pre_finite_qk.Facts),
    quiescent_Lru (hLru := hLru)
    ∧ quiescent_LruIdeal (hLruIdeal := hLruIdeal)
    ∧ quiescent_LruRefIdeal (hLruRefIdeal := hLruRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Down (hDown := hDown)
    ∧ quiescent_DownIdeal (hDownIdeal := hDownIdeal)
    ∧ quiescent_DownRefIdeal (hDownRefIdeal := hDownRefIdeal)
    ∧ quiescent_Outp (hOutp := hOutp)
    ∧ quiescent_OutpIdeal (hOutpIdeal := hOutpIdeal)
    ∧ quiescent_OutpRefIdeal (hOutpRefIdeal := hOutpRefIdeal)
    ∧ quiescent_Ple (hPle := hPle)
    ∧ quiescent_PleIdeal (hPleIdeal := hPleIdeal)
    ∧ quiescent_PleRefIdeal (hPleRefIdeal := hPleRefIdeal)
    ∧ quiescent_Rope (hRope := hRope)
    ∧ quiescent_RopeIdeal (hRopeIdeal := hRopeIdeal)
    ∧ quiescent_RopeRefIdeal (hRopeRefIdeal := hRopeRefIdeal)
    ∧ quiescent_Proja (hProja := hProja)
    ∧ quiescent_ProjaIdeal (hProjaIdeal := hProjaIdeal)
    ∧ quiescent_ProjaRefIdeal (hProjaRefIdeal := hProjaRefIdeal)
    ∧ quiescent_Projc (hProjc := hProjc)
    ∧ quiescent_ProjcIdeal (hProjcIdeal := hProjcIdeal)
    ∧ quiescent_ProjcRefIdeal (hProjcRefIdeal := hProjcRefIdeal)
    ∧ quiescent_Norm (hNorm := hNorm)
    ∧ quiescent_NormIdeal (hNormIdeal := hNormIdeal)
    ∧ quiescent_NormRefIdeal (hNormRefIdeal := hNormRefIdeal)
    ∧ quiescent_Sb (hSb := hSb)
    ∧ quiescent_SbIdeal (hSbIdeal := hSbIdeal)
    ∧ quiescent_SbIdeal_pre_finite_qk (hSbIdeal := hSbIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ quiescent_Prep (hPrep := hPrep)
    ∧ quiescent_PrepIdeal (hPrepIdeal := hPrepIdeal)
    ∧ quiescent_PrepRefIdeal (hPrepRefIdeal := hPrepRefIdeal)
    ∧ preserves_Lru_LruIdeal
    ∧ algebraic_LruIdeal_LruRefIdeal (hLruIdeal := hLruIdeal) (hLruRefIdeal := hLruRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Down_DownIdeal
    ∧ algebraic_DownIdeal_DownRefIdeal (hDownIdeal := hDownIdeal) (hDownRefIdeal := hDownRefIdeal)
    ∧ preserves_Outp_OutpIdeal
    ∧ algebraic_OutpIdeal_OutpRefIdeal (hOutpIdeal := hOutpIdeal) (hOutpRefIdeal := hOutpRefIdeal)
    ∧ preserves_Ple_PleIdeal
    ∧ algebraic_PleIdeal_PleRefIdeal (hPleIdeal := hPleIdeal) (hPleRefIdeal := hPleRefIdeal)
    ∧ preserves_Rope_RopeIdeal
    ∧ algebraic_RopeIdeal_RopeRefIdeal (hRopeIdeal := hRopeIdeal) (hRopeRefIdeal := hRopeRefIdeal)
    ∧ preserves_Proja_ProjaIdeal
    ∧ algebraic_ProjaIdeal_ProjaRefIdeal (hProjaIdeal := hProjaIdeal) (hProjaRefIdeal := hProjaRefIdeal)
    ∧ preserves_Projc_ProjcIdeal
    ∧ algebraic_ProjcIdeal_ProjcRefIdeal (hProjcIdeal := hProjcIdeal) (hProjcRefIdeal := hProjcRefIdeal)
    ∧ preserves_Norm_NormIdeal
    ∧ algebraic_NormIdeal_NormRefIdeal (hNormIdeal := hNormIdeal) (hNormRefIdeal := hNormRefIdeal)
    ∧ preserves_Sb_SbIdeal
    ∧ algebraic_SbIdeal_SbRefIdeal_pre_finite_qk (hSbIdeal := hSbIdeal) (hSbRefIdeal := hSbRefIdeal) (hPre_finite_qk := hPre_finite_qk)
    ∧ preserves_Prep_PrepIdeal
    ∧ algebraic_PrepIdeal_PrepRefIdeal (hPrepIdeal := hPrepIdeal) (hPrepRefIdeal := hPrepRefIdeal)
-- ==== Pre_finite_qk.lean ====
abbrev S16384x3072 : Shape := ⟨2, ![16384, 3072]⟩
abbrev S16384x2048 : Shape := ⟨2, ![16384, 2048]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x3072 .bf16) : IVec S_ 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  main_v5
-- ==== Lru.lean ====
abbrev S8x2048x2048 : Shape := ⟨3, ![8, 2048, 2048]⟩
abbrev S4x1024 : Shape := ⟨2, ![4, 1024]⟩
abbrev S1024 : Shape := ⟨1, ![1024]⟩
abbrev S8x128x128 : Shape := ⟨3, ![8, 128, 128]⟩
abbrev S1x1024 : Shape := ⟨2, ![1, 1024]⟩
abbrev S8x2048x1024 : Shape := ⟨3, ![8, 2048, 1024]⟩
abbrev S1x2048x128 : Shape := ⟨3, ![1, 2048, 128]⟩
abbrev S4x128 : Shape := ⟨2, ![4, 128]⟩
abbrev S1x128 : Shape := ⟨2, ![1, 128]⟩
abbrev S1x128x128 : Shape := ⟨3, ![1, 128, 128]⟩
abbrev S2056x128 : Shape := ⟨2, ![2056, 128]⟩
abbrev S4096x128 : Shape := ⟨2, ![4096, 128]⟩
abbrev S8x128 : Shape := ⟨2, ![8, 128]⟩
abbrev S2048x128 : Shape := ⟨2, ![2048, 128]⟩
abbrev S128x128 : Shape := ⟨2, ![128, 128]⟩

abbrev nBuf : Space → Nat
  | .hbm => 15
  | .vmem => 25
  | .smem => 0
  | _ => 0

abbrev bufTy : (tb : Table) → Fin (tcTables nBuf tb) → BufTy
  | .hbm, ⟨0, _⟩ => ⟨S8x2048x2048, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S8x128x128, .bf16⟩
  | .hbm, ⟨9, _⟩ => ⟨S8x128x128, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .bf16⟩
  | .local _ .vmem, ⟨9, _⟩ => ⟨S1x128x128, .bf16⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x2048x128, .bf16⟩
  | .local _ .vmem, ⟨19, _⟩ => ⟨S1x2048x128, .bf16⟩
  | .local _ .vmem, ⟨20, _⟩ => ⟨S2056x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LruRefIdeal.lean ====
abbrev S8x2048x2048 : Shape := ⟨3, ![8, 2048, 2048]⟩
abbrev S4x1024 : Shape := ⟨2, ![4, 1024]⟩
abbrev S1024 : Shape := ⟨1, ![1024]⟩
abbrev S8x128x128 : Shape := ⟨3, ![8, 128, 128]⟩
abbrev S8x2048x1024 : Shape := ⟨3, ![8, 2048, 1024]⟩
abbrev S_ : Shape := ⟨0, ![]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x8x128 : Shape := ⟨4, ![8, 2048, 8, 128]⟩
abbrev S8x128x8x2048 : Shape := ⟨4, ![8, 128, 8, 2048]⟩
abbrev S8x1024 : Shape := ⟨2, ![8, 1024]⟩
abbrev S2048x8x1024 : Shape := ⟨3, ![2048, 8, 1024]⟩
abbrev S1x8x1024 : Shape := ⟨3, ![1, 8, 1024]⟩

abbrev nBuf : Space → Nat
  | .hbm => 154
  | .vmem => 0
  | .smem => 0
  | _ => 0

abbrev hbmTy0_0 (i : Nat) : BufTy := match i % 128 with
  | 0 => ⟨S8x2048x2048, .f32⟩
  | 1 => ⟨S4x1024, .f32⟩
  | 2 => ⟨S1024, .f32⟩
  | 3 => ⟨S8x128x128, .f32⟩
  | 4 => ⟨S1024, .f32⟩
  | 5 => ⟨S8x128x128, .f32⟩
  | 6 => ⟨S1024, .f32⟩
  | 7 => ⟨S1024, .f32⟩
  | 8 => ⟨S8x2048x1024, .f32⟩
  | 9 => ⟨S_, .i32⟩
  | 10 => ⟨S_, .f32⟩
  | 11 => ⟨S8x2051x1024, .f32⟩
  | 12 => ⟨S1x1024, .f32⟩
  | 13 => ⟨S1024, .f32⟩
  | 14 => ⟨S8x2048x1024, .f32⟩
  | 15 => ⟨S1x1x1024, .f32⟩
  | 16 => ⟨S8x2048x1024, .f32⟩
  | 17 => ⟨S8x2048x1024, .f32⟩
  | 18 => ⟨S1x1024, .f32⟩
  | 19 => ⟨S1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x2048x1024, .f32⟩
  | 25 => ⟨S1x1024, .f32⟩
  | 26 => ⟨S1024, .f32⟩
  | 27 => ⟨S8x2048x1024, .f32⟩
  | 28 => ⟨S1x1x1024, .f32⟩
  | 29 => ⟨S8x2048x1024, .f32⟩
  | 30 => ⟨S8x2048x1024, .f32⟩
  | 31 => ⟨S8x2048x1024, .f32⟩
  | 32 => ⟨S1x1024, .f32⟩
  | 33 => ⟨S1024, .f32⟩
  | 34 => ⟨S8x2048x1024, .f32⟩
  | 35 => ⟨S1x1x1024, .f32⟩
  | 36 => ⟨S8x2048x1024, .f32⟩
  | 37 => ⟨S8x2048x1024, .f32⟩
  | 38 => ⟨S8x2048x1024, .f32⟩
  | 39 => ⟨S1x1x1024, .f32⟩
  | 40 => ⟨S8x2048x1024, .f32⟩
  | 41 => ⟨S8x2048x1024, .f32⟩
  | 42 => ⟨S8x2048x8x128, .f32⟩
  | 43 => ⟨S8x128x8x2048, .f32⟩
  | 44 => ⟨S8x2048x8x128, .f32⟩
  | 45 => ⟨S8x2048x1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S8x128x8x2048, .f32⟩
  | 58 => ⟨S8x2048x8x128, .f32⟩
  | 59 => ⟨S8x2048x1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S_, .f32⟩
  | 66 => ⟨S8x2048x1024, .f32⟩
  | 67 => ⟨S8x2048x1024, .f32⟩
  | 68 => ⟨S_, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S1024, .f32⟩
  | 80 => ⟨S1024, .i1⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1x1x1024, .f32⟩
  | 90 => ⟨S8x2048x1024, .f32⟩
  | 91 => ⟨S8x2048x1024, .f32⟩
  | 92 => ⟨S8x2048x1024, .f32⟩
  | 93 => ⟨S_, .f32⟩
  | 94 => ⟨S8x2048x1024, .f32⟩
  | 95 => ⟨S8x2048x1024, .f32⟩
  | 96 => ⟨S8x2048x1024, .f32⟩
  | 97 => ⟨S_, .f32⟩
  | 98 => ⟨S8x2048x1024, .f32⟩
  | 99 => ⟨S8x2048x1024, .f32⟩
  | 100 => ⟨S8x2048x1024, .f32⟩
  | 101 => ⟨S8x2048x1024, .f32⟩
  | 102 => ⟨S8x2048x1024, .f32⟩
  | 103 => ⟨S_, .f32⟩
  | 104 => ⟨S8x1024, .f32⟩
  | 105 => ⟨S2048x8x1024, .f32⟩
  | 106 => ⟨S2048x8x1024, .f32⟩
  | 107 => ⟨S_, .f32⟩
  | 108 => ⟨S2048x8x1024, .f32⟩
  | 109 => ⟨S_, .i32⟩
  | 110 => ⟨S2048x8x1024, .f32⟩
  | 111 => ⟨S2048x8x1024, .f32⟩
  | 112 => ⟨S_, .i32⟩
  | 113 => ⟨S8x1024, .f32⟩
  | 114 => ⟨S2048x8x1024, .f32⟩
  | 115 => ⟨S_, .i32⟩
  | 116 => ⟨S_, .i1⟩
  | 117 => ⟨S_, .i32⟩
  | 118 => ⟨S_, .i32⟩
  | 119 => ⟨S1x8x1024, .f32⟩
  | 120 => ⟨S8x1024, .f32⟩
  | 121 => ⟨S_, .i32⟩
  | 122 => ⟨S_, .i32⟩
  | 123 => ⟨S1x8x1024, .f32⟩
  | 124 => ⟨S8x1024, .f32⟩
  | 125 => ⟨S8x1024, .f32⟩
  | 126 => ⟨S8x1024, .f32⟩
  | 127 => ⟨S1x8x1024, .f32⟩
  | _ => ⟨S8x2048x2048, .f32⟩

abbrev hbmTy0_1 (i : Nat) : BufTy := match i % 128 with
  | 0 => ⟨S_, .i32⟩
  | 1 => ⟨S_, .i32⟩
  | 2 => ⟨S2048x8x1024, .f32⟩
  | 3 => ⟨S_, .i32⟩
  | 4 => ⟨S_, .i32⟩
  | 5 => ⟨S8x2048x1024, .f32⟩
  | 6 => ⟨S8x2048x1024, .f32⟩
  | 7 => ⟨S8x2048x1024, .f32⟩
  | 8 => ⟨S8x2048x1024, .f32⟩
  | 9 => ⟨S_, .f32⟩
  | 10 => ⟨S8x2048x1024, .f32⟩
  | 11 => ⟨S8x2048x1024, .f32⟩
  | 12 => ⟨S8x2048x1024, .f32⟩
  | 13 => ⟨S_, .f32⟩
  | 14 => ⟨S8x2048x1024, .f32⟩
  | 15 => ⟨S8x2048x1024, .f32⟩
  | 16 => ⟨S8x2048x1024, .f32⟩
  | 17 => ⟨S_, .f32⟩
  | 18 => ⟨S8x2048x1024, .f32⟩
  | 19 => ⟨S8x2048x1024, .f32⟩
  | 20 => ⟨S_, .f32⟩
  | 21 => ⟨S8x2048x1024, .f32⟩
  | 22 => ⟨S8x2048x1024, .f32⟩
  | 23 => ⟨S8x2048x1024, .f32⟩
  | 24 => ⟨S8x2048x1024, .f32⟩
  | 25 => ⟨S8x2048x1024, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_5 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_6 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_7 : Ref sig .tc := ⟨.hbm, 107, rfl⟩
abbrev main_v76 : Ref sig .tc := ⟨.hbm, 108, rfl⟩
abbrev main_c_8 : Ref sig .tc := ⟨.hbm, 109, rfl⟩
abbrev main_v77_0 : Ref sig .tc := ⟨.hbm, 110, rfl⟩
abbrev main_v77_1 : Ref sig .tc := ⟨.hbm, 111, rfl⟩
abbrev main_v77_2 : Ref sig .tc := ⟨.hbm, 112, rfl⟩
abbrev main_v77_3 : Ref sig .tc := ⟨.hbm, 113, rfl⟩
abbrev main_v77_4 : Ref sig .tc := ⟨.hbm, 114, rfl⟩
abbrev main_while0c_c_17 : Ref sig .tc := ⟨.hbm, 115, rfl⟩
abbrev main_while0c_v95 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_v0 : Ref sig .tc := ⟨.hbm, 119, rfl⟩
abbrev main_while0b_v95 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_v0 : Ref sig .tc := ⟨.hbm, 123, rfl⟩
abbrev main_while0b_v96 : Ref sig .tc := ⟨.hbm, 124, rfl⟩
abbrev main_while0b_v97 : Ref sig .tc := ⟨.hbm, 125, rfl⟩
abbrev main_while0b_v98 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_v99 : Ref sig .tc := ⟨.hbm, 130, rfl⟩
abbrev main_while0b_c_17 : Ref sig .tc := ⟨.hbm, 131, rfl⟩
abbrev main_while0b_v100 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_9 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_10 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_11 : Ref sig .tc := ⟨.hbm, 145, rfl⟩
abbrev main_v88 : Ref sig .tc := ⟨.hbm, 146, rfl⟩
abbrev main_v89 : Ref sig .tc := ⟨.hbm, 147, rfl⟩
abbrev main_cst_12 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩

abbrev nD : Nat := 1
abbrev τ : Topo := Topo.v7x

variable {F : FTy → Type} [FloatOps F]

abbrev main_while0_count : Scf.Loop 32 := ⟨0#32, 2048#32, 1#32⟩
-- ==== Merge.lean ====
abbrev S16384x2048 : Shape := ⟨2, ![16384, 2048]⟩
abbrev S16384x1024 : Shape := ⟨2, ![16384, 1024]⟩
abbrev S16384x512 : Shape := ⟨2, ![16384, 512]⟩
abbrev S2048x8192 : Shape := ⟨2, ![2048, 8192]⟩
abbrev S1024x2048 : Shape := ⟨2, ![1024, 2048]⟩
abbrev S512x2048 : Shape := ⟨2, ![512, 2048]⟩
abbrev S1024x1024 : Shape := ⟨2, ![1024, 1024]⟩
abbrev S1024x512 : Shape := ⟨2, ![1024, 512]⟩
abbrev S2048x256 : Shape := ⟨2, ![2048, 256]⟩
abbrev S1024x256 : Shape := ⟨2, ![1024, 256]⟩
abbrev S512x256 : Shape := ⟨2, ![512, 256]⟩

abbrev nBuf : Space → Nat
  | .hbm => 16
  | .vmem => 28
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S2048x8192, .f32⟩
  | .hbm, ⟨6, _⟩ => ⟨S1024x2048, .f32⟩
  | .hbm, ⟨7, _⟩ => ⟨S512x2048, .f32⟩
  | .hbm, ⟨8, _⟩ => ⟨S1024x2048, .f32⟩
  | .hbm, ⟨9, _⟩ => ⟨S1024x2048, .f32⟩
  | .hbm, ⟨10, _⟩ => ⟨S2048x8192, .bf16⟩
  | .hbm, ⟨11, _⟩ => ⟨S1024x2048, .bf16⟩
  | .hbm, ⟨12, _⟩ => ⟨S512x2048, .bf16⟩
  | .hbm, ⟨13, _⟩ => ⟨S1024x2048, .bf16⟩
  | .hbm, ⟨14, _⟩ => ⟨S1024x2048, .bf16⟩
  | .hbm, ⟨15, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S1024x256, .bf16⟩
  | .local _ .vmem, ⟨19, _⟩ => ⟨S1024x256, .bf16⟩
  | .local _ .vmem, ⟨20, _⟩ => ⟨S512x256, .bf16⟩
  | .local _ .vmem, ⟨21, _⟩ => ⟨S512x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S16384x2048 : Shape := ⟨2, ![16384, 2048]⟩
abbrev S16384x1024 : Shape := ⟨2, ![16384, 1024]⟩
abbrev S16384x512 : Shape := ⟨2, ![16384, 512]⟩
abbrev S2048x8192 : Shape := ⟨2, ![2048, 8192]⟩
abbrev S1024x2048 : Shape := ⟨2, ![1024, 2048]⟩
abbrev S512x2048 : Shape := ⟨2, ![512, 2048]⟩
abbrev S16384x8192 : Shape := ⟨2, ![16384, 8192]⟩
abbrev S_ : Shape := ⟨0, ![]⟩
abbrev S16384x4x2048 : Shape := ⟨3, ![16384, 4, 2048]⟩
abbrev S16384x1x2048 : Shape := ⟨3, ![16384, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S2048x8192, .f32⟩
  | .hbm, ⟨6, _⟩ => ⟨S1024x2048, .f32⟩
  | .hbm, ⟨7, _⟩ => ⟨S512x2048, .f32⟩
  | .hbm, ⟨8, _⟩ => ⟨S1024x2048, .f32⟩
  | .hbm, ⟨9, _⟩ => ⟨S1024x2048, .f32⟩
  | .hbm, ⟨10, _⟩ => ⟨S16384x2048, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x4x2048, .f32⟩
  | .hbm, ⟨21, _⟩ => ⟨S16384x1x2048, .f32⟩
  | .hbm, ⟨22, _⟩ => ⟨S16384x2048, .f32⟩
  | .hbm, ⟨23, _⟩ => ⟨S16384x1024, .f32⟩
  | .hbm, ⟨24, _⟩ => ⟨S16384x2048, .f32⟩
  | .hbm, ⟨25, _⟩ => ⟨S16384x2048, .f32⟩
  | .hbm, ⟨26, _⟩ => ⟨S16384x1x2048, .f32⟩
  | .hbm, ⟨27, _⟩ => ⟨S16384x2048, .f32⟩
  | .hbm, ⟨28, _⟩ => ⟨S16384x512, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x1x2048, .f32⟩
  | .hbm, ⟨33, _⟩ => ⟨S16384x2048, .f32⟩
  | .hbm, ⟨34, _⟩ => ⟨S16384x1024, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x1x2048, .f32⟩
  | .hbm, ⟨39, _⟩ => ⟨S16384x2048, .f32⟩
  | .hbm, ⟨40, _⟩ => ⟨S16384x1024, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Ffn.lean ====
abbrev S16384x2048 : Shape := ⟨2, ![16384, 2048]⟩
abbrev S2x2048x11264 : Shape := ⟨3, ![2, 2048, 11264]⟩
abbrev S3x11264 : Shape := ⟨2, ![3, 11264]⟩
abbrev S11264 : Shape := ⟨1, ![11264]⟩
abbrev S1x11264 : Shape := ⟨2, ![1, 11264]⟩
abbrev S16384x5632 : Shape := ⟨2, ![16384, 5632]⟩
abbrev S1024x2048 : Shape := ⟨2, ![1024, 2048]⟩
abbrev S1x2048x512 : Shape := ⟨3, ![1, 2048, 512]⟩
abbrev S3x512 : Shape := ⟨2, ![3, 512]⟩
abbrev S1x512 : Shape := ⟨2, ![1, 512]⟩
abbrev S1024x512 : Shape := ⟨2, ![1024, 512]⟩
abbrev S1032x512 : Shape := ⟨2, ![1032, 512]⟩
abbrev S2048x512 : Shape := ⟨2, ![2048, 512]⟩
abbrev S8x512 : Shape := ⟨2, ![8, 512]⟩

abbrev nBuf : Space → Nat
  | .hbm => 6
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1032x512, .f32⟩
  | .local _ .vmem, ⟨17, _⟩ => ⟨S1032x512, .f32⟩
  | .local _ .vmem, ⟨18, _⟩ => ⟨S2048x512, .bf16⟩
  | .local _ .vmem, ⟨19, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S16384x2048 : Shape := ⟨2, ![16384, 2048]⟩
abbrev S2x2048x11264 : Shape := ⟨3, ![2, 2048, 11264]⟩
abbrev S3x11264 : Shape := ⟨2, ![3, 11264]⟩
abbrev S11264 : Shape := ⟨1, ![11264]⟩
abbrev S8x2048x2048 : Shape := ⟨3, ![8, 2048, 2048]⟩
abbrev S1x2048x11264 : Shape := ⟨3, ![1, 2048, 11264]⟩
abbrev S2048x11264 : Shape := ⟨2, ![2048, 11264]⟩
abbrev S8x2048x11264 : Shape := ⟨3, ![8, 2048, 11264]⟩
abbrev S_ : Shape := ⟨0, ![]⟩
abbrev S8x2050x11264 : Shape := ⟨3, ![8, 2050, 11264]⟩
abbrev S1x11264 : Shape := ⟨2, ![1, 11264]⟩
abbrev S1x1x11264 : Shape := ⟨3, ![1, 1, 11264]⟩
abbrev S8x2048x5632 : Shape := ⟨3, ![8, 2048, 5632]⟩
abbrev S16384x5632 : Shape := ⟨2, ![16384, 5632]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S3x11264, .f32⟩
  | .hbm, ⟨3, _⟩ => ⟨S11264, .f32⟩
  | .hbm, ⟨4, _⟩ => ⟨S16384x2048, .f32⟩
  | .hbm, ⟨5, _⟩ => ⟨S8x2048x2048, .f32⟩
  | .hbm, ⟨6, _⟩ => ⟨S1x2048x11264, .f32⟩
  | .hbm, ⟨7, _⟩ => ⟨S2048x11264, .f32⟩
  | .hbm, ⟨8, _⟩ => ⟨S8x2048x11264, .f32⟩
  | .hbm, ⟨9, _⟩ => ⟨S_, .i32⟩
  | .hbm, ⟨10, _⟩ => ⟨S_, .f32⟩
  | .hbm, ⟨11, _⟩ => ⟨S8x2050x11264, .f32⟩
  | .hbm, ⟨12, _⟩ => ⟨S1x11264, .f32⟩
  | .hbm, ⟨13, _⟩ => ⟨S11264, .f32⟩
  | .hbm, ⟨14, _⟩ => ⟨S8x2048x11264, .f32⟩
  | .hbm, ⟨15, _⟩ => ⟨S1x1x11264, .f32⟩
  | .hbm, ⟨16, _⟩ => ⟨S8x2048x11264, .f32⟩
  | .hbm, ⟨17, _⟩ => ⟨S8x2048x11264, .f32⟩
  | .hbm, ⟨18, _⟩ => ⟨S1x11264, .f32⟩
  | .hbm, ⟨19, _⟩ => ⟨S11264, .f32⟩
  | .hbm, ⟨20, _⟩ => ⟨S8x2048x11264, .f32⟩
  | .hbm, ⟨21, _⟩ => ⟨S1x1x11264, .f32⟩
  | .hbm, ⟨22, _⟩ => ⟨S8x2048x11264, .f32⟩
  | .hbm, ⟨23, _⟩ => ⟨S8x2048x11264, .f32⟩
  | .hbm, ⟨24, _⟩ => ⟨S8x2048x11264, .f32⟩
  | .hbm, ⟨25, _⟩ => ⟨S1x11264, .f32⟩
  | .hbm, ⟨26, _⟩ => ⟨S11264, .f32⟩
  | .hbm, ⟨27, _⟩ => ⟨S8x2048x11264, .f32⟩
  | .hbm, ⟨28, _⟩ => ⟨S1x1x11264, .f32⟩
  | .hbm, ⟨29, _⟩ => ⟨S8x2048x11264, .f32⟩
  | .hbm, ⟨30, _⟩ => ⟨S8x2048x11264, .f32⟩
  | .hbm, ⟨31, _⟩ => ⟨S8x2048x11264, .f32⟩
  | .hbm, ⟨32, _⟩ => ⟨S1x1x11264, .f32⟩
  | .hbm, ⟨33, _⟩ => ⟨S8x2048x11264, .f32⟩
  | .hbm, ⟨34, _⟩ => ⟨S8x2048x11264, .f32⟩
  | .hbm, ⟨35, _⟩ => ⟨S8x2048x5632, .f32⟩
  | .hbm, ⟨36, _⟩ => ⟨S8x2048x5632, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S_, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S_, .f32⟩
  | .hbm, ⟨48, _⟩ => ⟨S8x2048x5632, .f32⟩
  | .hbm, ⟨49, _⟩ => ⟨S8x2048x5632, .f32⟩
  | .hbm, ⟨50, _⟩ => ⟨S_, .f32⟩
  | .hbm, ⟨51, _⟩ => ⟨S8x2048x5632, .f32⟩
  | .hbm, ⟨52, _⟩ => ⟨S8x2048x5632, .f32⟩
  | .hbm, ⟨53, _⟩ => ⟨S8x2048x5632, .f32⟩
  | .hbm, ⟨54, _⟩ => ⟨S8x2048x5632, .f32⟩
  | .hbm, ⟨55, _⟩ => ⟨S16384x5632, .f32⟩
  | .hbm, ⟨56, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Down.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S256x2048 : Shape := ⟨2, ![256, 2048]⟩
abbrev S256x1408 : Shape := ⟨2, ![256, 1408]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x5632, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Outp.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutpRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Ple.lean ====
abbrev S16384x256 : Shape := ⟨2, ![16384, 256]⟩
abbrev S16384x2048 : Shape := ⟨2, ![16384, 2048]⟩
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S512x256 : Shape := ⟨2, ![512, 256]⟩
abbrev S512x2048 : Shape := ⟨2, ![512, 2048]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S16384x2048, .bf16⟩
  | .hbm, ⟨2, _⟩ => ⟨S256x2048, .f32⟩
  | .hbm, ⟨3, _⟩ => ⟨S2048x2048, .f32⟩
  | .hbm, ⟨4, _⟩ => ⟨S16384x2048, .f32⟩
  | .hbm, ⟨5, _⟩ => ⟨S2048, .f32⟩
  | .hbm, ⟨6, _⟩ => ⟨S2048, .f32⟩
  | .hbm, ⟨7, _⟩ => ⟨S16384x256, .bf16⟩
  | .hbm, ⟨8, _⟩ => ⟨S256x2048, .bf16⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S512x2048, .bf16⟩
  | .local _ .vmem, ⟨3, _⟩ => ⟨S512x2048, .bf16⟩
  | .local _ .vmem, ⟨4, _⟩ => ⟨S256x2048, .bf16⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleRefIdeal.lean ====
abbrev S16384x256 : Shape := ⟨2, ![16384, 256]⟩
abbrev S16384x2048 : Shape := ⟨2, ![16384, 2048]⟩
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x2048, .bf16⟩
  | .hbm, ⟨2, _⟩ => ⟨S256x2048, .f32⟩
  | .hbm, ⟨3, _⟩ => ⟨S2048x2048, .f32⟩
  | .hbm, ⟨4, _⟩ => ⟨S16384x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S16384x2048, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Rope.lean ====
abbrev S16384x2048 : Shape := ⟨2, ![16384, 2048]⟩
abbrev S2048x13088 : Shape := ⟨2, ![2048, 13088]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2048x4608 : Shape := ⟨2, ![2048, 4608]⟩
abbrev S16384x4608 : Shape := ⟨2, ![16384, 4608]⟩
abbrev S1024x2048 : Shape := ⟨2, ![1024, 2048]⟩
abbrev S2048x1536 : Shape := ⟨2, ![2048, 1536]⟩
abbrev S1024x128 : Shape := ⟨2, ![1024, 128]⟩
abbrev S1024x1536 : Shape := ⟨2, ![1024, 1536]⟩
abbrev S256x2048 : Shape := ⟨2, ![256, 2048]⟩
abbrev S256x1536 : Shape := ⟨2, ![256, 1536]⟩
abbrev S256x128 : Shape := ⟨2, ![256, 128]⟩

abbrev nBuf : Space → Nat
  | .hbm => 24
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S2048x4608, .f32⟩
  | .hbm, ⟨22, _⟩ => ⟨S2048x4608, .bf16⟩
  | .hbm, ⟨23, _⟩ => ⟨S16384x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1536, .bf16⟩
  | .local _ .vmem, ⟨9, _⟩ => ⟨S1024x1536, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeRefIdeal.lean ====
abbrev S16384x2048 : Shape := ⟨2, ![16384, 2048]⟩
abbrev S2048x13088 : Shape := ⟨2, ![2048, 13088]⟩
abbrev S8x2048x2048 : Shape := ⟨3, ![8, 2048, 2048]⟩
abbrev S2048x4608 : Shape := ⟨2, ![2048, 4608]⟩
abbrev S8x2048x4608 : Shape := ⟨3, ![8, 2048, 4608]⟩
abbrev S8x2048x3x12x128 : Shape := ⟨5, ![8, 2048, 3, 12, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x1x12x128 : Shape := ⟨5, ![8, 2048, 1, 12, 128]⟩
abbrev S8x2048x12x128 : Shape := ⟨4, ![8, 2048, 12, 128]⟩
abbrev S8x2048x12x64 : Shape := ⟨4, ![8, 2048, 12, 64]⟩
abbrev S16384x4608 : Shape := ⟨2, ![16384, 4608]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S16384x2048, .f32⟩
  | .hbm, ⟨3, _⟩ => ⟨S8x2048x2048, .f32⟩
  | .hbm, ⟨4, _⟩ => ⟨S2048x4608, .f32⟩
  | .hbm, ⟨5, _⟩ => ⟨S8x2048x4608, .f32⟩
  | .hbm, ⟨6, _⟩ => ⟨S8x2048x3x12x128, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S2048, .i32⟩
  | .hbm, ⟨16, _⟩ => ⟨S2048, .f32⟩
  | .hbm, ⟨17, _⟩ => ⟨S2048x1, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S1x2048x1x64, .f32⟩
  | .hbm, ⟨24, _⟩ => ⟨S2048x64, .f32⟩
  | .hbm, ⟨25, _⟩ => ⟨S1x2048x1x64, .f32⟩
  | .hbm, ⟨26, _⟩ => ⟨S8x2048x1x12x128, .f32⟩
  | .hbm, ⟨27, _⟩ => ⟨S8x2048x12x128, .f32⟩
  | .hbm, ⟨28, _⟩ => ⟨S8x2048x12x64, .f32⟩
  | .hbm, ⟨29, _⟩ => ⟨S8x2048x12x64, .f32⟩
  | .hbm, ⟨30, _⟩ => ⟨S8x2048x12x64, .f32⟩
  | .hbm, ⟨31, _⟩ => ⟨S8x2048x12x64, .f32⟩
  | .hbm, ⟨32, _⟩ => ⟨S8x2048x12x64, .f32⟩
  | .hbm, ⟨33, _⟩ => ⟨S8x2048x12x64, .f32⟩
  | .hbm, ⟨34, _⟩ => ⟨S8x2048x12x64, .f32⟩
  | .hbm, ⟨35, _⟩ => ⟨S8x2048x12x64, .f32⟩
  | .hbm, ⟨36, _⟩ => ⟨S8x2048x12x64, .f32⟩
  | .hbm, ⟨37, _⟩ => ⟨S8x2048x12x64, .f32⟩
  | .hbm, ⟨38, _⟩ => ⟨S8x2048x12x64, .f32⟩
  | .hbm, ⟨39, _⟩ => ⟨S8x2048x12x64, .f32⟩
  | .hbm, ⟨40, _⟩ => ⟨S8x2048x12x128, .f32⟩
  | .hbm, ⟨41, _⟩ => ⟨S8x2048x1x12x128, .f32⟩
  | .hbm, ⟨42, _⟩ => ⟨S8x2048x12x128, .f32⟩
  | .hbm, ⟨43, _⟩ => ⟨S8x2048x12x64, .f32⟩
  | .hbm, ⟨44, _⟩ => ⟨S8x2048x12x64, .f32⟩
  | .hbm, ⟨45, _⟩ => ⟨S8x2048x12x64, .f32⟩
  | .hbm, ⟨46, _⟩ => ⟨S8x2048x12x64, .f32⟩
  | .hbm, ⟨47, _⟩ => ⟨S8x2048x12x64, .f32⟩
  | .hbm, ⟨48, _⟩ => ⟨S8x2048x12x64, .f32⟩
  | .hbm, ⟨49, _⟩ => ⟨S8x2048x12x64, .f32⟩
  | .hbm, ⟨50, _⟩ => ⟨S8x2048x12x64, .f32⟩
  | .hbm, ⟨51, _⟩ => ⟨S8x2048x12x64, .f32⟩
  | .hbm, ⟨52, _⟩ => ⟨S8x2048x12x64, .f32⟩
  | .hbm, ⟨53, _⟩ => ⟨S8x2048x12x64, .f32⟩
  | .hbm, ⟨54, _⟩ => ⟨S8x2048x12x64, .f32⟩
  | .hbm, ⟨55, _⟩ => ⟨S8x2048x12x128, .f32⟩
  | .hbm, ⟨56, _⟩ => ⟨S8x2048x1x12x128, .f32⟩
  | .hbm, ⟨57, _⟩ => ⟨S8x2048x12x128, .f32⟩
  | .hbm, ⟨58, _⟩ => ⟨S8x2048x1x12x128, .f32⟩
  | .hbm, ⟨59, _⟩ => ⟨S8x2048x1x12x128, .f32⟩
  | .hbm, ⟨60, _⟩ => ⟨S8x2048x1x12x128, .f32⟩
  | .hbm, ⟨61, _⟩ => ⟨S8x2048x3x12x128, .f32⟩
  | .hbm, ⟨62, _⟩ => ⟨S16384x4608, .f32⟩
  | .hbm, ⟨63, _⟩ => ⟨S16384x4608, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩

abbrev nD : Nat := 1
abbrev τ : Topo := Topo.v7x

variable {F : FTy → Type} [FloatOps F]
-- ==== Proja.lean ====
abbrev S16384x2048 : Shape := ⟨2, ![16384, 2048]⟩
abbrev S2048x13088 : Shape := ⟨2, ![2048, 13088]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjaRefIdeal.lean ====
abbrev S16384x2048 : Shape := ⟨2, ![16384, 2048]⟩
abbrev S2048x13088 : Shape := ⟨2, ![2048, 13088]⟩
abbrev S16384x13088 : Shape := ⟨2, ![16384, 13088]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S16384x2048, .f32⟩
  | .hbm, ⟨3, _⟩ => ⟨S16384x13088, .f32⟩
  | .hbm, ⟨4, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Projc.lean ====
abbrev S16384x2048 : Shape := ⟨2, ![16384, 2048]⟩
abbrev S2048x13088 : Shape := ⟨2, ![2048, 13088]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S2048x3072, .f32⟩
  | .hbm, ⟨3, _⟩ => ⟨S2048x3072, .bf16⟩
  | .hbm, ⟨4, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjcRefIdeal.lean ====
abbrev S16384x2048 : Shape := ⟨2, ![16384, 2048]⟩
abbrev S2048x13088 : Shape := ⟨2, ![2048, 13088]⟩
abbrev S16384x13088 : Shape := ⟨2, ![16384, 13088]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S16384x2048, .f32⟩
  | .hbm, ⟨3, _⟩ => ⟨S16384x13088, .f32⟩
  | .hbm, ⟨4, _⟩ => ⟨S16384x3072, .f32⟩
  | .hbm, ⟨5, _⟩ => ⟨S16384x3072, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Sb.lean ====
abbrev S16384x3072 : Shape := ⟨2, ![16384, 3072]⟩
abbrev S16384x1024 : Shape := ⟨2, ![16384, 1024]⟩
abbrev S128x1024 : Shape := ⟨2, ![128, 1024]⟩
abbrev S2048x1024 : Shape := ⟨2, ![2048, 1024]⟩
abbrev S8x128x256 : Shape := ⟨3, ![8, 128, 256]⟩
abbrev S256x256 : Shape := ⟨2, ![256, 256]⟩
abbrev S128x256 : Shape := ⟨2, ![128, 256]⟩
abbrev S128x128 : Shape := ⟨2, ![128, 128]⟩
abbrev S256x128 : Shape := ⟨2, ![256, 128]⟩
abbrev S128x1 : Shape := ⟨2, ![128, 1]⟩
abbrev S1x128x256 : Shape := ⟨3, ![1, 128, 256]⟩

abbrev nBuf : Space → Nat
  | .hbm => 2
  | .vmem => 10
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .f32⟩
  | .local _ .vmem, ⟨9, _⟩ => ⟨S8x128x256, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  v47
def k0_off1 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v49 : Index := Scalar.indexCast v48
  let c0_18 : Index := 0#32
  ![v49.toNat, 0]
def k0_off2 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v54 : Index := Scalar.indexCast v48
  let c128_20 : Index := 128#32
  ![v54.toNat, 128]
def k0_off3 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v59 : Index := Scalar.indexCast v48
  let c256_23 : Index := 256#32
  ![v59.toNat, 256]
def k0_off4 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v64 : Index := Scalar.indexCast v48
  let c384_26 : Index := 384#32
  ![v64.toNat, 384]
def k0_off5 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v69 : Index := Scalar.indexCast v48
  let c512_29 : Index := 512#32
  ![v69.toNat, 512]
def k0_off6 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v74 : Index := Scalar.indexCast v48
  let c640_32 : Index := 640#32
  ![v74.toNat, 640]
def k0_off7 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v79 : Index := Scalar.indexCast v48
  let c768_35 : Index := 768#32
  ![v79.toNat, 768]
def k0_off8 (i : grid0.Coords) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c256_i32 : BitVec 32 := 256#32
  let v47 : BitVec 32 := Scalar.muli v46 c256_i32
  let v48 : BitVec 32 := v47
  let v84 : Index := Scalar.indexCast v48
  let c896_38 : Index := 896#32
  ![v84.toNat, 896]
@[reducible] def k0_t1_loop (i : grid0.Coords) : Scf.Loop 32 :=
  let c0_i32_147 : BitVec 32 := 0#32
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_149 : BitVec 32 := 1#32
  ⟨c0_i32_147, v389, c1_i32_149⟩
def k0_mult2 (i : grid0.Coords) (k0_t1 : Fin (k0_t1_loop i).trips) : BitVec 32 :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  v395
def k0_off9 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v397 : Index := Scalar.indexCast v396
  let c0_157 : Index := 0#32
  ![v397.toNat, 0]
def k0_off10 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v402 : Index := Scalar.indexCast v396
  let c128_160 : Index := 128#32
  ![v402.toNat, 128]
def k0_off11 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v407 : Index := Scalar.indexCast v396
  let c256_163 : Index := 256#32
  ![v407.toNat, 256]
def k0_off12 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v412 : Index := Scalar.indexCast v396
  let c384_166 : Index := 384#32
  ![v412.toNat, 384]
def k0_off13 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v417 : Index := Scalar.indexCast v396
  let c512_169 : Index := 512#32
  ![v417.toNat, 512]
def k0_off14 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v422 : Index := Scalar.indexCast v396
  let c640_172 : Index := 640#32
  ![v422.toNat, 640]
def k0_off15 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v427 : Index := Scalar.indexCast v396
  let c768_175 : Index := 768#32
  ![v427.toNat, 768]
def k0_off16 (i : grid0.Coords) (k0_t1 : Fin (k0_t1_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let c1_i32_149 : BitVec 32 := 1#32
  let arg8 : BitVec 32 := Scf.iv c0_i32_147 c1_i32_149 k0_t1
  let v394 : BitVec 32 := Scalar.subi v393 arg8
  let c256_i32_156 : BitVec 32 := 256#32
  let v395 : BitVec 32 := Scalar.muli v394 c256_i32_156
  let v396 : BitVec 32 := v395
  let v432 : Index := Scalar.indexCast v396
  let c896_178 : Index := 896#32
  ![v432.toNat, 896]
@[reducible] def k0_t2_loop (i : grid0.Coords) : Scf.Loop 32 :=
  let c0_i32_147 : BitVec 32 := 0#32
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let v386 : BitVec 32 := Scalar.addi c0_i32_147 v385
  let c1_i32_150 : BitVec 32 := 1#32
  ⟨v389, v386, c1_i32_150⟩
def k0_mult3 (i : grid0.Coords) (k0_t2 : Fin (k0_t2_loop i).trips) : BitVec 32 :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  v395
def k0_off17 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v397 : Index := Scalar.indexCast v396
  let c0_157 : Index := 0#32
  ![v397.toNat, 0]
def k0_off18 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v402 : Index := Scalar.indexCast v396
  let c128_160 : Index := 128#32
  ![v402.toNat, 128]
def k0_off19 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v407 : Index := Scalar.indexCast v396
  let c256_163 : Index := 256#32
  ![v407.toNat, 256]
def k0_off20 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v412 : Index := Scalar.indexCast v396
  let c384_166 : Index := 384#32
  ![v412.toNat, 384]
def k0_off21 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v417 : Index := Scalar.indexCast v396
  let c512_169 : Index := 512#32
  ![v417.toNat, 512]
def k0_off22 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v422 : Index := Scalar.indexCast v396
  let c640_172 : Index := 640#32
  ![v422.toNat, 640]
def k0_off23 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v427 : Index := Scalar.indexCast v396
  let c768_175 : Index := 768#32
  ![v427.toNat, 768]
def k0_off24 (i : grid0.Coords) (k0_t2 : Fin (k0_t2_loop i).trips) : Fin 2 → Nat :=
  let arg1 : BitVec 32 := BitVec.ofNat 32 (i 1).val
  let c0_i32_12 : BitVec 32 := 0#32
  let v31 : BitVec 1 := Scalar.cmpi .sgt arg1 c0_i32_12
  let v32 : BitVec 32 := Scalar.extui v31
  let c0_i32_13 : BitVec 32 := 0#32
  let v33 : BitVec 1 := Scalar.cmpi .slt arg1 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi arg1 c2_i32_11
  let c0_i32_16 : BitVec 32 := 0#32
  let v43 : BitVec 1 := Scalar.cmpi .ne v42 c0_i32_16
  let v44 : BitVec 1 := Scalar.andi v41 v43
  let v30 : BitVec 32 := Scalar.divsi arg1 c2_i32_11
  let c1_i32_17 : BitVec 32 := 1#32
  let v45 : BitVec 32 := Scalar.subi v30 c1_i32_17
  let v46 : BitVec 32 := Scalar.select v44 v45 v30
  let c1_i32_155 : BitVec 32 := 1#32
  let v393 : BitVec 32 := Scalar.subi v46 c1_i32_155
  let c0_i32_147 : BitVec 32 := 0#32
  let v385 : BitVec 32 := Scalar.subi v46 c0_i32_147
  let c1_i32_148 : BitVec 32 := 1#32
  let v387 : BitVec 32 := Scalar.divsi v385 c1_i32_148
  let v388 : BitVec 32 := Scalar.muli v387 c1_i32_148
  let v389 : BitVec 32 := Scalar.addi c0_i32_147 v388
  let c1_i32_150 : BitVec 32 := 1#32
  let arg8 : BitVec 32 := Scf.iv v389 c1_i32_150 k0_t2
  let v394 : BitVec 32 := Scalar.subi v393 arg8
  let c256_i32_156 : BitVec 32 := 256#32
  let v395 : BitVec 32 := Scalar.muli v394 c256_i32_156
  let v396 : BitVec 32 := v395
  let v432 : Index := Scalar.indexCast v396
  let c896_178 : Index := 896#32
  ![v432.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbRefIdeal.lean ====
abbrev S16384x3072 : Shape := ⟨2, ![16384, 3072]⟩
abbrev S8x2048x3x8x128 : Shape := ⟨5, ![8, 2048, 3, 8, 128]⟩
abbrev S8x2048x1x8x128 : Shape := ⟨5, ![8, 2048, 1, 8, 128]⟩
abbrev S8x2048x8x128 : Shape := ⟨4, ![8, 2048, 8, 128]⟩
abbrev S8x8x2048x128 : Shape := ⟨4, ![8, 8, 2048, 128]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16384x1024 : Shape := ⟨2, ![16384, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .f32⟩
  | .hbm, ⟨2, _⟩ => ⟨S8x2048x3x8x128, .f32⟩
  | .hbm, ⟨3, _⟩ => ⟨S8x2048x1x8x128, .f32⟩
  | .hbm, ⟨4, _⟩ => ⟨S8x2048x8x128, .f32⟩
  | .hbm, ⟨5, _⟩ => ⟨S8x8x2048x128, .f32⟩
  | .hbm, ⟨6, _⟩ => ⟨S8x2048x1x8x128, .f32⟩
  | .hbm, ⟨7, _⟩ => ⟨S8x2048x8x128, .f32⟩
  | .hbm, ⟨8, _⟩ => ⟨S8x8x2048x128, .f32⟩
  | .hbm, ⟨9, _⟩ => ⟨S8x2048x1x8x128, .f32⟩
  | .hbm, ⟨10, _⟩ => ⟨S8x2048x8x128, .f32⟩
  | .hbm, ⟨11, _⟩ => ⟨S8x8x2048x128, .f32⟩
  | .hbm, ⟨12, _⟩ => ⟨S8x8x2048x2048, .f32⟩
  | .hbm, ⟨13, _⟩ => ⟨S_, .f32⟩
  | .hbm, ⟨14, _⟩ => ⟨S8x8x2048x2048, .f32⟩
  | .hbm, ⟨15, _⟩ => ⟨S8x8x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .i1⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S_, .f32⟩
  | .hbm, ⟨41, _⟩ => ⟨S_, .f32⟩
  | .hbm, ⟨42, _⟩ => ⟨S8x8x2048x2048, .i1⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S_, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S_, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .i1⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x2048x2048, .f32⟩
  | .hbm, ⟨67, _⟩ => ⟨S_, .f32⟩
  | .hbm, ⟨68, _⟩ => ⟨S_, .f32⟩
  | .hbm, ⟨69, _⟩ => ⟨S8x8x2048x2048, .i1⟩
  | .hbm, ⟨70, _⟩ => ⟨S8x8x2048x2048, .f32⟩
  | .hbm, ⟨71, _⟩ => ⟨S8x8x2048x2048, .f32⟩
  | .hbm, ⟨72, _⟩ => ⟨S8x8x2048x128, .f32⟩
  | .hbm, ⟨73, _⟩ => ⟨S8x2048x8x128, .f32⟩
  | .hbm, ⟨74, _⟩ => ⟨S16384x1024, .f32⟩
  | .hbm, ⟨75, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== Prep.lean ====
abbrev S16384x2048 : Shape := ⟨2, ![16384, 2048]⟩
abbrev S2048x13088 : Shape := ⟨2, ![2048, 13088]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S2048x3360 : Shape := ⟨2, ![2048, 3360]⟩
abbrev S_ : Shape := ⟨0, ![]⟩
abbrev S2048x3584 : Shape := ⟨2, ![2048, 3584]⟩
abbrev S3584 : Shape := ⟨1, ![3584]⟩
abbrev S128x1024 : Shape := ⟨2, ![128, 1024]⟩
abbrev S256x1024 : Shape := ⟨2, ![256, 1024]⟩
abbrev S1x3584 : Shape := ⟨2, ![1, 3584]⟩
abbrev S1x1024 : Shape := ⟨2, ![1, 1024]⟩
abbrev S16384x1024 : Shape := ⟨2, ![16384, 1024]⟩
abbrev S256x2048 : Shape := ⟨2, ![256, 2048]⟩
abbrev S264x3584 : Shape := ⟨2, ![264, 3584]⟩
abbrev S8x3584 : Shape := ⟨2, ![8, 3584]⟩
abbrev S128x128 : Shape := ⟨2, ![128, 128]⟩
abbrev S256x3584 : Shape := ⟨2, ![256, 3584]⟩
abbrev S256x128 : Shape := ⟨2, ![256, 128]⟩
abbrev S256x256 : Shape := ⟨2, ![256, 256]⟩

abbrev nBuf : Space → Nat
  | .hbm => 46
  | .vmem => 29
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S3360, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S64x1024, .f32⟩
  | .hbm, ⟨7, _⟩ => ⟨S160x1024, .f32⟩
  | .hbm, ⟨8, _⟩ => ⟨S1024, .f32⟩
  | .hbm, ⟨9, _⟩ => ⟨S1024, .f32⟩
  | .hbm, ⟨10, _⟩ => ⟨S16x64, .f32⟩
  | .hbm, ⟨11, _⟩ => ⟨S2048x3360, .f32⟩
  | .hbm, ⟨12, _⟩ => ⟨S_, .i32⟩
  | .hbm, ⟨13, _⟩ => ⟨S_, .f32⟩
  | .hbm, ⟨14, _⟩ => ⟨S2048x3584, .f32⟩
  | .hbm, ⟨15, _⟩ => ⟨S2048x3584, .bf16⟩
  | .hbm, ⟨16, _⟩ => ⟨S_, .i32⟩
  | .hbm, ⟨17, _⟩ => ⟨S_, .f32⟩
  | .hbm, ⟨18, _⟩ => ⟨S3584, .f32⟩
  | .hbm, ⟨19, _⟩ => ⟨S_, .i32⟩
  | .hbm, ⟨20, _⟩ => ⟨S_, .f32⟩
  | .hbm, ⟨21, _⟩ => ⟨S128x1024, .f32⟩
  | .hbm, ⟨22, _⟩ => ⟨S128x1024, .bf16⟩
  | .hbm, ⟨23, _⟩ => ⟨S_, .i32⟩
  | .hbm, ⟨24, _⟩ => ⟨S_, .f32⟩
  | .hbm, ⟨25, _⟩ => ⟨S128x1024, .f32⟩
  | .hbm, ⟨26, _⟩ => ⟨S128x1024, .bf16⟩
  | .hbm, ⟨27, _⟩ => ⟨S_, .i32⟩
  | .hbm, ⟨28, _⟩ => ⟨S_, .f32⟩
  | .hbm, ⟨29, _⟩ => ⟨S256x1024, .f32⟩
  | .hbm, ⟨30, _⟩ => ⟨S256x1024, .bf16⟩
  | .hbm, ⟨31, _⟩ => ⟨S1024, .f32⟩
  | .hbm, ⟨32, _⟩ => ⟨S1x3584, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S16384x1024, .bf16⟩
  | .hbm, ⟨39, _⟩ => ⟨S16384x1024, .bf16⟩
  | .hbm, ⟨40, _⟩ => ⟨S16384x1024, .f32⟩
  | .hbm, ⟨41, _⟩ => ⟨S16384x1024, .f32⟩
  | .hbm, ⟨42, _⟩ => ⟨S16384x1024, .bf16⟩
  | .hbm, ⟨43, _⟩ => ⟨S16384x1024, .bf16⟩
  | .hbm, ⟨44, _⟩ => ⟨S16384x1024, .bf16⟩
  | .hbm, ⟨45, _⟩ => ⟨S16384x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x3584, .bf16⟩
  | .local _ .vmem, ⟨3, _⟩ => ⟨S1x3584, .f32⟩
  | .local _ .vmem, ⟨4, _⟩ => ⟨S1x1024, .f32⟩
  | .local _ .vmem, ⟨5, _⟩ => ⟨S128x1024, .bf16⟩
  | .local _ .vmem, ⟨6, _⟩ => ⟨S1x1024, .f32⟩
  | .local _ .vmem, ⟨7, _⟩ => ⟨S128x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S264x3584, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_c_2 : Ref sig .tc := ⟨.hbm, 23, rfl⟩
abbrev main_call3_v0 : Ref sig .tc := ⟨.hbm, 24, rfl⟩
abbrev main_v6 : Ref sig .tc := ⟨.hbm, 25, rfl⟩
abbrev main_v7 : Ref sig .tc := ⟨.hbm, 26, rfl⟩
abbrev main_c_3 : Ref sig .tc := ⟨.hbm, 27, rfl⟩
abbrev main_call4_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v17_2 : Ref sig .tc := ⟨.hbm, 40, rfl⟩
abbrev main_v17_3 : Ref sig .tc := ⟨.hbm, 41, rfl⟩
abbrev main_v17_4 : Ref sig .tc := ⟨.hbm, 42, rfl⟩
abbrev main_v17_5 : Ref sig .tc := ⟨.hbm, 43, rfl⟩
abbrev main_v17_6 : Ref sig .tc := ⟨.hbm, 44, rfl⟩
abbrev main_v17_7 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PrepRefIdeal.lean ====
abbrev S16384x2048 : Shape := ⟨2, ![16384, 2048]⟩
abbrev S2048x13088 : Shape := ⟨2, ![2048, 13088]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S2048x3360 : Shape := ⟨2, ![2048, 3360]⟩
abbrev S16384x3360 : Shape := ⟨2, ![16384, 3360]⟩
abbrev S8x2048x3360 : Shape := ⟨3, ![8, 2048, 3360]⟩
abbrev S_ : Shape := ⟨0, ![]⟩
abbrev S8x2049x3360 : Shape := ⟨3, ![8, 2049, 3360]⟩
abbrev S1x1x3360 : Shape := ⟨3, ![1, 1, 3360]⟩
abbrev S16384x1024 : Shape := ⟨2, ![16384, 1024]⟩
abbrev S16384x64 : Shape := ⟨2, ![16384, 64]⟩
abbrev S16384x160 : Shape := ⟨2, ![16384, 160]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13088, .f32⟩
  | .hbm, ⟨2, _⟩ => ⟨S3360, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S64x1024, .f32⟩
  | .hbm, ⟨7, _⟩ => ⟨S160x1024, .f32⟩
  | .hbm, ⟨8, _⟩ => ⟨S1024, .f32⟩
  | .hbm, ⟨9, _⟩ => ⟨S1024, .f32⟩
  | .hbm, ⟨10, _⟩ => ⟨S16x64, .f32⟩
  | .hbm, ⟨11, _⟩ => ⟨S16384x2048, .f32⟩
  | .hbm, ⟨12, _⟩ => ⟨S2048x3360, .f32⟩
  | .hbm, ⟨13, _⟩ => ⟨S16384x3360, .f32⟩
  | .hbm, ⟨14, _⟩ => ⟨S8x2048x3360, .f32⟩
  | .hbm, ⟨15, _⟩ => ⟨S_, .i32⟩
  | .hbm, ⟨16, _⟩ => ⟨S_, .f32⟩
  | .hbm, ⟨17, _⟩ => ⟨S8x2049x3360, .f32⟩
  | .hbm, ⟨18, _⟩ => ⟨S8x2048x3360, .f32⟩
  | .hbm, ⟨19, _⟩ => ⟨S8x2048x3360, .f32⟩
  | .hbm, ⟨20, _⟩ => ⟨S1x1x3360, .f32⟩
  | .hbm, ⟨21, _⟩ => ⟨S8x2048x3360, .f32⟩
  | .hbm, ⟨22, _⟩ => ⟨S8x2048x3360, .f32⟩
  | .hbm, ⟨23, _⟩ => ⟨S8x2048x3360, .f32⟩
  | .hbm, ⟨24, _⟩ => ⟨S16384x3360, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x64, .f32⟩
  | .hbm, ⟨29, _⟩ => ⟨S16384x64, .f32⟩
  | .hbm, ⟨30, _⟩ => ⟨S16384x160, .f32⟩
  | .hbm, ⟨31, _⟩ => ⟨S16384x64, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .i1⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x160, .f32⟩
  | .hbm, ⟨68, _⟩ => ⟨S16384x160, .f32⟩
  | .hbm, ⟨69, _⟩ => ⟨S_, .f32⟩
  | .hbm, ⟨70, _⟩ => ⟨S16384x160, .f32⟩
  | .hbm, ⟨71, _⟩ => ⟨S16384x160, .f32⟩
  | .hbm, ⟨72, _⟩ => ⟨S_, .f32⟩
  | .hbm, ⟨73, _⟩ => ⟨S16384x160, .f32⟩
  | .hbm, ⟨74, _⟩ => ⟨S16384x160, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .bf16⟩
  | .hbm, ⟨87, _⟩ => ⟨S16384x1024, .bf16⟩
  | .hbm, ⟨88, _⟩ => ⟨S16384x1024, .f32⟩
  | .hbm, ⟨89, _⟩ => ⟨S16384x1024, .f32⟩
  | .hbm, ⟨90, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_0 : Ref sig .tc := ⟨.hbm, 61, rfl⟩
abbrev main_v34 : Ref sig .tc := ⟨.hbm, 62, rfl⟩
abbrev main_v35 : Ref sig .tc := ⟨.hbm, 63, rfl⟩
abbrev main_cst_1 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_2 : Ref sig .tc := ⟨.hbm, 69, rfl⟩
abbrev main_v40 : Ref sig .tc := ⟨.hbm, 70, rfl⟩
abbrev main_v41 : Ref sig .tc := ⟨.hbm, 71, rfl⟩
abbrev main_cst_3 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Proof.Scan.lean ====
/-
  A first-order linear recurrence and its doubling scan.

  `recur a b n` is the state after `n` steps of `h ← a·h + b` from 0. `prodLast`/`recurLast` are the product of the decays and the recurrence
  over the last `k` of the first `n` steps. Windows add up, so doubling a window `k` times from one step gives the recurrence over the last
  `2^k` steps, and over all of them once the window is as long as the sequence.
-/
module

public import Mathlib.Data.EReal.Inv

@[expose] public section

noncomputable section

namespace Cert.Scan

/-- The state after `n` steps of `h ← a·h + b`, from 0. -/
def recur (a b : ℕ → EReal) : ℕ → EReal
  | 0 => 0
  | n + 1 => a n * recur a b n + b n

/-- The product of the decays of the last `k` of the first `n` steps. -/
def prodLast (a : ℕ → EReal) : ℕ → ℕ → EReal
  | 0, _ => 1
  | _ + 1, 0 => 1
  | k + 1, n + 1 => a n * prodLast a k n

/-- The recurrence over the last `k` of the first `n` steps, from 0. -/
def recurLast (a b : ℕ → EReal) : ℕ → ℕ → EReal
  | 0, _ => 0
  | _ + 1, 0 => 0
  | k + 1, n + 1 => a n * recurLast a b k n + b n

/-- Before the first step the product is empty. -/
theorem prodLast_zero (a : ℕ → EReal) (k : ℕ) : prodLast a k 0 = 1 := by cases k <;> rfl

/-- Before the first step the state is 0. -/
theorem recurLast_zero (a b : ℕ → EReal) (k : ℕ) : recurLast a b k 0 = 0 := by cases k <;> rfl

/-- The product over a window of `j + k` steps is the product of the last `j` times that of the `k` before. -/
theorem prodLast_add (a : ℕ → EReal) (j k n : ℕ) : prodLast a (j + k) n = prodLast a j n * prodLast a k (n - j) := by
  induction j generalizing n with
  | zero => simp [prodLast]
  | succ j ih =>
    cases n with
    | zero => simp [prodLast_zero]
    | succ n =>
      rw [show j + 1 + k = (j + k) + 1 by omega, show n + 1 - (j + 1) = n - j by omega]
      show a n * prodLast a (j + k) n = a n * prodLast a j n * prodLast a k (n - j)
      rw [ih]
      exact (mul_assoc _ _ _).symm

/-- The recurrence over a window of `j + k` steps: that over the last `j`, and the state the `k` before left, decayed through the last `j`. -/
theorem recurLast_add (a b : ℕ → EReal) (h0 : ∀ i, 0 ≤ a i) (h1 : ∀ i, a i ≠ ⊤) (j k n : ℕ) :
    recurLast a b (j + k) n = recurLast a b j n + prodLast a j n * recurLast a b k (n - j) := by
  induction j generalizing n with
  | zero => simp [recurLast, prodLast]
  | succ j ih =>
    cases n with
    | zero => simp [recurLast_zero]
    | succ n =>
      rw [show j + 1 + k = (j + k) + 1 by omega, show n + 1 - (j + 1) = n - j by omega]
      show a n * recurLast a b (j + k) n + b n
        = (a n * recurLast a b j n + b n) + a n * prodLast a j n * recurLast a b k (n - j)
      rw [ih, EReal.left_distrib_of_nonneg_of_ne_top (h0 n) (h1 n), add_right_comm]
      exact congrArg _ (mul_assoc _ _ _).symm

/-- A window as long as the sequence sees all of it. -/
theorem recurLast_all (a b : ℕ → EReal) (k n : ℕ) (h : n ≤ k) : recurLast a b k n = recur a b n := by
  induction n generalizing k with
  | zero => rw [recurLast_zero]; rfl
  | succ n ih =>
    obtain ⟨k, rfl⟩ : ∃ j, k = j + 1 := ⟨k - 1, by omega⟩
    show a n * recurLast a b k n + b n = a n * recur a b n + b n
    rw [ih k (by omega)]

/-- One doubling of the product: the window at step `t` and the one `d` steps before, or 1 before the first step. -/
theorem prodLast_double (a : ℕ → EReal) (d t : ℕ) :
    prodLast a (d + d) (t + 1) = prodLast a d (t + 1) * (if d ≤ t then prodLast a d (t - d + 1) else 1) := by
  rw [prodLast_add]
  split
  · rw [show t + 1 - d = t - d + 1 by omega]
  · rw [show t + 1 - d = 0 by omega, prodLast_zero]

/-- One doubling of the recurrence: the window at step `t` and the one `d` steps before, or 0 before the first step. -/
theorem recurLast_double (a b : ℕ → EReal) (h0 : ∀ i, 0 ≤ a i) (h1 : ∀ i, a i ≠ ⊤) (d t : ℕ) :
    recurLast a b (d + d) (t + 1)
      = recurLast a b d (t + 1) + prodLast a d (t + 1) * (if d ≤ t then recurLast a b d (t - d + 1) else 0) := by
  rw [recurLast_add a b h0 h1]
  split
  · rw [show t + 1 - d = t - d + 1 by omega]
  · rw [show t + 1 - d = 0 by omega, recurLast_zero]

/-- A window of one step. -/
theorem prodLast_one (a : ℕ → EReal) (t : ℕ) : prodLast a 1 (t + 1) = a t := by
  show a t * 1 = a t
  rw [mul_one]

/-- A window of one step. -/
theorem recurLast_one (a b : ℕ → EReal) (t : ℕ) : recurLast a b 1 (t + 1) = b t := by
  show a t * 0 + b t = b t
  rw [mul_zero, zero_add]

/-- The recurrence reads only the steps before. -/
theorem recur_congr {a a' b b' : ℕ → EReal} (n : ℕ) (ha : ∀ i < n, a i = a' i) (hb : ∀ i < n, b i = b' i) :
    recur a b n = recur a' b' n := by
  induction n with
  | zero => rfl
  | succ n ih =>
    show a n * recur a b n + b n = a' n * recur a' b' n + b' n
    rw [ha n (by omega), hb n (by omega), ih (fun i hi => ha i (by omega)) fun i hi => hb i (by omega)]

end Cert.Scan

end
-- ==== Proof.LruScan.lean ====
/-
  The scan the recurrence's kernel runs: eleven doublings, each combining a block of the sequence with itself some steps earlier. What its buffers hold, what its steps store, and that the eleven of them are the recurrence.
-/
module

public import proofs.«01_k».proof.Proof.Gen.LruIdeal.Frame
public import proofs.«01_k».proof.Proof.Gen.LruIdeal.Value
public import proofs.«01_k».proof.Proof.Scan
public import Idealize.ShloMosaic.Lib.WritesUnit
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.LruIdeal.Scan

open Cert.LruIdeal Cert.LruIdeal.Gen

/-- A block of the sequence: 2048 steps of 128 lanes. -/
abbrev Block := Vec Ideal S2048x128 .f32

/-- The block `d` steps earlier, and `c` where there is no such step. -/
def earlier (d : ℕ) (c : EReal) (v : Block) : Block := fun y =>
  if d ≤ (y 0).val then v (ix2 ⟨(y 0).val - d, lt_of_le_of_lt (Nat.sub_le _ _) (y 0).isLt⟩ (y 1)) else c

/-- The buffer's first 2048 rows hold `c`. -/
def Low (c : EReal) (L : List (View.Piece (Elt Ideal) S4096x128 .f32)) : Prop :=
  ∀ y : S4096x128.Idx, (y 0).val < 2048 → View.canon L y = c

/-- A store to the last 2048 rows keeps the first ones. -/
theorem low_cons {c : EReal} {L : List (View.Piece (Elt Ideal) S4096x128 .f32)} (h : Low c L) (inb) (w) :
    Low c ((⟨Rect.unit (s := S4096x128) ![2048, 0] ![2048, 128] inb, w⟩ : View.Piece (Elt Ideal) S4096x128 .f32) :: L) := by
  intro y hy
  rw [View.canon_cons_of_not_mem]
  · exact h y hy
  · show y ∉ (Rect.unit (s := S4096x128) ![2048, 0] ![2048, 128] inb).set
    rw [Rect.mem_set_unit]
    intro hh
    have h1 : 2048 ≤ (y 0).val := (hh 0).1
    omega

/-- A store of `c` to the first 2048 rows. -/
theorem low_fill (c : EReal) (L : List (View.Piece (Elt Ideal) S4096x128 .f32)) (inb) (w) (hw : ∀ x, w x = c) :
    Low c ((⟨Rect.unit (s := S4096x128) ![0, 0] ![2048, 128] inb, w⟩ : View.Piece (Elt Ideal) S4096x128 .f32) :: L) := by
  intro y hy
  have hmem : y ∈ (Rect.unit (s := S4096x128) ![0, 0] ![2048, 128] inb).set := by
    rw [Rect.mem_set_unit]
    intro a
    match a with
    | ⟨0, _⟩ => exact ⟨Nat.zero_le _, by show (y 0).val < 0 + 2048; omega⟩
    | ⟨1, _⟩ => exact ⟨Nat.zero_le _, by show (y 1).val < 0 + 128; have : (y 1).val < 128 := (y 1).isLt; omega⟩
  obtain ⟨x, rfl⟩ := (Rect.unit (s := S4096x128) ![0, 0] ![2048, 128] inb).exists_idx_of_mem hmem
  exact (View.canon_cons_emb _ w L x).trans (hw x)

/-- Reading 2048 rows from row `o` on after a store to the last 2048: the stored block `2048 - o` steps earlier. -/
theorem read_earlier {κ : Kind} {sp : Space} (v : View sig κ sp S4096x128 .f32) {c : EReal} {L : List (View.Piece (Elt Ideal) S4096x128 .f32)}
    (h : Low c L) (w : Block) (inb) (o : ℕ) (ho : o ≤ 2048) (inb') :
    v.readCov ((⟨Rect.unit (s := S4096x128) ![2048, 0] ![2048, 128] inb, w⟩ : View.Piece (Elt Ideal) S4096x128 .f32) :: L)
      (Rect.unit (s := S4096x128) ![o, 0] ![2048, 128] inb').toLoadRect = earlier (2048 - o) c w := by
  rw [View.readCov_eq_canon']
  funext (y : S2048x128.Idx)
  generalize hz : LoadRect.idx (Rect.unit (s := S4096x128) ![o, 0] ![2048, 128] inb').toLoadRect y = z
  have e0 : (z 0).val = o + 1 * (y 0).val := by rw [← hz]; rfl
  have e1 : (z 1).val = 0 + 1 * (y 1).val := by rw [← hz]; rfl
  have hy0 : (y 0).val < 2048 := (y 0).isLt
  unfold earlier
  split
  · rename_i hd
    refine Eq.trans (congrArg _ ?_) (View.canon_cons_emb (Rect.unit (s := S4096x128) ![2048, 0] ![2048, 128] inb) w L
      (ix2 ⟨(y 0).val - (2048 - o), lt_of_le_of_lt (Nat.sub_le _ _) (y 0).isLt⟩ (y 1)))
    funext a
    apply Fin.ext
    match a with
    | ⟨0, _⟩ =>
      refine e0.trans ?_
      show _ = 2048 + 1 * ((y 0).val - (2048 - o))
      omega
    | ⟨1, _⟩ => exact e1
  · rename_i hd
    exact low_cons h inb w _ (by omega)

/-- The product of two blocks. -/
def times (a b : Block) : Block := fun y => a y * b y

/-- A block plus a decayed one. -/
def plus (h a b : Block) : Block := fun y => h y + a y * b y

/-- The decay over windows of `2 ^ n` steps. -/
def decayB (a : Block) : ℕ → Block
  | 0 => a
  | n + 1 => times (decayB a n) (earlier (2 ^ n) 1 (decayB a n))

/-- The recurrence over windows of `2 ^ n` steps. -/
def scanB (a b : Block) : ℕ → Block
  | 0 => b
  | n + 1 => plus (scanB a b n) (decayB a n) (earlier (2 ^ n) 0 (scanB a b n))

/-- The first buffer of decays has ones below. -/
theorem low1 (inb) : Low 1 [(⟨Rect.unit (s := S4096x128) ![0, 0] ![2048, 128] inb, k0_pay10 (k0_pay8 : FVec Ideal S2048x128 .f32)⟩ : View.Piece (Elt Ideal) S4096x128 .f32)] :=
  low_fill 1 [] inb _ (by intro x; pointwise [k0_pay10, k0_pay8])

/-- And the second. -/
theorem low3 (inb) : Low 1 [(⟨Rect.unit (s := S4096x128) ![0, 0] ![2048, 128] inb, k0_pay11 (k0_pay8 : FVec Ideal S2048x128 .f32)⟩ : View.Piece (Elt Ideal) S4096x128 .f32)] :=
  low_fill 1 [] inb _ (by intro x; pointwise [k0_pay11, k0_pay8])

/-- The first buffer of states has zeros below. -/
theorem low2 (inb) : Low 0 [(⟨Rect.unit (s := S4096x128) ![0, 0] ![2048, 128] inb, k0_pay12 (k0_pay9 : FVec Ideal S2048x128 .f32)⟩ : View.Piece (Elt Ideal) S4096x128 .f32)] :=
  low_fill 0 [] inb _ (by intro x; pointwise [k0_pay12, k0_pay9])

/-- And the second. -/
theorem low4 (inb) : Low 0 [(⟨Rect.unit (s := S4096x128) ![0, 0] ![2048, 128] inb, k0_pay13 (k0_pay9 : FVec Ideal S2048x128 .f32)⟩ : View.Piece (Elt Ideal) S4096x128 .f32)] :=
  low_fill 0 [] inb _ (by intro x; pointwise [k0_pay13, k0_pay9])

/-- Reading the sequence's buffer from row `o` on: the block `8 - o` steps earlier, zero before the start. -/
theorem read_input {κ : Kind} {sp : Space} (v : View sig κ sp S2056x128 .f32) (w : Block) (z : Vec Ideal S8x128 .f32) (hz : ∀ x, z x = 0) (inb inbz) (o : ℕ) (inb') (ho : o ≤ 8) :
    v.readCov [(⟨Rect.unit (s := S2056x128) ![8, 0] ![2048, 128] inb, w⟩ : View.Piece (Elt Ideal) S2056x128 .f32), ⟨Rect.unit (s := S2056x128) ![0, 0] ![8, 128] inbz, z⟩]
      (Rect.unit (s := S2056x128) ![o, 0] ![2048, 128] inb').toLoadRect = earlier (8 - o) 0 w := by
  funext (y : S2048x128.Idx)
  have e0 := Rect.idx_unit_val (s := S2056x128) ![o, 0] ![2048, 128] inb' y 0
  have e1 := Rect.idx_unit_val (s := S2056x128) ![o, 0] ![2048, 128] inb' y 1
  have e0' : ((Rect.unit (s := S2056x128) ![o, 0] ![2048, 128] inb').idx y 0).val = o + (y 0).val := e0
  have e1' : ((Rect.unit (s := S2056x128) ![o, 0] ![2048, 128] inb').idx y 1).val = 0 + (y 1).val := e1
  have y0 : (y 0).val < 2048 := (y 0).isLt
  unfold earlier
  split
  · rename_i hr
    exact View.read_writes_cons_rows_of_mem v v.junk inb w _ ((Rect.unit (s := S2056x128) ![o, 0] ![2048, 128] inb').idx y) (ix2 ⟨(y 0).val - (8 - o), lt_of_le_of_lt (Nat.sub_le _ _) (y 0).isLt⟩ (y 1)) rfl
      (by show _ = 8 + ((y 0).val - (8 - o)); rw [e0']; omega) (by show _ = (y 1).val; rw [e1']; omega)
  · rename_i hr
    refine (View.read_writes_cons_rows_of_not_mem (W := 2048) v v.junk inb w _ ((Rect.unit (s := S2056x128) ![o, 0] ![2048, 128] inb').idx y) rfl rfl (Or.inl (by rw [e0']; omega))).trans ?_
    exact (View.read_writes_cons_rows_of_mem v v.junk inbz z [] ((Rect.unit (s := S2056x128) ![o, 0] ![2048, 128] inb').idx y) (ix2 ⟨o + (y 0).val, by omega⟩ (y 1)) rfl
      (by show _ = 0 + (o + (y 0).val); rw [e0']; omega) (by show _ = (y 1).val; rw [e1']; omega)).trans (hz _)

/-- A step stores the states plus the decayed earlier ones. -/
theorem pay16 (a h b : Block) : k0_pay16 a h b = plus h a b := by
  funext y
  pointwise [k0_pay16, plus]

/-- A step stores the states plus the decayed earlier ones. -/
theorem pay19 (a h b : Block) : k0_pay19 a h b = plus h a b := by
  funext y
  pointwise [k0_pay19, plus]

/-- A step stores the states plus the decayed earlier ones. -/
theorem pay21 (a h b : Block) : k0_pay21 a h b = plus h a b := by
  funext y
  pointwise [k0_pay21, plus]

/-- A step stores the states plus the decayed earlier ones. -/
theorem pay23 (a h b : Block) : k0_pay23 a h b = plus h a b := by
  funext y
  pointwise [k0_pay23, plus]

/-- A step stores the states plus the decayed earlier ones. -/
theorem pay25 (a h b : Block) : k0_pay25 a h b = plus h a b := by
  funext y
  pointwise [k0_pay25, plus]

/-- A step stores the states plus the decayed earlier ones. -/
theorem pay27 (a h b : Block) : k0_pay27 a h b = plus h a b := by
  funext y
  pointwise [k0_pay27, plus]

/-- A step stores the states plus the decayed earlier ones. -/
theorem pay29 (a h b : Block) : k0_pay29 a h b = plus h a b := by
  funext y
  pointwise [k0_pay29, plus]

/-- A step stores the states plus the decayed earlier ones. -/
theorem pay31 (a h b : Block) : k0_pay31 a h b = plus h a b := by
  funext y
  pointwise [k0_pay31, plus]

/-- A step stores the states plus the decayed earlier ones. -/
theorem pay34 (a h b : Block) : k0_pay34 a h b = plus h a b := by
  funext y
  pointwise [k0_pay34, plus]

/-- A step stores the states plus the decayed earlier ones. -/
theorem pay36 (a h b : Block) : k0_pay36 a h b = plus h a b := by
  funext y
  pointwise [k0_pay36, plus]

/-- A step stores the states plus the decayed earlier ones. -/
theorem pay39 (a h b : Block) : k0_pay39 a h b = plus h a b := by
  funext y
  pointwise [k0_pay39, plus]

/-- A step stores the products of the decays. -/
theorem pay17 (a b : Block) : k0_pay17 a b = times a b := by
  funext y
  pointwise [k0_pay17, times]

/-- A step stores the products of the decays. -/
theorem pay20 (a b : Block) : k0_pay20 a b = times a b := by
  funext y
  pointwise [k0_pay20, times]

/-- A step stores the products of the decays. -/
theorem pay22 (a b : Block) : k0_pay22 a b = times a b := by
  funext y
  pointwise [k0_pay22, times]

/-- A step stores the products of the decays. -/
theorem pay24 (a b : Block) : k0_pay24 a b = times a b := by
  funext y
  pointwise [k0_pay24, times]

/-- A step stores the products of the decays. -/
theorem pay26 (a b : Block) : k0_pay26 a b = times a b := by
  funext y
  pointwise [k0_pay26, times]

/-- A step stores the products of the decays. -/
theorem pay28 (a b : Block) : k0_pay28 a b = times a b := by
  funext y
  pointwise [k0_pay28, times]

/-- A step stores the products of the decays. -/
theorem pay30 (a b : Block) : k0_pay30 a b = times a b := by
  funext y
  pointwise [k0_pay30, times]

/-- A step stores the products of the decays. -/
theorem pay33 (a b : Block) : k0_pay33 a b = times a b := by
  funext y
  pointwise [k0_pay33, times]

/-- A step stores the products of the decays. -/
theorem pay35 (a b : Block) : k0_pay35 a b = times a b := by
  funext y
  pointwise [k0_pay35, times]

/-- A step stores the products of the decays. -/
theorem pay37 (a b : Block) : k0_pay37 a b = times a b := by
  funext y
  pointwise [k0_pay37, times]

/-- A step stores the products of the decays. -/
theorem pay40 (a b : Block) : k0_pay40 a b = times a b := by
  funext y
  pointwise [k0_pay40, times]

/-- A copy. -/
theorem pay14 (a : FVec Ideal S2048x128 .f32) : k0_pay14 a = a := by
  funext y
  pointwise [k0_pay14]

/-- A copy. -/
theorem pay15 (a : FVec Ideal S2048x128 .f32) : k0_pay15 a = a := by
  funext y
  pointwise [k0_pay15]

/-- A copy. -/
theorem pay18 (a : FVec Ideal S2048x128 .f32) : k0_pay18 a = a := by
  funext y
  pointwise [k0_pay18]

/-- A copy. -/
theorem pay32 (a : FVec Ideal S2048x128 .f32) : k0_pay32 a = a := by
  funext y
  pointwise [k0_pay32]

/-- A copy. -/
theorem pay38 (a : FVec Ideal S2048x128 .f32) : k0_pay38 a = a := by
  funext y
  pointwise [k0_pay38]

/-- The sequence's buffer starts from zeros. -/
theorem zeros (x : S8x128.Idx) : (k0_pay2 : FVec Ideal S8x128 .f32) x = 0 := by
  pointwise [k0_pay2]

/-- Reading a buffer of decays: the block earlier, one before the start. -/
theorem read_one {κ : Kind} {sp : Space} (v : View sig κ sp S4096x128 .f32) {L : List (View.Piece (Elt Ideal) S4096x128 .f32)} (w : Block) (inb) (o : ℕ) (inb') (h : Low 1 L) (ho : o ≤ 2048) :
    v.readCov ((⟨Rect.unit (s := S4096x128) ![2048, 0] ![2048, 128] inb, w⟩ : View.Piece (Elt Ideal) S4096x128 .f32) :: L)
      (Rect.unit (s := S4096x128) ![o, 0] ![2048, 128] inb').toLoadRect = earlier (2048 - o) 1 w :=
  read_earlier _ h w inb o ho inb'

/-- Reading a buffer of states: the block earlier, zero before the start. -/
theorem read_zero {κ : Kind} {sp : Space} (v : View sig κ sp S4096x128 .f32) {L : List (View.Piece (Elt Ideal) S4096x128 .f32)} (w : Block) (inb) (o : ℕ) (inb') (h : Low 0 L) (ho : o ≤ 2048) :
    v.readCov ((⟨Rect.unit (s := S4096x128) ![2048, 0] ![2048, 128] inb, w⟩ : View.Piece (Elt Ideal) S4096x128 .f32) :: L)
      (Rect.unit (s := S4096x128) ![o, 0] ![2048, 128] inb').toLoadRect = earlier (2048 - o) 0 w :=
  read_earlier _ h w inb o ho inb'

/-- A doubling of the decays. -/
theorem fold_a0 (a : Block) : times a (earlier 1 1 a) = decayB a 1 := rfl

/-- A doubling of the states. -/
theorem fold_h0 (a b : Block) : plus b a (earlier 1 0 b) = scanB a b 1 := rfl

/-- A doubling of the decays. -/
theorem fold_a1 (a : Block) : times (decayB a 1) (earlier 2 1 (decayB a 1)) = decayB a 2 := rfl

/-- A doubling of the states. -/
theorem fold_h1 (a b : Block) : plus (scanB a b 1) (decayB a 1) (earlier 2 0 (scanB a b 1)) = scanB a b 2 := rfl

/-- A doubling of the decays. -/
theorem fold_a2 (a : Block) : times (decayB a 2) (earlier 4 1 (decayB a 2)) = decayB a 3 := rfl

/-- A doubling of the states. -/
theorem fold_h2 (a b : Block) : plus (scanB a b 2) (decayB a 2) (earlier 4 0 (scanB a b 2)) = scanB a b 3 := rfl

/-- A doubling of the decays. -/
theorem fold_a3 (a : Block) : times (decayB a 3) (earlier 8 1 (decayB a 3)) = decayB a 4 := rfl

/-- A doubling of the states. -/
theorem fold_h3 (a b : Block) : plus (scanB a b 3) (decayB a 3) (earlier 8 0 (scanB a b 3)) = scanB a b 4 := rfl

/-- A doubling of the decays. -/
theorem fold_a4 (a : Block) : times (decayB a 4) (earlier 16 1 (decayB a 4)) = decayB a 5 := rfl

/-- A doubling of the states. -/
theorem fold_h4 (a b : Block) : plus (scanB a b 4) (decayB a 4) (earlier 16 0 (scanB a b 4)) = scanB a b 5 := rfl

/-- A doubling of the decays. -/
theorem fold_a5 (a : Block) : times (decayB a 5) (earlier 32 1 (decayB a 5)) = decayB a 6 := rfl

/-- A doubling of the states. -/
theorem fold_h5 (a b : Block) : plus (scanB a b 5) (decayB a 5) (earlier 32 0 (scanB a b 5)) = scanB a b 6 := rfl

/-- A doubling of the decays. -/
theorem fold_a6 (a : Block) : times (decayB a 6) (earlier 64 1 (decayB a 6)) = decayB a 7 := rfl

/-- A doubling of the states. -/
theorem fold_h6 (a b : Block) : plus (scanB a b 6) (decayB a 6) (earlier 64 0 (scanB a b 6)) = scanB a b 7 := rfl

/-- A doubling of the decays. -/
theorem fold_a7 (a : Block) : times (decayB a 7) (earlier 128 1 (decayB a 7)) = decayB a 8 := rfl

/-- A doubling of the states. -/
theorem fold_h7 (a b : Block) : plus (scanB a b 7) (decayB a 7) (earlier 128 0 (scanB a b 7)) = scanB a b 8 := rfl

/-- A doubling of the decays. -/
theorem fold_a8 (a : Block) : times (decayB a 8) (earlier 256 1 (decayB a 8)) = decayB a 9 := rfl

/-- A doubling of the states. -/
theorem fold_h8 (a b : Block) : plus (scanB a b 8) (decayB a 8) (earlier 256 0 (scanB a b 8)) = scanB a b 9 := rfl

/-- A doubling of the decays. -/
theorem fold_a9 (a : Block) : times (decayB a 9) (earlier 512 1 (decayB a 9)) = decayB a 10 := rfl

/-- A doubling of the states. -/
theorem fold_h9 (a b : Block) : plus (scanB a b 9) (decayB a 9) (earlier 512 0 (scanB a b 9)) = scanB a b 10 := rfl

/-- A doubling of the decays. -/
theorem fold_a10 (a : Block) : times (decayB a 10) (earlier 1024 1 (decayB a 10)) = decayB a 11 := rfl

/-- A doubling of the states. -/
theorem fold_h10 (a b : Block) : plus (scanB a b 10) (decayB a 10) (earlier 1024 0 (scanB a b 10)) = scanB a b 11 := rfl

/-- A lane of a block, step by step, `d` beyond its end. -/
def lane (a : Block) (l : Fin 128) (d : EReal) : ℕ → EReal := fun i => if h : i < 2048 then a (ix2 ⟨i, h⟩ l) else d

/-- After `n` doublings the decays are products over windows of `2 ^ n` steps. -/
theorem decayB_at (a : Block) (l : Fin 128) (n : ℕ) (t : Fin 2048) :
    decayB a n (ix2 t l) = Cert.Scan.prodLast (lane a l 0) (2 ^ n) (t.val + 1) := by
  induction n generalizing t with
  | zero =>
    rw [pow_zero, Cert.Scan.prodLast_one]
    unfold lane
    rw [dif_pos t.isLt]
    rfl
  | succ n ih =>
    rw [pow_succ, mul_two, Cert.Scan.prodLast_double, ← ih t]
    refine congrArg (decayB a n (ix2 t l) * ·) ?_
    show (if 2 ^ n ≤ t.val then _ else _) = _
    split
    · exact ih _
    · rfl

/-- After `n` doublings the states are the recurrence over windows of `2 ^ n` steps. -/
theorem scanB_at (a b : Block) (l : Fin 128) (h0 : ∀ y, 0 ≤ a y) (h1 : ∀ y, a y ≠ ⊤) (n : ℕ) (t : Fin 2048) :
    scanB a b n (ix2 t l) = Cert.Scan.recurLast (lane a l 0) (lane b l 0) (2 ^ n) (t.val + 1) := by
  induction n generalizing t with
  | zero =>
    rw [pow_zero, Cert.Scan.recurLast_one]
    unfold lane
    rw [dif_pos t.isLt]
    rfl
  | succ n ih =>
    have g0 : ∀ i, 0 ≤ lane a l 0 i := by
      intro i
      unfold lane
      split
      · exact h0 _
      · exact le_rfl
    have g1 : ∀ i, lane a l 0 i ≠ ⊤ := by
      intro i
      unfold lane
      split
      · exact h1 _
      · exact EReal.zero_ne_top
    rw [pow_succ, mul_two, Cert.Scan.recurLast_double _ _ g0 g1, ← ih t, ← decayB_at]
    refine congrArg (fun z => scanB a b n (ix2 t l) + decayB a n (ix2 t l) * z) ?_
    show (if 2 ^ n ≤ t.val then _ else _) = _
    split
    · exact ih _
    · rfl

/-- Eleven doublings are the recurrence. -/
theorem scanB_eq (a b : Block) (l : Fin 128) (h0 : ∀ y, 0 ≤ a y) (h1 : ∀ y, a y ≠ ⊤) (t : Fin 2048) :
    scanB a b 11 (ix2 t l) = Cert.Scan.recur (lane a l 0) (lane b l 0) (t.val + 1) := by
  rw [scanB_at a b l h0 h1, Cert.Scan.recurLast_all _ _ _ _ (by have := t.isLt; omega)]

variable (m : (ℓ : Loc nD τ sig) → Buf (Elt Ideal) ℓ)

/-- The convolution of a grid point's block. -/
def convT (c : Dev nD) (t : Fin cfg0.N) : FVec Ideal S2048x128 .f32 :=
  k0_pay4 (iblk m c 2 t) (iblk m c 3 t) (earlier 0 0 (k0_pay3 (iblk m c 0 t))) (earlier 3 0 (k0_pay3 (iblk m c 0 t))) (earlier 2 0 (k0_pay3 (iblk m c 0 t))) (earlier 1 0 (k0_pay3 (iblk m c 0 t)))

/-- Its rounding for the gates' projections. -/
def roundT (c : Dev nD) (t : Fin cfg0.N) : FVec Ideal S2048x128 .bf16 :=
  k0_pay5 (iblk m c 2 t) (iblk m c 3 t) (earlier 0 0 (k0_pay3 (iblk m c 0 t))) (earlier 3 0 (k0_pay3 (iblk m c 0 t))) (earlier 2 0 (k0_pay3 (iblk m c 0 t))) (earlier 1 0 (k0_pay3 (iblk m c 0 t)))

/-- A grid point stores the scan of its decays and inputs, through the gate branch. -/
theorem stored (c : Dev nD) (t : Fin cfg0.N) :
    (dats m 0 c).after 9 t = k0_pay1 (k0_pay41 (scanB (k0_pay6 (roundT m c t) (iblk m c 4 t) (iblk m c 5 t) (iblk m c 8 t))
      (k0_pay7 (convT m c t) (roundT m c t) (iblk m c 4 t) (iblk m c 5 t) (iblk m c 6 t) (iblk m c 7 t) (iblk m c 8 t)) 11) (iblk m c 1 t)) := by
  rw [after0_9]
  unfold outsAt0
  frame_out
  simp (maxDischargeDepth := 40) only [View.readCov_cons_toLoadRect, read_input _ _ _ zeros, read_one, read_zero, low_cons, low1, low2, low3, low4, Nat.reduceSub, Nat.reduceLeDiff,
    pay16, pay19, pay21, pay23, pay25, pay27, pay29, pay31, pay34, pay36, pay39, pay17, pay20, pay22, pay24, pay26, pay28, pay30, pay33, pay35, pay37, pay40, pay14, pay15, pay18, pay32, pay38,
    fold_a0, fold_h0, fold_a1, fold_h1, fold_a2, fold_h2, fold_a3, fold_h3, fold_a4, fold_h4, fold_a5, fold_h5, fold_a6, fold_h6, fold_a7, fold_h7, fold_a8, fold_h8, fold_a9, fold_h9, fold_a10, fold_h10]
  rfl

end Cert.LruIdeal.Scan

end
-- ==== Proof.LruRef.lean ====
/-
  The gated linear recurrence as the layer defines it: its decays and inputs entry by entry, and what its loop over the sequence leaves.
-/
module

public import proofs.«01_k».proof.Proof.Gen.LruRefIdeal
public import proofs.«01_k».proof.Proof.Gen.LruRefIdeal.Run
public import proofs.«01_k».proof.Proof.Scan
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.LruRefIdeal

open Cert.LruRefIdeal.Gen Cert.LruRefIdeal.Value
open Idealize.ShloMosaic.Tactic Idealize.ShloMosaic.StableHlo

/-- The causal convolution over four steps. -/
def conv (a0 : FVec Ideal S8x2048x2048 .f32) (a1 : FVec Ideal S4x1024 .f32) (a2 : FVec Ideal S1024 .f32) : FVec Ideal S8x2048x1024 .f32 :=
  addf (addf (addf (addf (mulf (broadcastInDim S8x2048x1024 ![0, 1, 2] bcast_S1x1x1024_S8x2048x1024_0_1_2 (broadcastInDim S1x1x1024 ![2] bcast_S1024_S1x1x1024_2 (shapeCast S1024 (extractStridedSlice S1x1024 ![0, 0] a1 slices_S4x1024_S1x1024_0_0) shapeCasts_S1x1024_S1024))) (extractStridedSlice S8x2048x1024 ![0, 0, 0] (pad S8x2051x1024 ![0, 3, 0] ![0, 0, 0] ![0, 0, 0] (extractStridedSlice S8x2048x1024 ![0, 0, 0] a0 slices_S8x2048x2048_S8x2048x1024_0_0_0) (sitofp .f32 (constantI S_ 32 0#32)) pads_S8x2048x1024_S8x2051x1024_000_300_000 h_S_) slices_S8x2051x1024_S8x2048x1024_0_0_0)) (mulf (broadcastInDim S8x2048x1024 ![0, 1, 2] bcast_S1x1x1024_S8x2048x1024_0_1_2 (broadcastInDim S1x1x1024 ![2] bcast_S1024_S1x1x1024_2 (shapeCast S1024 (extractStridedSlice S1x1024 ![1, 0] a1 slices_S4x1024_S1x1024_1_0) shapeCasts_S1x1024_S1024))) (extractStridedSlice S8x2048x1024 ![0, 1, 0] (pad S8x2051x1024 ![0, 3, 0] ![0, 0, 0] ![0, 0, 0] (extractStridedSlice S8x2048x1024 ![0, 0, 0] a0 slices_S8x2048x2048_S8x2048x1024_0_0_0) (sitofp .f32 (constantI S_ 32 0#32)) pads_S8x2048x1024_S8x2051x1024_000_300_000 h_S_) slices_S8x2051x1024_S8x2048x1024_0_1_0))) (mulf (broadcastInDim S8x2048x1024 ![0, 1, 2] bcast_S1x1x1024_S8x2048x1024_0_1_2 (broadcastInDim S1x1x1024 ![2] bcast_S1024_S1x1x1024_2 (shapeCast S1024 (extractStridedSlice S1x1024 ![2, 0] a1 slices_S4x1024_S1x1024_2_0) shapeCasts_S1x1024_S1024))) (extractStridedSlice S8x2048x1024 ![0, 2, 0] (pad S8x2051x1024 ![0, 3, 0] ![0, 0, 0] ![0, 0, 0] (extractStridedSlice S8x2048x1024 ![0, 0, 0] a0 slices_S8x2048x2048_S8x2048x1024_0_0_0) (sitofp .f32 (constantI S_ 32 0#32)) pads_S8x2048x1024_S8x2051x1024_000_300_000 h_S_) slices_S8x2051x1024_S8x2048x1024_0_2_0))) (mulf (broadcastInDim S8x2048x1024 ![0, 1, 2] bcast_S1x1x1024_S8x2048x1024_0_1_2 (broadcastInDim S1x1x1024 ![2] bcast_S1024_S1x1x1024_2 (shapeCast S1024 (extractStridedSlice S1x1024 ![3, 0] a1 slices_S4x1024_S1x1024_3_0) shapeCasts_S1x1024_S1024))) (extractStridedSlice S8x2048x1024 ![0, 3, 0] (pad S8x2051x1024 ![0, 3, 0] ![0, 0, 0] ![0, 0, 0] (extractStridedSlice S8x2048x1024 ![0, 0, 0] a0 slices_S8x2048x2048_S8x2048x1024_0_0_0) (sitofp .f32 (constantI S_ 32 0#32)) pads_S8x2048x1024_S8x2051x1024_000_300_000 h_S_) slices_S8x2051x1024_S8x2048x1024_0_3_0))) (broadcastInDim S8x2048x1024 ![0, 1, 2] bcast_S1x1x1024_S8x2048x1024_0_1_2 (broadcastInDim S1x1x1024 ![2] bcast_S1024_S1x1x1024_2 a2))

/-- A gate: the logistic function of the blocks' projections. -/
def gate (u : FVec Ideal S8x2048x1024 .f32) (w : FVec Ideal S8x128x128 .f32) (b : FVec Ideal S1024 .f32) : FVec Ideal S8x2048x1024 .f32 :=
  Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (addf (shapeCast S8x2048x1024 (transpose S8x2048x8x128 [2, 3, 0, 1] (Host.dotGeneral dot_S8x128x128_S8x2048x8x128_S8x128x8x2048_1_3_2_01_0_2 none w (shapeCast S8x2048x8x128 u shapeCasts_S8x2048x1024_S8x2048x8x128)) transposes_S8x128x8x2048_S8x2048x8x128_2_3_0_1) shapeCasts_S8x2048x8x128_S8x2048x1024) (broadcastInDim S8x2048x1024 ![0, 1, 2] bcast_S1x1x1024_S8x2048x1024_0_1_2 (broadcastInDim S1x1x1024 ![2] bcast_S1024_S1x1x1024_2 b))))))

/-- The softplus of the negated parameter. -/
def rate (a7 : FVec Ideal S1024 .f32) : FVec Ideal S1024 .f32 :=
  select (cmpf .une (subf (Host.negf a7) (broadcastInDim S1024 ![] bcast_S_S1024 (constant S_ .f32 0x00000000#32))) (subf (Host.negf a7) (broadcastInDim S1024 ![] bcast_S_S1024 (constant S_ .f32 0x00000000#32)))) (addf (Host.negf a7) (broadcastInDim S1024 ![] bcast_S_S1024 (constant S_ .f32 0x00000000#32))) (addf (maximumf (Host.negf a7) (broadcastInDim S1024 ![] bcast_S_S1024 (constant S_ .f32 0x00000000#32))) (Host.log1p (Host.exp (Host.negf (Host.absf (subf (Host.negf a7) (broadcastInDim S1024 ![] bcast_S_S1024 (constant S_ .f32 0x00000000#32))))))))

/-- The logarithm of the decays. -/
def logDecay (r : FVec Ideal S8x2048x1024 .f32) (a7 : FVec Ideal S1024 .f32) : FVec Ideal S8x2048x1024 .f32 :=
  mulf (mulf (broadcastInDim S8x2048x1024 ![] bcast_S_S8x2048x1024 (constant S_ .f32 0xC1000000#32)) r) (broadcastInDim S8x2048x1024 ![0, 1, 2] bcast_S1x1x1024_S8x2048x1024_0_1_2 (broadcastInDim S1x1x1024 ![2] bcast_S1024_S1x1x1024_2 (rate a7)))

/-- The inputs of the recurrence. -/
def input (u i l : FVec Ideal S8x2048x1024 .f32) : FVec Ideal S8x2048x1024 .f32 :=
  mulf (mulf (Host.sqrt (subf (broadcastInDim S8x2048x1024 ![] bcast_S_S8x2048x1024 (constant S_ .f32 0x3F800000#32)) (Host.exp (mulf (broadcastInDim S8x2048x1024 ![] bcast_S_S8x2048x1024 (constant S_ .f32 0x40000000#32)) l)))) i) u

/-- The entry `d` steps before, nothing before the sequence's start. -/
def before (a0 : FVec Ideal S8x2048x2048 .f32) (b : Fin 8) (s : Fin 2048) (k : Fin 1024) (d : ℕ) : EReal :=
  if h : d ≤ s.val then a0 (ix3 b ⟨s.val - d, by omega⟩ ⟨k.val, by omega⟩) else 0

/-- The convolution at a step and a lane. -/
def convAt (a0 : FVec Ideal S8x2048x2048 .f32) (a1 : FVec Ideal S4x1024 .f32) (a2 : FVec Ideal S1024 .f32) (b : Fin 8) (s : Fin 2048) (k : Fin 1024) : EReal :=
  a1 (ix2 0 k) * before a0 b s k 3 + a1 (ix2 1 k) * before a0 b s k 2 + a1 (ix2 2 k) * before a0 b s k 1 + a1 (ix2 3 k) * before a0 b s k 0 + a2 (ix1 k)

/-- A gate at a step and a lane: the logistic function of its block's projection. -/
def gateAt (u : Fin 1024 → EReal) (w : FVec Ideal S8x128x128 .f32) (b : FVec Ideal S1024 .f32) (k : Fin 1024) : EReal :=
  Ideal.logistic ((∑ e : Fin 128, w (ix3 ⟨k.val / 128, by omega⟩ e ⟨k.val % 128, by omega⟩) * u ⟨k.val / 128 * 128 + e.val, by omega⟩) + b (ix1 k))

/-- The softplus of the negation. -/
def rateAt (x : EReal) : EReal := max (-x) 0 + Ideal.log1p (Ideal.exp (-(FloatOps.absf (F := Ideal) (φ := .f32) (-x))))

/-- The logarithm of a decay. -/
def logAt (r x : EReal) : EReal := Ideal.ofBits .f32 0xC1000000#32 * r * rateAt x

/-- An input of the recurrence. -/
def inputAt (u i l : EReal) : EReal := Ideal.sqrt (1 - Ideal.exp (Ideal.ofBits .f32 0x40000000#32 * l)) * i * u

/-- The padding is zero. -/
theorem zero_word : (FloatOps.sitofp FTy.f32 0#32 : Ideal .f32) = (0 : EReal) := by
  simp [FloatOps.sitofp]

/-- The convolution, entry by entry. -/
theorem conv_at (a0 : FVec Ideal S8x2048x2048 .f32) (a1 : FVec Ideal S4x1024 .f32) (a2 : FVec Ideal S1024 .f32) (b : Fin 8) (s : Fin 2048) (k : Fin 1024) :
    conv a0 a1 a2 (ix3 b s k) = convAt a0 a1 a2 b s k := by
  pointwise [conv, convAt, before]
  refine congrArg (· + a2 (ix1 k)) (congrArg (· + _) (congrArg₂ (· + ·) (congrArg₂ (· + ·) (congrArg (a1 (ix2 0 k) * ·) ?_) (congrArg (a1 (ix2 1 k) * ·) ?_)) (congrArg (a1 (ix2 2 k) * ·) ?_)))
  all_goals
    split_ifs with p q q
    · exact congrArg (fun r => a0 (ix3 b r ⟨k.val, by omega⟩)) (Fin.ext (by first | rfl | (dsimp only; omega)))
    · exfalso; omega
    · exfalso; omega
    · exact zero_word

/-- A gate, entry by entry. -/
theorem gate_at (u : FVec Ideal S8x2048x1024 .f32) (w : FVec Ideal S8x128x128 .f32) (v : FVec Ideal S1024 .f32) (b : Fin 8) (s : Fin 2048) (k : Fin 1024) :
    gate u w v (ix3 b s k) = gateAt (fun j => u (ix3 b s j)) w v k := by
  pointwise [gate, gateAt, Ideal.logistic]

/-- The rate, entry by entry. -/
theorem rate_at (a : FVec Ideal S1024 .f32) (k : Fin 1024) : rate a (ix1 k) = rateAt (a (ix1 k)) := by
  pointwise [rate, rateAt]
  rw [if_neg (not_not.mpr rfl)]

/-- The logarithm of the decays, entry by entry. -/
theorem log_at (r : FVec Ideal S8x2048x1024 .f32) (a : FVec Ideal S1024 .f32) (b : Fin 8) (s : Fin 2048) (k : Fin 1024) :
    logDecay r a (ix3 b s k) = logAt (r (ix3 b s k)) (a (ix1 k)) := by
  pointwise [logDecay, logAt, rate_at]

/-- The inputs, entry by entry. -/
theorem input_at (u i l : FVec Ideal S8x2048x1024 .f32) (b : Fin 8) (s : Fin 2048) (k : Fin 1024) :
    input u i l (ix3 b s k) = inputAt (u (ix3 b s k)) (i (ix3 b s k)) (l (ix3 b s k)) := by
  pointwise [input, inputAt]

variable (m : (ℓ : Loc nD τ sig) → Buf (Elt Ideal) ℓ) (c : Dev nD)

/-- The launch's convolution. -/
def convM : FVec Ideal S8x2048x1024 .f32 := conv (m ((c.tc : Thread nD τ).loc main_arg0)) (m ((c.tc : Thread nD τ).loc main_arg1)) (m ((c.tc : Thread nD τ).loc main_arg2))

/-- The launch's logarithms of the decays. -/
def logM : FVec Ideal S8x2048x1024 .f32 := logDecay (gate (convM m c) (m ((c.tc : Thread nD τ).loc main_arg3)) (m ((c.tc : Thread nD τ).loc main_arg4))) (m ((c.tc : Thread nD τ).loc main_arg7))

/-- The launch's decays, step by step. -/
def decayM : FVec Ideal S2048x8x1024 .f32 := transpose S2048x8x1024 [1, 0, 2] (Host.exp (logM m c)) transposes_S8x2048x1024_S2048x8x1024_1_0_2

/-- The launch's inputs, step by step. -/
def inputM : FVec Ideal S2048x8x1024 .f32 := transpose S2048x8x1024 [1, 0, 2] (input (convM m c) (gate (convM m c) (m ((c.tc : Thread nD τ).loc main_arg5)) (m ((c.tc : Thread nD τ).loc main_arg6))) (logM m c)) transposes_S8x2048x1024_S2048x8x1024_1_0_2

set_option maxHeartbeats 2000000 in
/-- The loop starts from the decays. -/
theorem entry_decay : entryContents preI m c (Proc.devRef .tc main_v77_0) = decayM m c := by
  simp only [entryContents, afterL_cons, afterL_nil]
  after_results_entrywise []

set_option maxHeartbeats 2000000 in
/-- And the inputs. -/
theorem entry_input : entryContents preI m c (Proc.devRef .tc main_v77_1) = inputM m c := by
  simp only [entryContents, afterL_cons, afterL_nil]
  after_results_entrywise []

/-- The state starts from zero. -/
theorem entry_state : entryContents preI m c (Proc.devRef .tc main_v77_3) = (broadcastInDim S8x1024 ![] bcast_S_S8x1024 (constant (F := Ideal) S_ .f32 0x00000000#32)) := by
  simp only [entryContents, afterL_cons, afterL_nil]
  after_results_entrywise []

/-- A row of the sequence, sliced at the loop's counter. -/
theorem slice_at (A : FVec Ideal S2048x8x1024 .f32) (k : ℕ) (hk : k < 2048) (start : Fin 3 → Int) (hs : ∀ a, start a = ((![k, 0, 0] : Fin 3 → ℕ) a : Int)) (b : Fin 8) (l : Fin 1024) :
    (shapeCast S8x1024 (Host.dynamicSlice S1x8x1024 A start sliceFits_S2048x8x1024_S1x8x1024) shapeCasts_S1x8x1024_S8x1024 : FVec Ideal S8x1024 .f32) (ix2 b l) = A (ix3 ⟨k, hk⟩ b l) := by
  have hf : S2048x8x1024.Slices (![k, 0, 0] : Fin 3 → ℕ) S1x8x1024 := ⟨rfl, fun a => by
    match a with
    | ⟨0, _⟩ => show k + 1 ≤ 2048; omega
    | ⟨1, _⟩ => show 0 + 8 ≤ 8; omega
    | ⟨2, _⟩ => show 0 + 1024 ≤ 1024; omega⟩
  rw [WordCmp.dynamicSlice_eq_extract S1x8x1024 A start sliceFits_S2048x8x1024_S1x8x1024 (![k, 0, 0] : Fin 3 → ℕ) hf hs]
  pointwise

/-- A row stored at the loop's counter. -/
theorem store_at (Y : FVec Ideal S2048x8x1024 .f32) (r : FVec Ideal S8x1024 .f32) (k : ℕ) (hk : k < 2048) (start : Fin 3 → Int) (hs : ∀ a, start a = ((![k, 0, 0] : Fin 3 → ℕ) a : Int)) (i : Fin 2048) (b : Fin 8) (l : Fin 1024) :
    (Host.dynamicUpdateSlice Y (broadcastInDim S1x8x1024 ![1, 2] bcast_S8x1024_S1x8x1024_1_2 r) start updateFits_S2048x8x1024_S1x8x1024 : FVec Ideal S2048x8x1024 .f32) (ix3 i b l) = if i.val = k then r (ix2 b l) else Y (ix3 i b l) := by
  have hf : S2048x8x1024.Slices (![k, 0, 0] : Fin 3 → ℕ) S1x8x1024 := ⟨rfl, fun a => by
    match a with
    | ⟨0, _⟩ => show k + 1 ≤ 2048; omega
    | ⟨1, _⟩ => show 0 + 8 ≤ 8; omega
    | ⟨2, _⟩ => show 0 + 1024 ≤ 1024; omega⟩
  rw [WordCmp.dynamicUpdateSlice_eq_update Y _ start updateFits_S2048x8x1024_S1x8x1024 (![k, 0, 0] : Fin 3 → ℕ) hf hs]
  pointwise
  split_ifs with h1 h2 h2
  · rfl
  · omega
  · omega
  · rfl

/-- The recurrence at a batch entry and a lane. -/
def state (b : Fin 8) (l : Fin 1024) (k : ℕ) : EReal :=
  Cert.Scan.recur (fun i => if h : i < 2048 then decayM m c (ix3 ⟨i, h⟩ b l) else 0) (fun i => if h : i < 2048 then inputM m c (ix3 ⟨i, h⟩ b l) else 0) k

/-- The loop's contents after `k` trips. -/
def afterTrips (k : ℕ) : Valuation τ sig (Elt Ideal) := STEP^[k] (entryContents preI m c)

/-- One more trip. -/
theorem afterTrips_succ (k : ℕ) : afterTrips m c (k + 1) = STEP (afterTrips m c k) := Function.iterate_succ_apply' ..

/-- The decays stay. -/
theorem trips_decay (k : ℕ) : afterTrips m c k (Proc.devRef .tc main_v77_0) = decayM m c := by
  induction k with
  | zero => exact entry_decay m c
  | succ k ih => rw [afterTrips_succ, STEP_main_v77_0, ih]

/-- The inputs stay. -/
theorem trips_input (k : ℕ) : afterTrips m c k (Proc.devRef .tc main_v77_1) = inputM m c := by
  induction k with
  | zero => exact entry_input m c
  | succ k ih => rw [afterTrips_succ, STEP_main_v77_1, ih]

/-- The counter counts. -/
theorem trips_count (k : ℕ) : afterTrips m c k (Proc.devRef .tc main_v77_2) = fun _ => BitVec.ofNat 32 k := by
  induction k with
  | zero => exact ctr_entry m c
  | succ k ih =>
    rw [afterTrips_succ, STEP_main_v77_2]
    unfold step_main_v77_2
    rw [ih]
    funext x
    show BitVec.ofNat 32 k + 1#32 = _
    rw [BitVec.ofNat_add]

/-- The start indices the counter gives. -/
theorem starts (k : ℕ) (hk : k < 2048) (a : Fin 3) :
    (((![afterTrips m c k (Proc.devRef .tc main_v77_2), constantI S_ 32 0#32, constantI S_ 32 0#32] : Fin 3 → (⟨S_, .i32⟩ : BufTy).Contents (Elt Ideal))) a (Shape.Idx.first h_S_)).toInt = ((![k, 0, 0] : Fin 3 → ℕ) a : Int) := by
  match a with
  | ⟨0, _⟩ =>
    show (afterTrips m c k (Proc.devRef .tc main_v77_2) (Shape.Idx.first h_S_)).toInt = (k : Int)
    rw [trips_count]
    exact WordCmp.toInt_ofNat_of_lt (by omega)
  | ⟨1, _⟩ => rfl
  | ⟨2, _⟩ => rfl

/-- One trip's state, of the state before. -/
theorem trip_state (k : ℕ) (hk : k < 2048) (b : Fin 8) (l : Fin 1024) :
    (res_main_while0b_v98 (afterTrips m c k) : FVec Ideal S8x1024 .f32) (ix2 b l)
      = decayM m c (ix3 ⟨k, hk⟩ b l) * (afterTrips m c k (Proc.devRef .tc main_v77_3) : FVec Ideal S8x1024 .f32) (ix2 b l) + inputM m c (ix3 ⟨k, hk⟩ b l) := by
  unfold res_main_while0b_v98
  refine congrArg₂ (· + ·) (congrArg (· * _) ?_) ?_
  · exact (slice_at _ k hk _ (starts m c k hk) b l).trans (congrFun (trips_decay m c k) _)
  · exact (slice_at _ k hk _ (starts m c k hk) b l).trans (congrFun (trips_input m c k) _)

/-- The carried state is the recurrence. -/
theorem trips_state (k : ℕ) (hk : k ≤ 2048) (b : Fin 8) (l : Fin 1024) :
    (afterTrips m c k (Proc.devRef .tc main_v77_3) : FVec Ideal S8x1024 .f32) (ix2 b l) = state m c b l k := by
  induction k with
  | zero =>
    refine (congrFun (entry_state m c) _).trans ?_
    pointwise [state, Cert.Scan.recur]
  | succ k ih =>
    rw [afterTrips_succ, STEP_main_v77_3]
    refine (trip_state m c k (by omega) b l).trans ?_
    rw [ih (by omega)]
    show _ = (if h : k < 2048 then decayM m c (ix3 ⟨k, h⟩ b l) else 0) * state m c b l k + (if h : k < 2048 then inputM m c (ix3 ⟨k, h⟩ b l) else 0)
    rw [dif_pos (by omega), dif_pos (by omega)]

/-- The collected states are the recurrence at every step done. -/
theorem trips_out (k : ℕ) (hk : k ≤ 2048) (i : Fin 2048) (hi : i.val < k) (b : Fin 8) (l : Fin 1024) :
    (afterTrips m c k (Proc.devRef .tc main_v77_4) : FVec Ideal S2048x8x1024 .f32) (ix3 i b l) = state m c b l (i.val + 1) := by
  induction k with
  | zero => omega
  | succ k ih =>
    rw [afterTrips_succ, STEP_main_v77_4]
    refine (store_at _ _ k (by omega) _ (starts m c k (by omega)) i b l).trans ?_
    split
    · rename_i e
      rw [e]
      refine Eq.trans ?_ (trips_state m c (k + 1) hk b l)
      rw [afterTrips_succ, STEP_main_v77_3]
      rfl
    · exact ih (by omega) (by omega)

/-- The gate branch: `x` times half of one plus the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- A decay of the launch. -/
theorem decay_at (s : Fin 2048) (b : Fin 8) (k : Fin 1024) :
    decayM m c (ix3 s b k) = Ideal.exp (logAt (gateAt (convAt (m ((c.tc : Thread nD τ).loc main_arg0)) (m ((c.tc : Thread nD τ).loc main_arg1)) (m ((c.tc : Thread nD τ).loc main_arg2)) b s) (m ((c.tc : Thread nD τ).loc main_arg3)) (m ((c.tc : Thread nD τ).loc main_arg4)) k) ((m ((c.tc : Thread nD τ).loc main_arg7) : FVec Ideal S1024 .f32) (ix1 k))) := by
  pointwise [decayM, logM, log_at, gate_at, convM, conv_at]

/-- An input of the launch. -/
theorem in_at (s : Fin 2048) (b : Fin 8) (k : Fin 1024) :
    inputM m c (ix3 s b k) = inputAt (convAt (m ((c.tc : Thread nD τ).loc main_arg0)) (m ((c.tc : Thread nD τ).loc main_arg1)) (m ((c.tc : Thread nD τ).loc main_arg2)) b s k)
      (gateAt (convAt (m ((c.tc : Thread nD τ).loc main_arg0)) (m ((c.tc : Thread nD τ).loc main_arg1)) (m ((c.tc : Thread nD τ).loc main_arg2)) b s) (m ((c.tc : Thread nD τ).loc main_arg5)) (m ((c.tc : Thread nD τ).loc main_arg6)) k)
      (logAt (gateAt (convAt (m ((c.tc : Thread nD τ).loc main_arg0)) (m ((c.tc : Thread nD τ).loc main_arg1)) (m ((c.tc : Thread nD τ).loc main_arg2)) b s) (m ((c.tc : Thread nD τ).loc main_arg3)) (m ((c.tc : Thread nD τ).loc main_arg4)) k) ((m ((c.tc : Thread nD τ).loc main_arg7) : FVec Ideal S1024 .f32) (ix1 k))) := by
  pointwise [inputM, input_at, logM, log_at, gate_at, convM, conv_at]

/-- The result, of the contents the loop leaves. -/
theorem out_at (V : Valuation τ sig (Elt Ideal)) (a0 : FVec Ideal S8x2048x2048 .f32) (h0 : V (Proc.devRef .tc main_arg0) = a0) (b : Fin 8) (s : Fin 2048) (k : Fin 1024) (x : EReal)
    (h4 : (V (Proc.devRef .tc main_v77_4) : FVec Ideal S2048x8x1024 .f32) (ix3 s b k) = x) :
    (out_main_v94 V : FVec Ideal S8x2048x1024 .bf16) (ix3 b s k) = x * gelu (a0 (ix3 b s ⟨1024 + k.val, by omega⟩)) := by
  unfold out_main_v94
  rw [h0]
  pointwise [gelu]
  exact congrArg (· * _) h4

/-- The contents the loop leaves are those after its trips. -/
theorem iterate_eq (k : ℕ) : STEP^[k] (entryContents preI m c) = afterTrips m c k := rfl

/-- The layer's own value, entry by entry: the recurrence's state times the gate branch. -/
theorem result_at (b : Fin 8) (s : Fin 2048) (k : Fin 1024) :
    (out_main_v94 (STEP^[2048] (entryContents preI m c)) : FVec Ideal S8x2048x1024 .bf16) (ix3 b s k)
      = state m c b k (s.val + 1) * gelu ((m ((c.tc : Thread nD τ).loc main_arg0) : FVec Ideal S8x2048x2048 .f32) (ix3 b s ⟨1024 + k.val, by omega⟩)) := by
  refine out_at _ _ (iter_main_arg0 m c 2048) b s k _ ?_
  rw [iterate_eq]
  exact trips_out m c 2048 le_rfl s s.isLt b k

/-- The decay at a batch entry, a step and a lane. -/
def decayAt (a0 : FVec Ideal S8x2048x2048 .f32) (a1 : FVec Ideal S4x1024 .f32) (a2 : FVec Ideal S1024 .f32) (a3 : FVec Ideal S8x128x128 .f32) (a4 : FVec Ideal S1024 .f32) (a5 : FVec Ideal S8x128x128 .f32) (a6 a7 : FVec Ideal S1024 .f32) (b : Fin 8) (s : Fin 2048) (k : Fin 1024) : EReal :=
  Ideal.exp (logAt (gateAt (convAt a0 a1 a2 b s) a3 a4 k) (a7 (ix1 k)))

/-- The recurrence's input there. -/
def inAt (a0 : FVec Ideal S8x2048x2048 .f32) (a1 : FVec Ideal S4x1024 .f32) (a2 : FVec Ideal S1024 .f32) (a3 : FVec Ideal S8x128x128 .f32) (a4 : FVec Ideal S1024 .f32) (a5 : FVec Ideal S8x128x128 .f32) (a6 a7 : FVec Ideal S1024 .f32) (b : Fin 8) (s : Fin 2048) (k : Fin 1024) : EReal :=
  inputAt (convAt a0 a1 a2 b s k) (gateAt (convAt a0 a1 a2 b s) a5 a6 k) (logAt (gateAt (convAt a0 a1 a2 b s) a3 a4 k) (a7 (ix1 k)))

/-- The layer's value there: the state after the step, times the gate branch. -/
def valueAt (a0 : FVec Ideal S8x2048x2048 .f32) (a1 : FVec Ideal S4x1024 .f32) (a2 : FVec Ideal S1024 .f32) (a3 : FVec Ideal S8x128x128 .f32) (a4 : FVec Ideal S1024 .f32) (a5 : FVec Ideal S8x128x128 .f32) (a6 a7 : FVec Ideal S1024 .f32) (b : Fin 8) (s : Fin 2048) (k : Fin 1024) : EReal :=
  Cert.Scan.recur (fun i => if h : i < 2048 then decayAt a0 a1 a2 a3 a4 a5 a6 a7 b ⟨i, h⟩ k else 0) (fun i => if h : i < 2048 then inAt a0 a1 a2 a3 a4 a5 a6 a7 b ⟨i, h⟩ k else 0) (s.val + 1)
    * gelu (a0 (ix3 b s ⟨1024 + k.val, by omega⟩))

/-- The layer's value. -/
def value (a0 : FVec Ideal S8x2048x2048 .f32) (a1 : FVec Ideal S4x1024 .f32) (a2 : FVec Ideal S1024 .f32) (a3 : FVec Ideal S8x128x128 .f32) (a4 : FVec Ideal S1024 .f32) (a5 : FVec Ideal S8x128x128 .f32) (a6 a7 : FVec Ideal S1024 .f32) : FVec Ideal S8x2048x1024 .bf16 := fun y => valueAt a0 a1 a2 a3 a4 a5 a6 a7 (y 0) (y 1) (y 2)

/-- What the program returns is the layer's value of its arguments. -/
theorem result : (out_main_v94 (STEP^[2048] (entryContents preI m c)) : FVec Ideal S8x2048x1024 .bf16) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext y
  have hy : (ix3 (y 0) (y 1) (y 2) : S8x2048x1024.Idx) = y := by
    funext a
    match a with
    | ⟨0, _⟩ => rfl
    | ⟨1, _⟩ => rfl
    | ⟨2, _⟩ => rfl
  have e := result_at m c (y 0) (y 1) (y 2)
  rw [hy] at e
  refine e.trans ?_
  unfold value valueAt state
  refine congrArg (· * _) (congrArg₂ (fun f g => Cert.Scan.recur f g ((y 1).val + 1)) (funext fun i => ?_) (funext fun i => ?_))
  · split
    · exact decay_at m c _ _ _
    · rfl
  · split
    · exact in_at m c _ _ _
    · rfl

/-- Every run of the program ends with the layer's value in its result and leaves its arguments. -/
theorem run_value (g : Dev nD → PrngReg) : θ_run (defs (F := Ideal)) (onTc (τ := τ) (main (F := Ideal))) ⟨m, fun _ => 0, g⟩ fun r => ∀ c : Dev nD,
    r.2.mem ((c.tc : Thread nD τ).loc main_v94) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (result m c), (h c).2⟩) (run m g)

end Cert.LruRefIdeal

end
-- ==== Proof.Lru.lean ====
/-
  The recurrence's kernel: its convolution, gates, decays and inputs are the layer's, and so is the result its scan leaves.
-/
module

public import proofs.«01_k».proof.Proof.LruScan
public import proofs.«01_k».proof.Proof.LruRef

@[expose] public section

set_option maxRecDepth 16384

noncomputable section

open Idealize.ShloMosaic Idealize.ShloMosaic.TcCoe Idealize.SL.Sem

namespace Cert.LruIdeal.Scan

open Cert.LruIdeal Cert.LruIdeal.Gen
open Cert.LruRefIdeal (before convAt gateAt rateAt logAt inputAt gelu decayAt inAt valueAt value)

/-- The decays' constant. -/
theorem eight_word : Ideal.ofBits .f32 0xC1000000#32 = ((-(8 : ℝ) : ℝ) : EReal) := by
  simp [Ideal.ofBits, Ideal.ieee, -EReal.coe_mul, -EReal.coe_neg]; norm_num

/-- The inputs' constant. -/
theorem two_word : Ideal.ofBits .f32 0x40000000#32 = ((2 : ℝ) : EReal) := by
  simp [Ideal.ofBits, Ideal.ieee, -EReal.coe_mul]; norm_num

/-- The exponential is at least zero. -/
theorem exp_nonneg (x : EReal) : 0 ≤ Ideal.exp x := by
  induction x with
  | bot => exact le_rfl
  | top => exact le_top
  | coe r => exact EReal.coe_nonneg.mpr (Real.exp_pos r).le

/-- It is finite below infinity. -/
theorem exp_ne_top (x : EReal) (h : x ≠ ⊤) : Ideal.exp x ≠ ⊤ := by
  induction x with
  | bot => exact EReal.zero_ne_top
  | top => exact absurd rfl h
  | coe r => exact EReal.coe_ne_top _

/-- Its square is the exponential of the double. -/
theorem exp_sq (x : EReal) : Ideal.exp x * Ideal.exp x = Ideal.exp (Ideal.ofBits .f32 0x40000000#32 * x) := by
  rw [two_word]
  induction x with
  | bot =>
    rw [EReal.coe_mul_bot_of_pos (by norm_num)]
    simp
  | top =>
    rw [EReal.coe_mul_top_of_pos (by norm_num)]
    simp
  | coe r =>
    rw [← EReal.coe_mul, Ideal.exp_coe, Ideal.exp_coe, ← EReal.coe_mul, ← Real.exp_add, two_mul]

/-- The logistic function is at least zero. -/
theorem logistic_nonneg (x : EReal) : 0 ≤ Ideal.logistic x := by
  induction x with
  | bot => simp
  | top => simp
  | coe r =>
    rw [Ideal.logistic_coe]
    exact EReal.coe_nonneg.mpr (inv_nonneg.mpr (by have := Real.exp_pos (-r); linarith))

/-- The logarithm of one plus an exponential is at least zero. -/
theorem log1p_exp_nonneg (x : EReal) : 0 ≤ Ideal.log1p (Ideal.exp x) := by
  unfold Ideal.log1p
  induction x with
  | bot =>
    rw [Ideal.exp_bot, add_zero, ← EReal.coe_one, Ideal.log_coe, if_neg (by norm_num), Real.log_one]
    exact le_rfl
  | top =>
    rw [Ideal.exp_top, ← EReal.coe_one, EReal.coe_add_top, Ideal.log_top]
    exact le_top
  | coe r =>
    have hp := Real.exp_pos r
    rw [Ideal.exp_coe, ← EReal.coe_one, ← EReal.coe_add, Ideal.log_coe, if_neg (by linarith)]
    exact EReal.coe_nonneg.mpr (Real.log_nonneg (by linarith))

/-- The rate is at least zero. -/
theorem rate_nonneg (x : EReal) : 0 ≤ rateAt x :=
  add_nonneg (le_max_right _ _) (log1p_exp_nonneg _)

/-- A negative multiple of a number at least zero is not infinite. -/
theorem neg_mul_ne_top (x : EReal) (h : 0 ≤ x) : Ideal.ofBits .f32 0xC1000000#32 * x ≠ ⊤ := by
  rw [eight_word]
  induction x with
  | bot => exact absurd h (by simp)
  | top =>
    rw [EReal.coe_mul_top_of_neg (by norm_num)]
    exact bot_ne_top
  | coe r =>
    rw [← EReal.coe_mul]
    exact EReal.coe_ne_top _

/-- The logarithm of a decay is not infinite. -/
theorem log_ne_top (x z : EReal) : logAt (Ideal.logistic x) z ≠ ⊤ := by
  unfold logAt
  rw [mul_assoc]
  exact neg_mul_ne_top _ (mul_nonneg (logistic_nonneg x) (rate_nonneg z))

/-- The kernel's decays, entry by entry. -/
theorem decay_of (u : FVec Ideal S2048x128 .bf16) (w : Vec Ideal S1x128x128 .bf16) (b z : Vec Ideal S1x128 .f32) (s : Fin 2048) (l : Fin 128) :
    k0_pay6 u w b z (ix2 s l) = Ideal.exp (logAt (Ideal.logistic ((∑ e : Fin 128, u (ix2 s e) * w (ix3 0 e l)) + b (ix2 0 l))) (z (ix2 0 l))) := by
  pointwise [k0_pay6, logAt, rateAt]
  simp only [zero_sub]

/-- The kernel's inputs, entry by entry. -/
theorem input_of (v : FVec Ideal S2048x128 .f32) (u : FVec Ideal S2048x128 .bf16) (w : Vec Ideal S1x128x128 .bf16) (b : Vec Ideal S1x128 .f32) (w' : Vec Ideal S1x128x128 .bf16) (b' z : Vec Ideal S1x128 .f32) (s : Fin 2048) (l : Fin 128) :
    k0_pay7 v u w b w' b' z (ix2 s l)
      = inputAt (v (ix2 s l)) (Ideal.logistic ((∑ e : Fin 128, u (ix2 s e) * w' (ix3 0 e l)) + b' (ix2 0 l))) (logAt (Ideal.logistic ((∑ e : Fin 128, u (ix2 s e) * w (ix3 0 e l)) + b (ix2 0 l))) (z (ix2 0 l))) := by
  pointwise [k0_pay7, inputAt, decay_of]
  rw [exp_sq]

/-- The gate branch, entry by entry. -/
theorem out_of (h : FVec Ideal S2048x128 .f32) (g : Vec Ideal S1x2048x128 .f32) (s : Fin 2048) (l : Fin 128) :
    k0_pay1 (k0_pay41 h g) (ix3 0 s l) = h (ix2 s l) * gelu (g (ix3 0 s l)) := by
  have e : g (ix3 0 s l) * (g (ix3 0 s l) * g (ix3 0 s l)) = g (ix3 0 s l) * g (ix3 0 s l) * g (ix3 0 s l) := (mul_assoc _ _ _).symm
  pointwise [k0_pay1, k0_pay41, gelu]
  rw [e]

/-- The windows' blocks at a grid point. -/
theorem idx : ∀ t : Fin cfg0.N, win0_0.index t = ![t.val / 8, 0, t.val % 8] ∧ win0_1.index t = ![t.val / 8, 0, t.val % 8 + 8] ∧ win0_2.index t = ![0, t.val % 8]
    ∧ win0_3.index t = ![0, t.val % 8] ∧ win0_4.index t = ![t.val % 8, 0, 0] ∧ win0_5.index t = ![0, t.val % 8] ∧ win0_6.index t = ![t.val % 8, 0, 0]
    ∧ win0_7.index t = ![0, t.val % 8] ∧ win0_8.index t = ![0, t.val % 8] ∧ win0_9.index t = ![t.val / 8, 0, t.val % 8] ∧ t.val < 64 :=
  (by decide +kernel : ∀ t : Fin grid0.N, _)

/-- The grid has 64 points. -/
theorem lt_64 (t : Fin cfg0.N) : t.val < 64 := (idx t).2.2.2.2.2.2.2.2.2.2

/-- The batch entry of a grid point. -/
def entryOf (t : Fin cfg0.N) : Fin 8 := ⟨t.val / 8, by have := lt_64 t; omega⟩

/-- A grid point's lane among all. -/
def laneOf (t : Fin cfg0.N) (l : Fin 128) : Fin 1024 := ⟨t.val % 8 * 128 + l.val, by omega⟩

variable (m : (ℓ : Loc nD τ sig) → Buf (Elt Ideal) ℓ)

/-- The sequence's block, some steps earlier. -/
theorem before_at (c : Dev nD) (t : Fin cfg0.N) (d : ℕ) (s : Fin 2048) (l : Fin 128) :
    earlier d 0 (k0_pay3 (iblk m c 0 t)) (ix2 s l) = before (m ((c : Thread nD τ).loc main_arg0)) (entryOf t) s (laneOf t l) d := by
  have h : ∀ s' : Fin 2048, (k0_pay3 (iblk m c 0 t) : FVec Ideal S2048x128 .f32) (ix2 s' l) = m ((c : Thread nD τ).loc main_arg0) (ix3 (entryOf t) s' ⟨(laneOf t l).val, by have := (laneOf t l).isLt; omega⟩) := by
    intro s'
    pointwise [k0_pay3]
    blk_point [iblk, V, idx t, entryOf, laneOf]
  unfold earlier before
  show (if d ≤ s.val then _ else _) = _
  split
  · exact h _
  · rfl

/-- The kernel adds the bias first and the newest step next. -/
theorem order (z p q r w : EReal) : z + w + p + q + r = p + q + r + w + z := by
  ac_rfl

/-- The taps. -/
theorem tap_at (c : Dev nD) (t : Fin cfg0.N) (i : Fin 4) (l : Fin 128) : iblk m c 2 t (ix2 i l) = m ((c : Thread nD τ).loc main_arg1) (ix2 i (laneOf t l)) := by
  blk_point [iblk, V, idx t, laneOf]

/-- The convolution's bias. -/
theorem bias_at (c : Dev nD) (t : Fin cfg0.N) (l : Fin 128) : iblk m c 3 t (ix2 0 l) = m ((c : Thread nD τ).loc main_arg2) (ix1 (laneOf t l)) := by
  blk_point [iblk, V, idx t, laneOf]

/-- The first gate's weights. -/
theorem weight_at (c : Dev nD) (t : Fin cfg0.N) (e l : Fin 128) : iblk m c 4 t (ix3 0 e l) = m ((c : Thread nD τ).loc main_arg3) (ix3 ⟨t.val % 8, by omega⟩ e l) := by
  blk_point [iblk, V, idx t]

/-- And its bias. -/
theorem shift_at (c : Dev nD) (t : Fin cfg0.N) (l : Fin 128) : iblk m c 5 t (ix2 0 l) = m ((c : Thread nD τ).loc main_arg4) (ix1 (laneOf t l)) := by
  blk_point [iblk, V, idx t, laneOf]

/-- The second gate's weights. -/
theorem weight_at' (c : Dev nD) (t : Fin cfg0.N) (e l : Fin 128) : iblk m c 6 t (ix3 0 e l) = m ((c : Thread nD τ).loc main_arg5) (ix3 ⟨t.val % 8, by omega⟩ e l) := by
  blk_point [iblk, V, idx t]

/-- And its bias. -/
theorem shift_at' (c : Dev nD) (t : Fin cfg0.N) (l : Fin 128) : iblk m c 7 t (ix2 0 l) = m ((c : Thread nD τ).loc main_arg6) (ix1 (laneOf t l)) := by
  blk_point [iblk, V, idx t, laneOf]

/-- The decays' parameter. -/
theorem param_at (c : Dev nD) (t : Fin cfg0.N) (l : Fin 128) : iblk m c 8 t (ix2 0 l) = m ((c : Thread nD τ).loc main_arg7) (ix1 (laneOf t l)) := by
  blk_point [iblk, V, idx t, laneOf]

/-- The gate branch's block. -/
theorem branch_at (c : Dev nD) (t : Fin cfg0.N) (s : Fin 2048) (l : Fin 128) : iblk m c 1 t (ix3 0 s l) = m ((c : Thread nD τ).loc main_arg0) (ix3 (entryOf t) s ⟨1024 + (laneOf t l).val, by have := (laneOf t l).isLt; omega⟩) := by
  blk_point [iblk, V, idx t, entryOf, laneOf]

/-- The kernel's convolution is the layer's. -/
theorem conv_at (c : Dev nD) (t : Fin cfg0.N) (s : Fin 2048) (l : Fin 128) :
    convT m c t (ix2 s l) = convAt (m ((c : Thread nD τ).loc main_arg0)) (m ((c : Thread nD τ).loc main_arg1)) (m ((c : Thread nD τ).loc main_arg2)) (entryOf t) s (laneOf t l) := by
  unfold convAt
  rw [← before_at m c t 3 s l, ← before_at m c t 2 s l, ← before_at m c t 1 s l, ← before_at m c t 0 s l, ← tap_at m c t 0 l, ← tap_at m c t 1 l, ← tap_at m c t 2 l, ← tap_at m c t 3 l, ← bias_at m c t l, ← order]
  unfold convT
  generalize earlier 0 0 (k0_pay3 (iblk m c 0 t)) = x0
  generalize earlier 1 0 (k0_pay3 (iblk m c 0 t)) = x1
  generalize earlier 2 0 (k0_pay3 (iblk m c 0 t)) = x2
  generalize earlier 3 0 (k0_pay3 (iblk m c 0 t)) = x3
  generalize iblk m c 2 t = w
  generalize iblk m c 3 t = z
  pointwise [k0_pay4]

/-- Its rounding is the same number. -/
theorem round_at (c : Dev nD) (t : Fin cfg0.N) (s : Fin 2048) (l : Fin 128) :
    roundT m c t (ix2 s l) = convAt (m ((c : Thread nD τ).loc main_arg0)) (m ((c : Thread nD τ).loc main_arg1)) (m ((c : Thread nD τ).loc main_arg2)) (entryOf t) s (laneOf t l) :=
  conv_at m c t s l

/-- A gate of the kernel is the layer's. -/
theorem gate_of (c : Dev nD) (t : Fin cfg0.N) (W : Vec Ideal S1x128x128 .bf16) (B : Vec Ideal S1x128 .f32) (w : FVec Ideal S8x128x128 .f32) (b : FVec Ideal S1024 .f32)
    (hW : ∀ e l : Fin 128, W (ix3 0 e l) = w (ix3 ⟨t.val % 8, by omega⟩ e l)) (hB : ∀ l : Fin 128, B (ix2 0 l) = b (ix1 (laneOf t l))) (s : Fin 2048) (l : Fin 128) :
    Ideal.logistic ((∑ e : Fin 128, roundT m c t (ix2 s e) * W (ix3 0 e l)) + B (ix2 0 l))
      = gateAt (convAt (m ((c : Thread nD τ).loc main_arg0)) (m ((c : Thread nD τ).loc main_arg1)) (m ((c : Thread nD τ).loc main_arg2)) (entryOf t) s) w b (laneOf t l) := by
  unfold gateAt
  have hd : (laneOf t l).val / 128 = t.val % 8 := by show (t.val % 8 * 128 + l.val) / 128 = _; omega
  have hm : (laneOf t l).val % 128 = l.val := by show (t.val % 8 * 128 + l.val) % 128 = _; omega
  rw [hB l]
  refine congrArg (fun z => Ideal.logistic (z + _)) (Finset.sum_congr rfl fun e _ => ?_)
  rw [hW e l, round_at, mul_comm]
  simp only [hd, hm]
  rfl

/-- The kernel's decays are the layer's. -/
theorem decay_at (c : Dev nD) (t : Fin cfg0.N) (s : Fin 2048) (l : Fin 128) :
    k0_pay6 (roundT m c t) (iblk m c 4 t) (iblk m c 5 t) (iblk m c 8 t) (ix2 s l)
      = decayAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (entryOf t) s (laneOf t l) := by
  refine (decay_of _ _ _ _ s l).trans ?_
  rw [gate_of m c t _ _ _ _ (weight_at m c t) (shift_at m c t) s l, param_at]
  rfl

/-- The kernel's inputs are the layer's. -/
theorem input_at (c : Dev nD) (t : Fin cfg0.N) (s : Fin 2048) (l : Fin 128) :
    k0_pay7 (convT m c t) (roundT m c t) (iblk m c 4 t) (iblk m c 5 t) (iblk m c 6 t) (iblk m c 7 t) (iblk m c 8 t) (ix2 s l)
      = inAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (entryOf t) s (laneOf t l) := by
  refine (input_of _ _ _ _ _ _ _ s l).trans ?_
  rw [gate_of m c t _ _ _ _ (weight_at m c t) (shift_at m c t) s l, gate_of m c t _ _ _ _ (weight_at' m c t) (shift_at' m c t) s l, param_at, conv_at]
  rfl

/-- The kernel's decays are at least zero. -/
theorem decay_nonneg (u : FVec Ideal S2048x128 .bf16) (w : Vec Ideal S1x128x128 .bf16) (b z : Vec Ideal S1x128 .f32) (y : S2048x128.Idx) : 0 ≤ k0_pay6 u w b z y := by
  have hy : (ix2 (y 0) (y 1) : S2048x128.Idx) = y := by
    funext a
    match a with
    | ⟨0, _⟩ => rfl
    | ⟨1, _⟩ => rfl
  have e := decay_of u w b z (y 0) (y 1)
  rw [hy] at e
  rw [e]
  exact exp_nonneg _

/-- And finite. -/
theorem decay_ne_top (u : FVec Ideal S2048x128 .bf16) (w : Vec Ideal S1x128x128 .bf16) (b z : Vec Ideal S1x128 .f32) (y : S2048x128.Idx) : k0_pay6 u w b z y ≠ ⊤ := by
  have hy : (ix2 (y 0) (y 1) : S2048x128.Idx) = y := by
    funext a
    match a with
    | ⟨0, _⟩ => rfl
    | ⟨1, _⟩ => rfl
  have e := decay_of u w b z (y 0) (y 1)
  rw [hy] at e
  rw [e]
  exact exp_ne_top _ (log_ne_top _ _)

/-- A grid point's block of the result is the layer's. -/
theorem out_at (c : Dev nD) (t : Fin cfg0.N) (s : Fin 2048) (l : Fin 128) :
    ((dats m 0 c).after 9 t : FVec Ideal S1x2048x128 .bf16) (ix3 0 s l)
      = valueAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (entryOf t) s (laneOf t l) := by
  rw [stored, out_of, branch_at, scanB_eq _ _ l (decay_nonneg _ _ _ _) (decay_ne_top _ _ _ _) s]
  unfold valueAt lane
  refine congrArg (· * _) (congrArg₂ (fun f g => Cert.Scan.recur f g (s.val + 1)) (funext fun i => ?_) (funext fun i => ?_))
  · split
    · exact decay_at m c t _ l
    · rfl
  · split
    · exact input_at m c t _ l
    · rfl

/-- The result array is the layer's. -/
theorem final (c : Dev nD) : (dats m 0 c).arrAt 9 (cfgs 0).N = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have hN := lt_64 t
  have hy : (ix3 0 (y 1) (y 2) : S1x2048x128.Idx) = y := by
    funext a
    match a with
    | ⟨0, _⟩ =>
      have h0 : (y 0).val < 1 := (y 0).isLt
      exact Fin.ext (show 0 = (y 0).val by omega)
    | ⟨1, _⟩ => rfl
    | ⟨2, _⟩ => rfl
  have e := out_at m c t (y 1) (y 2)
  rw [hy] at e
  blk_simp
  refine e.trans ?_
  have y0 : (y 0).val < 1 := (y 0).isLt
  show value _ _ _ _ _ _ _ _ (ix3 (entryOf t) (y 1) (laneOf t (y 2)) : S8x2048x1024.Idx) = _
  refine congrArg _ (funext fun a => Fin.ext ?_)
  match a with
  | ⟨0, _⟩ =>
    blk_simp [idx t, entryOf]
  | ⟨1, _⟩ =>
    blk_simp [idx t]
    rfl
  | ⟨2, _⟩ =>
    blk_simp [idx t, laneOf]
    rfl

end Cert.LruIdeal.Scan

end
-- ==== Proof.ClaimLru.lean ====
/-
  The claims of the gated linear recurrence: its programs end, and the kernel's results are the layer's.
-/
module

public import proofs.«01_k».proof.Defs
public import proofs.«01_k».proof.Proof.Gen.Lru
public import proofs.«01_k».proof.Proof.Gen.Lru.Frame
public import proofs.«01_k».proof.Proof.Gen.LruIdeal
public import proofs.«01_k».proof.Proof.Gen.LruIdeal.Frame
public import proofs.«01_k».proof.Proof.Gen.LruIdeal.Value
public import proofs.«01_k».proof.Proof.Gen.LruRefIdeal
public import proofs.«01_k».proof.Proof.Gen.LruRefIdeal.Run
public import proofs.«01_k».proof.Proof.Lru
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the gated linear recurrence ends and leaves its arguments. -/
theorem quiescent_Lru : Cert.quiescent_Lru (hLru := Cert.Lru.Gen.facts) := fun m g _ => Cert.Lru.Gen.frame m g

/-- So does the kernel over the reals. -/
theorem quiescent_LruIdeal : Cert.quiescent_LruIdeal (hLruIdeal := Cert.LruIdeal.Gen.facts) := fun m g _ => Cert.LruIdeal.Gen.frame m g

/-- So does the layer's own text. -/
theorem quiescent_LruRefIdeal : Cert.quiescent_LruRefIdeal (hLruRefIdeal := Cert.LruRefIdeal.Gen.facts) := fun m g _ =>
  (θ_run Cert.LruRefIdeal.defs _ _).mono (fun r h => ⟨fun c => (h c).2, sem_eq_zero_of_no_sems (by decide) r.2⟩) (Cert.LruRefIdeal.Value.run m g)

/-- The kernel's results over the reals are those of the layer's text. -/
theorem algebraic_LruIdeal_LruRefIdeal : Cert.algebraic_LruIdeal_LruRefIdeal (hLruIdeal := Cert.LruIdeal.Gen.facts) (hLruRefIdeal := Cert.LruRefIdeal.Gen.facts) := by
  pair_intro
  · run_from Cert.LruIdeal.Gen.run_main m g
  · run_from Cert.LruRefIdeal.run_value m' g'
    exact (Cert.LruIdeal.Scan.final m c).symm

end Cert.Proof

end
-- ==== Proof.Merge.lean ====
/-
  The merge of the four branches: the kernel's tiles of sigmoid-gated products are the tiles of the gated sum.
-/
module

public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem

namespace Cert.MergeRefIdeal

open Cert.MergeRefIdeal.Gen

/-- The gates: the logistic function of the projection of `h`, split into four groups of columns. -/
def gates (a0 : FVec Ideal S16384x2048 .bf16) (a5 : FVec Ideal S2048x8192 .f32) : FVec Ideal S16384x4x2048 .f32 :=
  shapeCast _ (Host.divf (broadcastInDim S16384x8192 ![] bcast_S_S16384x8192 (constant S_ .f32 0x3F800000#32)) (addf (broadcastInDim S16384x8192 ![] bcast_S_S16384x8192 (constant S_ .f32 0x3F800000#32)) (Host.exp (Host.negf (Host.dotGeneral dot_S16384x2048_S2048x8192_S16384x8192_1_0_0_1_n_n none (extf .f32 a0 bitsLt_bf16_f32) a5))))) shapeCasts_S16384x8192_S16384x4x2048

/-- The gated sum of the four branches' projections. -/
def gatedSum (a0 : FVec Ideal S16384x2048 .bf16) (a1 : FVec Ideal S16384x1024 .bf16) (a2 : FVec Ideal S16384x512 .bf16)
    (a3 : FVec Ideal S16384x1024 .bf16) (a4 : FVec Ideal S16384x1024 .bf16) (a5 : FVec Ideal S2048x8192 .f32)
    (a6 : FVec Ideal S1024x2048 .f32) (a7 : FVec Ideal S512x2048 .f32) (a8 : FVec Ideal S1024x2048 .f32)
    (a9 : FVec Ideal S1024x2048 .f32) : FVec Ideal S16384x2048 .bf16 :=
  truncf .bf16 (addf (addf (addf (mulf (shapeCast _ (extractStridedSlice S16384x1x2048 ![0, 0, 0] (gates a0 a5) slices_S16384x4x2048_S16384x1x2048_0_0_0) shapeCasts_S16384x1x2048_S16384x2048) (Host.dotGeneral dot_S16384x1024_S1024x2048_S16384x2048_1_0_0_1_n_n none (extf .f32 a1 bitsLt_bf16_f32) a6)) (mulf (shapeCast _ (extractStridedSlice S16384x1x2048 ![0, 1, 0] (gates a0 a5) slices_S16384x4x2048_S16384x1x2048_0_1_0) shapeCasts_S16384x1x2048_S16384x2048) (Host.dotGeneral dot_S16384x512_S512x2048_S16384x2048_1_0_0_1_n_n none (extf .f32 a2 bitsLt_bf16_f32) a7))) (mulf (shapeCast _ (extractStridedSlice S16384x1x2048 ![0, 2, 0] (gates a0 a5) slices_S16384x4x2048_S16384x1x2048_0_2_0) shapeCasts_S16384x1x2048_S16384x2048) (Host.dotGeneral dot_S16384x1024_S1024x2048_S16384x2048_1_0_0_1_n_n none (extf .f32 a3 bitsLt_bf16_f32) a8))) (mulf (shapeCast _ (extractStridedSlice S16384x1x2048 ![0, 3, 0] (gates a0 a5) slices_S16384x4x2048_S16384x1x2048_0_3_0) shapeCasts_S16384x1x2048_S16384x2048) (Host.dotGeneral dot_S16384x1024_S1024x2048_S16384x2048_1_0_0_1_n_n none (extf .f32 a4 bitsLt_bf16_f32) a9))) bitsLt_bf16_f32

end Cert.MergeRefIdeal

namespace Cert.MergeIdeal.Merge

open Cert.MergeIdeal Cert.MergeIdeal.Gen Cert.MergeRefIdeal

variable (m : (ℓ : Loc nD τ sig) → Buf (Elt Ideal) ℓ)

/-- Where each operand's block sits at a grid point. -/
theorem idx : ∀ t : Fin cfg0.N, win0_0.index t = ![t.val / 8, 0] ∧ win0_1.index t = ![t.val / 8, 0]
    ∧ win0_2.index t = ![t.val / 8, 0] ∧ win0_3.index t = ![t.val / 8, 0] ∧ win0_4.index t = ![t.val / 8, 0]
    ∧ win0_5.index t = ![0, t.val % 8] ∧ win0_6.index t = ![0, 8 + t.val % 8] ∧ win0_7.index t = ![0, 16 + t.val % 8]
    ∧ win0_8.index t = ![0, 24 + t.val % 8] ∧ win0_9.index t = ![0, t.val % 8] ∧ win0_10.index t = ![0, t.val % 8]
    ∧ win0_11.index t = ![0, t.val % 8] ∧ win0_12.index t = ![0, t.val % 8] ∧ win0_13.index t = ![t.val / 8, t.val % 8]
    ∧ t.val / 8 < 16 :=
  (by decide +kernel : ∀ t : Fin grid0.N, _)

set_option maxHeartbeats 1600000 in
/-- What the body stores at a place of a tile is the gated sum at the tile's place in the array. -/
theorem point (c : Dev nD) (t : Fin cfg0.N) (y) :
    k0_pay1 (iblk m c 0 t) (k0_pay2 (iblk m c 0 t) (iblk m c 5 t) (iblk m c 1 t) (iblk m c 9 t) (iblk m c 6 t) (iblk m c 2 t)
        (iblk m c 10 t) (iblk m c 7 t) (iblk m c 3 t) (iblk m c 11 t)) (iblk m c 8 t) (iblk m c 4 t) (iblk m c 12 t) y
      = gatedSum (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (((cfg0.win 13).blk t).view.emb y) := by
  pointwise [k0_pay1, k0_pay2, gatedSum, gates]
  simp only [Ideal.logistic]
  blk_point [iblk, V, idx t]

/-- The kernel's result array is the gated sum. -/
theorem final (c : Dev nD) : (dats m 0 c).arrAt 13 (cfgs 0).N
    = gatedSum (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (dats m 0 c).arrAt_eq_of_covers 13 _ (by decide +kernel) fun t _ y => ?_
  blk_simp
  rw [after0_13]
  frame_out
  exact point m c t y

end Cert.MergeIdeal.Merge

end
-- ==== Proof.ClaimMerge.lean ====
/-
  The claims of the merged branches: its programs end, and the kernel's results are the layer's.
-/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Merge
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the merged branches ends and leaves its arguments. -/
theorem quiescent_Merge : Cert.quiescent_Merge (hMerge := Cert.Merge.Gen.facts) := fun m g _ => Cert.Merge.Gen.frame m g

/-- So does the kernel over the reals. -/
theorem quiescent_MergeIdeal : Cert.quiescent_MergeIdeal (hMergeIdeal := Cert.MergeIdeal.Gen.facts) := fun m g _ => Cert.MergeIdeal.Gen.frame m g

/-- So does the layer's own text. -/
theorem quiescent_MergeRefIdeal : Cert.quiescent_MergeRefIdeal (hMergeRefIdeal := Cert.MergeRefIdeal.Gen.facts) := fun m g _ =>
  (θ_run Cert.MergeRefIdeal.defs _ _).mono (fun r h => ⟨fun c => (h c).2, sem_eq_zero_of_no_sems (by decide) r.2⟩) (Cert.MergeRefIdeal.Value.run m g)

/-- The kernel's results over the reals are those of the layer's text. -/
theorem algebraic_MergeIdeal_MergeRefIdeal : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    exact (Cert.MergeIdeal.Merge.final m c).symm

end Cert.Proof

end
-- ==== Proof.Ffn.lean ====
/-
  The feed-forward block's up projection: the kernel's rows are the rows of the gated product of the two halves of the projection after its causal convolution.
-/
module

public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem

namespace Cert.FfnRefIdeal

open Cert.FfnRefIdeal.Gen

/-- The projection. -/
def proj (a0 : FVec Ideal S16384x2048 .bf16) (a1 : FVec Ideal S2x2048x11264 .f32) : FVec Ideal S8x2048x11264 .f32 :=
  Host.dotGeneral dot_S8x2048x2048_S2048x11264_S8x2048x11264_2_0_01_1_n_n none (shapeCast S8x2048x2048 (extf .f32 a0 bitsLt_bf16_f32) shapeCasts_S16384x2048_S8x2048x2048) (shapeCast S2048x11264 (extractStridedSlice S1x2048x11264 ![0, 0, 0] a1 slices_S2x2048x11264_S1x2048x11264_0_0_0) shapeCasts_S1x2048x11264_S2048x11264)

/-- Its causal convolution over three steps. -/
def conv (a0 : FVec Ideal S16384x2048 .bf16) (a1 : FVec Ideal S2x2048x11264 .f32) (a2 : FVec Ideal S3x11264 .f32) (a3 : FVec Ideal S11264 .f32) : FVec Ideal S8x2048x11264 .f32 :=
  addf (addf (addf (mulf (broadcastInDim S8x2048x11264 ![0, 1, 2] bcast_S1x1x11264_S8x2048x11264_0_1_2 (broadcastInDim S1x1x11264 ![2] bcast_S11264_S1x1x11264_2 (shapeCast S11264 (extractStridedSlice S1x11264 ![0, 0] a2 slices_S3x11264_S1x11264_0_0) shapeCasts_S1x11264_S11264))) (extractStridedSlice S8x2048x11264 ![0, 0, 0] (pad S8x2050x11264 ![0, 2, 0] ![0, 0, 0] ![0, 0, 0] (proj a0 a1) (sitofp .f32 (constantI S_ 32 0#32)) pads_S8x2048x11264_S8x2050x11264_000_200_000 h_S_) slices_S8x2050x11264_S8x2048x11264_0_0_0)) (mulf (broadcastInDim S8x2048x11264 ![0, 1, 2] bcast_S1x1x11264_S8x2048x11264_0_1_2 (broadcastInDim S1x1x11264 ![2] bcast_S11264_S1x1x11264_2 (shapeCast S11264 (extractStridedSlice S1x11264 ![1, 0] a2 slices_S3x11264_S1x11264_1_0) shapeCasts_S1x11264_S11264))) (extractStridedSlice S8x2048x11264 ![0, 1, 0] (pad S8x2050x11264 ![0, 2, 0] ![0, 0, 0] ![0, 0, 0] (proj a0 a1) (sitofp .f32 (constantI S_ 32 0#32)) pads_S8x2048x11264_S8x2050x11264_000_200_000 h_S_) slices_S8x2050x11264_S8x2048x11264_0_1_0))) (mulf (broadcastInDim S8x2048x11264 ![0, 1, 2] bcast_S1x1x11264_S8x2048x11264_0_1_2 (broadcastInDim S1x1x11264 ![2] bcast_S11264_S1x1x11264_2 (shapeCast S11264 (extractStridedSlice S1x11264 ![2, 0] a2 slices_S3x11264_S1x11264_2_0) shapeCasts_S1x11264_S11264))) (extractStridedSlice S8x2048x11264 ![0, 2, 0] (pad S8x2050x11264 ![0, 2, 0] ![0, 0, 0] ![0, 0, 0] (proj a0 a1) (sitofp .f32 (constantI S_ 32 0#32)) pads_S8x2048x11264_S8x2050x11264_000_200_000 h_S_) slices_S8x2050x11264_S8x2048x11264_0_2_0))) (broadcastInDim S8x2048x11264 ![0, 1, 2] bcast_S1x1x11264_S8x2048x11264_0_1_2 (broadcastInDim S1x1x11264 ![2] bcast_S11264_S1x1x11264_2 a3))

/-- The half that goes through the gate. -/
def gate (a0 : FVec Ideal S16384x2048 .bf16) (a1 : FVec Ideal S2x2048x11264 .f32) (a2 : FVec Ideal S3x11264 .f32) (a3 : FVec Ideal S11264 .f32) : FVec Ideal S8x2048x5632 .f32 :=
  extractStridedSlice S8x2048x5632 ![0, 0, 0] (conv a0 a1 a2 a3) slices_S8x2048x11264_S8x2048x5632_0_0_0

/-- The layer's own value. -/
def glu (a0 : FVec Ideal S16384x2048 .bf16) (a1 : FVec Ideal S2x2048x11264 .f32) (a2 : FVec Ideal S3x11264 .f32) (a3 : FVec Ideal S11264 .f32) : FVec Ideal S16384x5632 .bf16 :=
  truncf .bf16 (shapeCast S16384x5632 (mulf (mulf (gate a0 a1 a2 a3) (mulf (broadcastInDim S8x2048x5632 ![] bcast_S_S8x2048x5632 (constant S_ .f32 0x3F000000#32)) (addf (broadcastInDim S8x2048x5632 ![] bcast_S_S8x2048x5632 (constant S_ .f32 0x3F800000#32)) (Host.tanh (mulf (broadcastInDim S8x2048x5632 ![] bcast_S_S8x2048x5632 (constant S_ .f32 0x3F4C422A#32)) (addf (gate a0 a1 a2 a3) (mulf (broadcastInDim S8x2048x5632 ![] bcast_S_S8x2048x5632 (constant S_ .f32 0x3D372713#32)) (mulf (mulf (gate a0 a1 a2 a3) (gate a0 a1 a2 a3)) (gate a0 a1 a2 a3))))))))) (extractStridedSlice S8x2048x5632 ![0, 0, 5632] (conv a0 a1 a2 a3) slices_S8x2048x11264_S8x2048x5632_0_0_5632)) shapeCasts_S8x2048x5632_S16384x5632) bitsLt_bf16_f32

/-- An entry of the projection. -/
def entry (a0 : FVec Ideal S16384x2048 .bf16) (a1 : FVec Ideal S2x2048x11264 .f32) (r : Fin 16384) (k : Fin 11264) : EReal :=
  ∑ e : Fin 2048, a0 (ix2 r e) * a1 (ix3 0 e k)

/-- The entry `s` steps before, nothing before the sequence's start. -/
def before (a0 : FVec Ideal S16384x2048 .bf16) (a1 : FVec Ideal S2x2048x11264 .f32) (r : Fin 16384) (k : Fin 11264) (s : ℕ) : EReal :=
  if h : s ≤ r.val % 2048 then entry a0 a1 ⟨r.val - s, by omega⟩ k else 0

/-- The convolution at a row and a column. -/
def convAt (a0 : FVec Ideal S16384x2048 .bf16) (a1 : FVec Ideal S2x2048x11264 .f32) (a2 : FVec Ideal S3x11264 .f32) (a3 : FVec Ideal S11264 .f32) (r : Fin 16384) (k : Fin 11264) : EReal :=
  a2 (ix2 0 k) * before a0 a1 r k 2 + a2 (ix2 1 k) * before a0 a1 r k 1 + a2 (ix2 2 k) * before a0 a1 r k 0 + a3 (ix1 k)

/-- The gated product of two entries. -/
def gated (g u : EReal) : EReal :=
  g * (Ideal.ofBits .f32 0x3F000000#32 * (Ideal.ofBits .f32 0x3F800000#32 + Ideal.tanh (Ideal.ofBits .f32 0x3F4C422A#32 * (g + Ideal.ofBits .f32 0x3D372713#32 * (g * g * g))))) * u

/-- The projection, entry by entry. -/
theorem proj_at (a0 : FVec Ideal S16384x2048 .bf16) (a1 : FVec Ideal S2x2048x11264 .f32) (b : Fin 8) (s : Fin 2048) (k : Fin 11264) :
    proj a0 a1 (ix3 b s k) = entry a0 a1 ⟨b.val * 2048 + s.val, by omega⟩ k := by
  pointwise [proj, entry]

/-- The padding is zero. -/
theorem zero_word : (FloatOps.sitofp FTy.f32 0#32 : Ideal .f32) = (0 : EReal) := by
  simp [FloatOps.sitofp]

/-- The convolution, entry by entry. -/
theorem conv_at (a0 : FVec Ideal S16384x2048 .bf16) (a1 : FVec Ideal S2x2048x11264 .f32) (a2 : FVec Ideal S3x11264 .f32) (a3 : FVec Ideal S11264 .f32) (b : Fin 8) (s : Fin 2048) (k : Fin 11264) :
    conv a0 a1 a2 a3 (ix3 b s k) = convAt a0 a1 a2 a3 ⟨b.val * 2048 + s.val, by omega⟩ k := by
  pointwise [conv, convAt, before, proj_at]
  refine congrArg (· + a3 (ix1 k)) (congrArg (· + _) (congrArg₂ (· + ·) (congrArg (a2 (ix2 0 k) * ·) ?_) (congrArg (a2 (ix2 1 k) * ·) ?_)))
  all_goals
    split_ifs with p q q
    · exact congrArg (fun r => entry a0 a1 r k) (Fin.ext (by dsimp only; omega))
    · exfalso; omega
    · exfalso; omega
    · exact zero_word

/-- The layer's own value, entry by entry. -/
theorem glu_at (a0 : FVec Ideal S16384x2048 .bf16) (a1 : FVec Ideal S2x2048x11264 .f32) (a2 : FVec Ideal S3x11264 .f32) (a3 : FVec Ideal S11264 .f32) (r : Fin 16384) (k : Fin 5632) :
    glu a0 a1 a2 a3 (ix2 r k) = gated (convAt a0 a1 a2 a3 r ⟨k.val, by omega⟩) (convAt a0 a1 a2 a3 r ⟨5632 + k.val, by omega⟩) := by
  have e : (⟨r.val / 2048 * 2048 + r.val % 2048, by omega⟩ : Fin 16384) = r := Fin.ext (by dsimp only; omega)
  pointwise [glu, gate, gated, conv_at]
  simp only [e]

end Cert.FfnRefIdeal

namespace Cert.FfnIdeal.Ffn

open Cert.FfnIdeal Cert.FfnIdeal.Gen Cert.FfnRefIdeal

/-- A row block of the product. -/
abbrev Block := Vec Ideal S1024x512 .f32

/-- The rows `d` steps earlier: of the block itself, or of the eight rows before it. -/
def shifted (d : ℕ) (prev : Fin 8 → Fin 512 → EReal) (w : Block) (r : Fin 1024) (k : Fin 512) : EReal :=
  if d ≤ r.val then w (ix2 ⟨r.val - d, by omega⟩ k) else prev ⟨(8 - d + r.val) % 8, Nat.mod_lt _ (by decide)⟩ k

/-- Reading 1024 rows from row `8 - d` on, over the buffer as it was and a block stored from row 8 on. -/
theorem read_over {κ : Kind} {sp : Space} (v : View sig κ sp S1032x512 .f32) (f : v.ty.Contents (Elt Ideal)) (L : List (View.Piece (Elt Ideal) S1032x512 .f32)) (w : Block) (inb) (d : ℕ) (hd : d ≤ 8)
    (prev : Fin 8 → Fin 512 → EReal) (hp : ∀ (i : Fin 8) (k : Fin 512), v.read (Elt Ideal) (v.writes (Elt Ideal) f L) (ix2 ⟨i.val, by omega⟩ k) = prev i k)
    (z : S1032x512.Idx) (r : Fin 1024) (k : Fin 512) (h0 : (z 0).val = 8 - d + r.val) (h1 : (z 1).val = k.val) :
    v.read (Elt Ideal) (v.writes (Elt Ideal) f ((⟨Rect.unit (s := S1032x512) ![8, 0] ![1024, 512] inb, w⟩ : View.Piece (Elt Ideal) S1032x512 .f32) :: L)) z
      = shifted d prev w r k := by
  unfold shifted
  split
  · rename_i hr
    exact View.read_writes_cons_rows_of_mem v f inb w L z (ix2 ⟨r.val - d, by omega⟩ k) rfl (by show (z 0).val = 8 + (r.val - d); omega) h1
  · rename_i hr
    refine (View.read_writes_cons_rows_of_not_mem (W := 1024) v f inb w L z rfl rfl (Or.inl (by show (z 0).val < 8; omega))).trans ?_
    refine Eq.trans ?_ (hp _ k)
    refine congrArg _ (funext fun a => Fin.ext ?_)
    match a with
    | ⟨0, _⟩ => show (z 0).val = (8 - d + r.val) % 8; omega
    | ⟨1, _⟩ => exact h1

/-- So a load through the buffer. -/
theorem load_over {κ : Kind} {sp : Space} (v : View sig κ sp S1032x512 .f32) (f : v.ty.Contents (Elt Ideal)) (w : Block) (inb) (o : ℕ) (inb') (ho : o ≤ 8)
    (prev : Fin 8 → Fin 512 → EReal) (hp : ∀ (i : Fin 8) (k : Fin 512), v.read (Elt Ideal) f (ix2 ⟨i.val, by omega⟩ k) = prev i k) (r : Fin 1024) (k : Fin 512) :
    View.ld (v.read (Elt Ideal) (v.writes (Elt Ideal) f [(⟨Rect.unit (s := S1032x512) ![8, 0] ![1024, 512] inb, w⟩ : View.Piece (Elt Ideal) S1032x512 .f32)]))
      (Rect.unit (s := S1032x512) ![o, 0] ![1024, 512] inb') (ix2 r k) = shifted (8 - o) prev w r k :=
  read_over v f [] w inb (8 - o) (by omega) prev hp _ r k
    ((Rect.idx_unit_val (s := S1032x512) ![o, 0] ![1024, 512] inb' (ix2 r k) 0).trans (by show o + r.val = _; omega))
    ((Rect.idx_unit_val (s := S1032x512) ![o, 0] ![1024, 512] inb' (ix2 r k) 1).trans (by show 0 + k.val = _; omega))

/-- And one after the first eight rows are filled with zeros. -/
theorem load_zero {κ : Kind} {sp : Space} (v : View sig κ sp S1032x512 .f32) (w : Block) (z : Vec Ideal S8x512 .f32) (hz : ∀ x, z x = 0) (inb inbz) (o : ℕ) (inb') (ho : o ≤ 8) (r : Fin 1024) (k : Fin 512) :
    v.readCov [(⟨Rect.unit (s := S1032x512) ![8, 0] ![1024, 512] inb, w⟩ : View.Piece (Elt Ideal) S1032x512 .f32), ⟨Rect.unit (s := S1032x512) ![0, 0] ![8, 512] inbz, z⟩]
      (Rect.unit (s := S1032x512) ![o, 0] ![1024, 512] inb').toLoadRect (ix2 r k) = shifted (8 - o) (fun _ _ => 0) w r k := by
  have hp : ∀ (i : Fin 8) (k : Fin 512), v.read (Elt Ideal) (v.writes (Elt Ideal) v.junk [(⟨Rect.unit (s := S1032x512) ![0, 0] ![8, 512] inbz, z⟩ : View.Piece (Elt Ideal) S1032x512 .f32)])
      (ix2 ⟨i.val, by omega⟩ k) = (fun _ _ => 0 : Fin 8 → Fin 512 → EReal) i k := fun i k' =>
    (View.read_writes_cons_rows_of_mem v v.junk inbz z [] (ix2 ⟨i.val, by omega⟩ k') (ix2 i k') rfl (by show i.val = 0 + i.val; omega) rfl).trans (hz _)
  exact read_over v v.junk _ w inb (8 - o) (by omega) _ hp
    ((Rect.unit (s := S1032x512) ![o, 0] ![1024, 512] inb').toLoadRect.idx (ix2 r k)) r k
    ((Rect.idx_unit_val (s := S1032x512) ![o, 0] ![1024, 512] inb' (ix2 r k) 0).trans (by show o + r.val = _; omega))
    ((Rect.idx_unit_val (s := S1032x512) ![o, 0] ![1024, 512] inb' (ix2 r k) 1).trans (by show 0 + k.val = _; omega))

/-- The last eight rows of a stored block. -/
theorem load_last {κ : Kind} {sp : Space} (v : View sig κ sp S1032x512 .f32) (L : List (View.Piece (Elt Ideal) S1032x512 .f32)) (w : Block) (inb inb') (r : Fin 8) (k : Fin 512) :
    v.readCov ((⟨Rect.unit (s := S1032x512) ![8, 0] ![1024, 512] inb, w⟩ : View.Piece (Elt Ideal) S1032x512 .f32) :: L)
      (Rect.unit (s := S1032x512) ![1024, 0] ![8, 512] inb').toLoadRect (ix2 r k) = w (ix2 ⟨1016 + r.val, by omega⟩ k) :=
  View.read_writes_cons_rows_of_mem v v.junk inb w L ((Rect.unit (s := S1032x512) ![1024, 0] ![8, 512] inb').toLoadRect.idx (ix2 r k)) (ix2 ⟨1016 + r.val, by omega⟩ k) rfl
    ((Rect.idx_unit_val (s := S1032x512) ![1024, 0] ![8, 512] inb' (ix2 r k) 0).trans (by show 1024 + r.val = 8 + (1016 + r.val); omega))
    ((Rect.idx_unit_val (s := S1032x512) ![1024, 0] ![8, 512] inb' (ix2 r k) 1).trans (by show 0 + k.val = k.val; omega))

/-- The buffer's first eight rows are the last stored there. -/
theorem first_rows (L : List (View.Piece (Elt Ideal) S1032x512 .f32)) (z : Vec Ideal S8x512 .f32) (inb) (r : Fin 8) (k : Fin 512) :
    View.canon ((⟨Rect.unit (s := S1032x512) ![0, 0] ![8, 512] inb, z⟩ : View.Piece (Elt Ideal) S1032x512 .f32) :: L) (ix2 ⟨r.val, by omega⟩ k) = z (ix2 r k) := by
  refine Eq.trans (congrArg _ ?_) (View.canon_cons_emb (Rect.unit (s := S1032x512) ![0, 0] ![8, 512] inb) z L (ix2 r k))
  funext a
  apply Fin.ext
  match a with
  | ⟨0, _⟩ => show r.val = 0 + 1 * r.val; omega
  | ⟨1, _⟩ => show k.val = 0 + 1 * k.val; omega

/-- A convolution of the three shifted blocks at a row and a column. -/
def convK (w : Vec Ideal S3x512 .f32) (b : Vec Ideal S1x512 .f32) (x0 x1 x2 : Block) (r : Fin 1024) (k : Fin 512) : EReal :=
  w (ix2 0 k) * x2 (ix2 r k) + w (ix2 1 k) * x1 (ix2 r k) + w (ix2 2 k) * x0 (ix2 r k) + b (ix2 0 k)

/-- What the body stores. -/
theorem stored (w w' : Vec Ideal S3x512 .f32) (b b' : Vec Ideal S1x512 .f32) (x0 x1 x2 u0 u1 u2 : Block) (r : Fin 1024) (k : Fin 512) :
    k0_pay2 (k0_pay10 w (k0_pay8 w b x0) (k0_pay9 w) x1 x2) (k0_pay13 w' b' u0 u1) u2 (k0_pay14 w') (ix2 r k)
      = gated (convK w b x0 x1 x2 r k) (convK w' b' u0 u1 u2 r k) := by
  have e : ∀ p q s t : EReal, p + q + s + t = t + s + q + p := fun p q s t => by
    rw [add_comm (p + q + s) t, add_comm (p + q) s, add_comm p q, ← add_assoc, ← add_assoc]
  unfold convK
  rw [e (w (ix2 0 k) * x2 (ix2 r k)), e (w' (ix2 0 k) * u2 (ix2 r k))]
  unfold gated
  rw [mul_assoc (b (ix2 0 k) + _ + _ + _) (b (ix2 0 k) + _ + _ + _) (b (ix2 0 k) + _ + _ + _)]
  pointwise [k0_pay2, k0_pay10, k0_pay8, k0_pay9, k0_pay13, k0_pay14]

variable (m : (ℓ : Loc nD τ sig) → Buf (Elt Ideal) ℓ)

/-- Where each operand's block sits at a grid point. -/
theorem idx : ∀ t : Fin cfg0.N, win0_0.index t = ![t.val % 16, 0] ∧ win0_1.index t = ![0, 0, t.val / 16] ∧ win0_2.index t = ![0, 0, t.val / 16 + 11]
    ∧ win0_3.index t = ![0, t.val / 16] ∧ win0_4.index t = ![0, t.val / 16 + 11] ∧ win0_5.index t = ![0, t.val / 16] ∧ win0_6.index t = ![0, t.val / 16 + 11]
    ∧ win0_7.index t = ![t.val % 16, t.val / 16] ∧ t.val < 176 :=
  (by decide +kernel : ∀ t : Fin grid0.N, _)

/-- The grid has 176 points. -/
theorem lt_176 (n : ℕ) (h : n < cfg0.N) : n < 176 := (idx ⟨n, h⟩).2.2.2.2.2.2.2.2

/-- The weights' columns held for the gate, at the first row block. -/
theorem heldWG_A (c : Dev nD) (t : Fin cfg0.N) (h0 : t.val % 16 = 0) (e : Fin 2048) (k : Fin 512) :
    (outsAt0 m c t.val t.isLt).2.2.2.1 (ix2 e k)
      = m ((c : Thread nD τ).loc main_arg1) (ix3 0 e ⟨t.val / 16 * 512 + k.val, by have := lt_176 t.val t.isLt; omega⟩) := by
  rw [outsAt0_A m c t h0 (by omega)]
  dsimp only
  frame_out
  pointwise [k0_pay3]
  blk_point [iblk, V, idx t]

/-- And at every row block. -/
theorem heldWG (c : Dev nD) (n : ℕ) (hn : n < cfg0.N) (e : Fin 2048) (k : Fin 512) :
    (outsAt0 m c n hn).2.2.2.1 (ix2 e k)
      = m ((c : Thread nD τ).loc main_arg1) (ix3 0 e ⟨n / 16 * 512 + k.val, by have := lt_176 n hn; omega⟩) := by
  induction n with
  | zero => exact heldWG_A m c ⟨0, hn⟩ rfl e k
  | succ n ih =>
    by_cases h0 : (n + 1) % 16 = 0
    · exact heldWG_A m c ⟨n + 1, hn⟩ h0 e k
    · have e2 : (n + 1) / 16 = n / 16 := by omega
      refine Eq.trans ?_ ((ih (by omega)).trans (by simp only [e2]))
      by_cases h1 : (n + 1) % 2 = 0
      · rw [outsAt0_C m c ⟨n + 1, hn⟩ h0 h1]
        rfl
      · rw [outsAt0_B m c ⟨n + 1, hn⟩ h0 h1]
        rfl

/-- The weights' columns held for the other half, at the first row block. -/
theorem heldWU_A (c : Dev nD) (t : Fin cfg0.N) (h0 : t.val % 16 = 0) (e : Fin 2048) (k : Fin 512) :
    (outsAt0 m c t.val t.isLt).2.2.2.2 (ix2 e k)
      = m ((c : Thread nD τ).loc main_arg1) (ix3 0 e ⟨5632 + t.val / 16 * 512 + k.val, by have := lt_176 t.val t.isLt; omega⟩) := by
  rw [outsAt0_A m c t h0 (by omega)]
  dsimp only
  frame_out
  pointwise [k0_pay4]
  blk_point [iblk, V, idx t]

/-- And at every row block. -/
theorem heldWU (c : Dev nD) (n : ℕ) (hn : n < cfg0.N) (e : Fin 2048) (k : Fin 512) :
    (outsAt0 m c n hn).2.2.2.2 (ix2 e k)
      = m ((c : Thread nD τ).loc main_arg1) (ix3 0 e ⟨5632 + n / 16 * 512 + k.val, by have := lt_176 n hn; omega⟩) := by
  induction n with
  | zero => exact heldWU_A m c ⟨0, hn⟩ rfl e k
  | succ n ih =>
    by_cases h0 : (n + 1) % 16 = 0
    · exact heldWU_A m c ⟨n + 1, hn⟩ h0 e k
    · have e2 : (n + 1) / 16 = n / 16 := by omega
      refine Eq.trans ?_ ((ih (by omega)).trans (by simp only [e2]))
      by_cases h1 : (n + 1) % 2 = 0
      · rw [outsAt0_C m c ⟨n + 1, hn⟩ h0 h1]
        rfl
      · rw [outsAt0_B m c ⟨n + 1, hn⟩ h0 h1]
        rfl

/-! What a scratch buffer holds, read back. -/

/-- Reading the first scratch buffer as a whole gives what was written to it as a whole. -/
theorem unread0 (v : Vec Ideal S1032x512 .f32) :
    View.read (Elt Ideal) (View.whole cc0_scratch0) ((Memref.isWhole_whole cc0_scratch0).unread v) = v :=
  (Memref.isWhole_whole cc0_scratch0).read_unread v

/-- Reading the second scratch buffer as a whole gives what was written to it as a whole. -/
theorem unread1 (v : Vec Ideal S1032x512 .f32) :
    View.read (Elt Ideal) (View.whole cc0_scratch1) ((Memref.isWhole_whole cc0_scratch1).unread v) = v :=
  (Memref.isWhole_whole cc0_scratch1).read_unread v

/-- Reading the third scratch buffer as a whole gives what was written to it as a whole. -/
theorem unread2 (v : Vec Ideal S2048x512 .bf16) :
    View.read (Elt Ideal) (View.whole cc0_scratch2) ((Memref.isWhole_whole cc0_scratch2).unread v) = v :=
  (Memref.isWhole_whole cc0_scratch2).read_unread v

/-- Reading the fourth scratch buffer as a whole gives what was written to it as a whole. -/
theorem unread3 (v : Vec Ideal S2048x512 .bf16) :
    View.read (Elt Ideal) (View.whole cc0_scratch3) ((Memref.isWhole_whole cc0_scratch3).unread v) = v :=
  (Memref.isWhole_whole cc0_scratch3).read_unread v

/-- The projection's entry at a row and a column, zero past the last row. -/
def entryN (a0 : FVec Ideal S16384x2048 .bf16) (a1 : FVec Ideal S2x2048x11264 .f32) (r : ℕ) (k : Fin 11264) : EReal :=
  if h : r < 16384 then entry a0 a1 ⟨r, h⟩ k else 0

/-- The product's block for the gate, over columns of the weights. -/
theorem block_g (c : Dev nD) (t : Fin cfg0.N) (W : Vec Ideal S2048x512 .bf16) (K : Fin 512 → Fin 11264)
    (hW : ∀ (e : Fin 2048) (k : Fin 512), W (ix2 e k) = m ((c : Thread nD τ).loc main_arg1) (ix3 0 e (K k))) (r : Fin 1024) (k : Fin 512) :
    k0_pay7 (iblk m c 0 t) W (ix2 r k)
      = entryN (m ((c : Thread nD τ).loc main_arg0)) (m ((c : Thread nD τ).loc main_arg1)) (t.val % 16 * 1024 + r.val) (K k) := by
  unfold entryN
  rw [dif_pos (by omega)]
  unfold entry
  pointwise [k0_pay7]
  refine Finset.sum_congr rfl fun e _ => ?_
  rw [hW e k]
  refine congrArg (· * _) ?_
  blk_point [iblk, V, idx t]

/-- The product's block for the other half, over columns of the weights. -/
theorem block_u (c : Dev nD) (t : Fin cfg0.N) (W : Vec Ideal S2048x512 .bf16) (K : Fin 512 → Fin 11264)
    (hW : ∀ (e : Fin 2048) (k : Fin 512), W (ix2 e k) = m ((c : Thread nD τ).loc main_arg1) (ix3 0 e (K k))) (r : Fin 1024) (k : Fin 512) :
    k0_pay12 (iblk m c 0 t) W (ix2 r k)
      = entryN (m ((c : Thread nD τ).loc main_arg0)) (m ((c : Thread nD τ).loc main_arg1)) (t.val % 16 * 1024 + r.val) (K k) := by
  unfold entryN
  rw [dif_pos (by omega)]
  unfold entry
  pointwise [k0_pay12]
  refine Finset.sum_congr rfl fun e _ => ?_
  rw [hW e k]
  refine congrArg (· * _) ?_
  blk_point [iblk, V, idx t]

/-- The shifted rows at a sequence's start, nothing before them. -/
theorem shifted_start (a0 : FVec Ideal S16384x2048 .bf16) (a1 : FVec Ideal S2x2048x11264 .f32) (w : Block) (K : Fin 512 → Fin 11264) (b d : ℕ) (hd : d ≤ 2) (hb : b % 2 = 0) (hb' : b < 16)
    (hw : ∀ r k, w (ix2 r k) = entryN a0 a1 (b * 1024 + r.val) (K k)) (r : Fin 1024) (k : Fin 512) :
    shifted d (fun _ _ => 0) w r k = before a0 a1 ⟨b * 1024 + r.val, by omega⟩ (K k) d := by
  unfold shifted before
  by_cases h : d ≤ r.val
  · rw [if_pos h, dif_pos (by dsimp only; omega), hw]
    unfold entryN
    rw [dif_pos (by dsimp only; omega)]
    exact congrArg (fun q => entry a0 a1 q (K k)) (Fin.ext (by dsimp only; omega))
  · rw [if_neg h, dif_neg (by dsimp only; omega)]

/-- And within a sequence, the rows before being the last of the block before. -/
theorem shifted_next (a0 : FVec Ideal S16384x2048 .bf16) (a1 : FVec Ideal S2x2048x11264 .f32) (w : Block) (prev : Fin 8 → Fin 512 → EReal) (K : Fin 512 → Fin 11264) (b d : ℕ) (hd : d ≤ 2) (hb : b % 2 ≠ 0) (hb' : b < 16)
    (hw : ∀ r k, w (ix2 r k) = entryN a0 a1 (b * 1024 + r.val) (K k))
    (hp : ∀ r k, prev r k = entryN a0 a1 ((b - 1) * 1024 + 1016 + r.val) (K k)) (r : Fin 1024) (k : Fin 512) :
    shifted d prev w r k = before a0 a1 ⟨b * 1024 + r.val, by omega⟩ (K k) d := by
  unfold shifted before
  rw [dif_pos (by dsimp only; omega)]
  by_cases h : d ≤ r.val
  · rw [if_pos h, hw]
    unfold entryN
    rw [dif_pos (by dsimp only; omega)]
    exact congrArg (fun q => entry a0 a1 q (K k)) (Fin.ext (by dsimp only; omega))
  · rw [if_neg h, hp]
    unfold entryN
    rw [dif_pos (by dsimp only; omega)]
    exact congrArg (fun q => entry a0 a1 q (K k)) (Fin.ext (by dsimp only; omega))

/-- The rows a row block leaves for the next one, for the gate. -/
theorem heldG (c : Dev nD) (t : Fin cfg0.N) (r : Fin 8) (k : Fin 512) :
    (outsAt0 m c t.val t.isLt).2.1 (ix2 ⟨r.val, by omega⟩ k)
      = entryN (m ((c : Thread nD τ).loc main_arg0)) (m ((c : Thread nD τ).loc main_arg1)) (t.val % 16 * 1024 + 1016 + r.val)
        ⟨t.val / 16 * 512 + k.val, by have := lt_176 t.val t.isLt; omega⟩ := by
  have hN := lt_176 t.val t.isLt
  by_cases h0 : t.val % 16 = 0
  · have hW := heldWG_A m c t h0
    rw [outsAt0_A m c t h0 (by omega)] at hW ⊢
    dsimp only at hW ⊢
    frame_out at hW
    frame_out
    refine (first_rows _ _ _ r k).trans ?_
    pointwise [k0_pay11]
    refine (load_last _ _ _ _ _ r k).trans ?_
    refine (block_g m c t _ (fun k => ⟨t.val / 16 * 512 + k.val, by omega⟩) hW _ k).trans ?_
    dsimp only
    rw [← add_assoc]
  · have hW := heldWG m c (t.val - 1) (by have := t.isLt; omega)
    have e2 : (t.val - 1) / 16 = t.val / 16 := by omega
    simp only [e2] at hW
    by_cases h1 : t.val % 2 = 0
    · rw [outsAt0_C m c t h0 h1]
      dsimp only
      frame_out
      refine (first_rows _ _ _ r k).trans ?_
      pointwise [k0_pay11]
      refine (load_last _ _ _ _ _ r k).trans ?_
      rw [unread2]
      refine (block_g m c t _ (fun k => ⟨t.val / 16 * 512 + k.val, by omega⟩) hW _ k).trans ?_
      dsimp only
      rw [← add_assoc]
    · rw [outsAt0_B m c t h0 h1]
      dsimp only
      frame_out
      refine (first_rows _ _ _ r k).trans ?_
      pointwise [k0_pay11]
      refine (load_last _ _ _ _ _ r k).trans ?_
      rw [unread2]
      refine (block_g m c t _ (fun k => ⟨t.val / 16 * 512 + k.val, by omega⟩) hW _ k).trans ?_
      dsimp only
      rw [← add_assoc]

/-- The rows a row block leaves for the next one, for the other half. -/
theorem heldU (c : Dev nD) (t : Fin cfg0.N) (r : Fin 8) (k : Fin 512) :
    (outsAt0 m c t.val t.isLt).2.2.1 (ix2 ⟨r.val, by omega⟩ k)
      = entryN (m ((c : Thread nD τ).loc main_arg0)) (m ((c : Thread nD τ).loc main_arg1)) (t.val % 16 * 1024 + 1016 + r.val)
        ⟨5632 + t.val / 16 * 512 + k.val, by have := lt_176 t.val t.isLt; omega⟩ := by
  have hN := lt_176 t.val t.isLt
  by_cases h0 : t.val % 16 = 0
  · have hW := heldWU_A m c t h0
    rw [outsAt0_A m c t h0 (by omega)] at hW ⊢
    dsimp only at hW ⊢
    frame_out at hW
    frame_out
    refine (first_rows _ _ _ r k).trans ?_
    pointwise [k0_pay1]
    refine (load_last _ _ _ _ _ r k).trans ?_
    refine (block_u m c t _ (fun k => ⟨5632 + t.val / 16 * 512 + k.val, by omega⟩) hW _ k).trans ?_
    dsimp only
    rw [← add_assoc]
  · have hW := heldWU m c (t.val - 1) (by have := t.isLt; omega)
    have e2 : (t.val - 1) / 16 = t.val / 16 := by omega
    simp only [e2] at hW
    by_cases h1 : t.val % 2 = 0
    · rw [outsAt0_C m c t h0 h1]
      dsimp only
      frame_out
      refine (first_rows _ _ _ r k).trans ?_
      pointwise [k0_pay1]
      refine (load_last _ _ _ _ _ r k).trans ?_
      rw [unread3]
      refine (block_u m c t _ (fun k => ⟨5632 + t.val / 16 * 512 + k.val, by omega⟩) hW _ k).trans ?_
      dsimp only
      rw [← add_assoc]
    · rw [outsAt0_B m c t h0 h1]
      dsimp only
      frame_out
      refine (first_rows _ _ _ r k).trans ?_
      pointwise [k0_pay1]
      refine (load_last _ _ _ _ _ r k).trans ?_
      rw [unread3]
      refine (block_u m c t _ (fun k => ⟨5632 + t.val / 16 * 512 + k.val, by omega⟩) hW _ k).trans ?_
      dsimp only
      rw [← add_assoc]

/-- The convolution of a block's column is the layer's. -/
theorem conv_of (a0 : FVec Ideal S16384x2048 .bf16) (a1 : FVec Ideal S2x2048x11264 .f32) (a2 : FVec Ideal S3x11264 .f32) (a3 : FVec Ideal S11264 .f32)
    (w : Vec Ideal S3x512 .f32) (b : Vec Ideal S1x512 .f32) (x0 x1 x2 : Block) (r : Fin 1024) (k : Fin 512) (R : Fin 16384) (K : Fin 11264)
    (hw : ∀ i : Fin 3, w (ix2 i k) = a2 (ix2 i K)) (hb : b (ix2 0 k) = a3 (ix1 K))
    (h0 : x0 (ix2 r k) = before a0 a1 R K 0) (h1 : x1 (ix2 r k) = before a0 a1 R K 1) (h2 : x2 (ix2 r k) = before a0 a1 R K 2) :
    convK w b x0 x1 x2 r k = convAt a0 a1 a2 a3 R K := by
  unfold convK convAt
  rw [hw 0, hw 1, hw 2, hb, h0, h1, h2]

/-- The convolution's weights for the gate. -/
theorem taps_g (c : Dev nD) (t : Fin cfg0.N) (i : Fin 3) (k : Fin 512) :
    (iblk m c 3 t : Vec Ideal S3x512 .f32) (ix2 i k) = m ((c : Thread nD τ).loc main_arg2) (ix2 i ⟨t.val / 16 * 512 + k.val, by have := lt_176 t.val t.isLt; omega⟩) := by
  blk_point [iblk, V, idx t]

/-- The convolution's weights for the other half. -/
theorem taps_u (c : Dev nD) (t : Fin cfg0.N) (i : Fin 3) (k : Fin 512) :
    (iblk m c 4 t : Vec Ideal S3x512 .f32) (ix2 i k) = m ((c : Thread nD τ).loc main_arg2) (ix2 i ⟨5632 + t.val / 16 * 512 + k.val, by have := lt_176 t.val t.isLt; omega⟩) := by
  blk_point [iblk, V, idx t]

/-- Its bias for the gate. -/
theorem bias_g (c : Dev nD) (t : Fin cfg0.N) (k : Fin 512) :
    (iblk m c 5 t : Vec Ideal S1x512 .f32) (ix2 0 k) = m ((c : Thread nD τ).loc main_arg3) (ix1 ⟨t.val / 16 * 512 + k.val, by have := lt_176 t.val t.isLt; omega⟩) := by
  blk_point [iblk, V, idx t]

/-- Its bias for the other half. -/
theorem bias_u (c : Dev nD) (t : Fin cfg0.N) (k : Fin 512) :
    (iblk m c 6 t : Vec Ideal S1x512 .f32) (ix2 0 k) = m ((c : Thread nD τ).loc main_arg3) (ix1 ⟨5632 + t.val / 16 * 512 + k.val, by have := lt_176 t.val t.isLt; omega⟩) := by
  blk_point [iblk, V, idx t]

/-- The rows before a sequence's start are zero. -/
theorem zeros_g (x : S8x512.Idx) : (k0_pay5 : FVec Ideal S8x512 .f32) x = 0 := by
  pointwise [k0_pay5]

/-- They are for the other half. -/
theorem zeros_u (x : S8x512.Idx) : (k0_pay6 : FVec Ideal S8x512 .f32) x = 0 := by
  pointwise [k0_pay6]

/-- No shift is the block itself. -/
theorem shifted_zero (prev : Fin 8 → Fin 512 → EReal) (w : Block) (r : Fin 1024) (k : Fin 512) : shifted 0 prev w r k = w (ix2 r k) := by
  unfold shifted
  rw [if_pos (Nat.zero_le _)]
  rfl

/-- What a grid point stores, at a row and a column. -/
theorem out_at (c : Dev nD) (t : Fin cfg0.N) (r : Fin 1024) (k : Fin 512) :
    (outsAt0 m c t.val t.isLt).1 (ix2 r k)
      = gated (convAt (m ((c : Thread nD τ).loc main_arg0)) (m ((c : Thread nD τ).loc main_arg1)) (m ((c : Thread nD τ).loc main_arg2)) (m ((c : Thread nD τ).loc main_arg3)) ⟨t.val % 16 * 1024 + r.val, by omega⟩ ⟨t.val / 16 * 512 + k.val, by have := lt_176 t.val t.isLt; omega⟩)
        (convAt (m ((c : Thread nD τ).loc main_arg0)) (m ((c : Thread nD τ).loc main_arg1)) (m ((c : Thread nD τ).loc main_arg2)) (m ((c : Thread nD τ).loc main_arg3)) ⟨t.val % 16 * 1024 + r.val, by omega⟩ ⟨5632 + t.val / 16 * 512 + k.val, by have := lt_176 t.val t.isLt; omega⟩) := by
  have hN := lt_176 t.val t.isLt
  by_cases h0 : t.val % 16 = 0
  · have hWG := heldWG_A m c t h0
    have hWU := heldWU_A m c t h0
    rw [outsAt0_A m c t h0 (by omega)] at hWG hWU ⊢
    dsimp only at hWG hWU ⊢
    frame_out at hWG
    frame_out at hWU
    frame_out
    refine (stored _ _ _ _ _ _ _ _ _ _ r k).trans (congrArg₂ gated ?_ ?_)
    · refine conv_of _ _ _ _ _ _ _ _ _ r k _ _ (fun i => taps_g m c t i k) (bias_g m c t k) ?_ ?_ ?_
      · rw [View.readCov_cons_toLoadRect]
        exact (shifted_zero _ _ r k).symm.trans (shifted_start _ _ _ (fun k => ⟨t.val / 16 * 512 + k.val, by omega⟩) (t.val % 16) 0 (by omega) (by omega) (by omega) (block_g m c t _ (fun k => ⟨t.val / 16 * 512 + k.val, by omega⟩) hWG) r k)
      · exact (load_zero _ _ _ zeros_g _ _ 7 _ (by omega) r k).trans (shifted_start _ _ _ (fun k => ⟨t.val / 16 * 512 + k.val, by omega⟩) (t.val % 16) 1 (by omega) (by omega) (by omega) (block_g m c t _ (fun k => ⟨t.val / 16 * 512 + k.val, by omega⟩) hWG) r k)
      · exact (load_zero _ _ _ zeros_g _ _ 6 _ (by omega) r k).trans (shifted_start _ _ _ (fun k => ⟨t.val / 16 * 512 + k.val, by omega⟩) (t.val % 16) 2 (by omega) (by omega) (by omega) (block_g m c t _ (fun k => ⟨t.val / 16 * 512 + k.val, by omega⟩) hWG) r k)
    · refine conv_of _ _ _ _ _ _ _ _ _ r k _ _ (fun i => taps_u m c t i k) (bias_u m c t k) ?_ ?_ ?_
      · rw [View.readCov_cons_toLoadRect]
        exact (shifted_zero _ _ r k).symm.trans (shifted_start _ _ _ (fun k => ⟨5632 + t.val / 16 * 512 + k.val, by omega⟩) (t.val % 16) 0 (by omega) (by omega) (by omega) (block_u m c t _ (fun k => ⟨5632 + t.val / 16 * 512 + k.val, by omega⟩) hWU) r k)
      · exact (load_zero _ _ _ zeros_u _ _ 7 _ (by omega) r k).trans (shifted_start _ _ _ (fun k => ⟨5632 + t.val / 16 * 512 + k.val, by omega⟩) (t.val % 16) 1 (by omega) (by omega) (by omega) (block_u m c t _ (fun k => ⟨5632 + t.val / 16 * 512 + k.val, by omega⟩) hWU) r k)
      · exact (load_zero _ _ _ zeros_u _ _ 6 _ (by omega) r k).trans (shifted_start _ _ _ (fun k => ⟨5632 + t.val / 16 * 512 + k.val, by omega⟩) (t.val % 16) 2 (by omega) (by omega) (by omega) (block_u m c t _ (fun k => ⟨5632 + t.val / 16 * 512 + k.val, by omega⟩) hWU) r k)
  have hWG := heldWG m c (t.val - 1) (by have := t.isLt; omega)
  have hWU := heldWU m c (t.val - 1) (by have := t.isLt; omega)
  have e2 : (t.val - 1) / 16 = t.val / 16 := by omega
  simp only [e2] at hWG hWU
  by_cases h1 : t.val % 2 = 0
  · rw [outsAt0_C m c t h0 h1]
    dsimp only
    frame_out
    rw [unread2, unread3]
    refine (stored _ _ _ _ _ _ _ _ _ _ r k).trans (congrArg₂ gated ?_ ?_)
    · refine conv_of _ _ _ _ _ _ _ _ _ r k _ _ (fun i => taps_g m c t i k) (bias_g m c t k) ?_ ?_ ?_
      · rw [View.readCov_cons_toLoadRect]
        exact (shifted_zero _ _ r k).symm.trans (shifted_start _ _ _ (fun k => ⟨t.val / 16 * 512 + k.val, by omega⟩) (t.val % 16) 0 (by omega) (by omega) (by omega) (block_g m c t _ (fun k => ⟨t.val / 16 * 512 + k.val, by omega⟩) hWG) r k)
      · exact (load_zero _ _ _ zeros_g _ _ 7 _ (by omega) r k).trans (shifted_start _ _ _ (fun k => ⟨t.val / 16 * 512 + k.val, by omega⟩) (t.val % 16) 1 (by omega) (by omega) (by omega) (block_g m c t _ (fun k => ⟨t.val / 16 * 512 + k.val, by omega⟩) hWG) r k)
      · exact (load_zero _ _ _ zeros_g _ _ 6 _ (by omega) r k).trans (shifted_start _ _ _ (fun k => ⟨t.val / 16 * 512 + k.val, by omega⟩) (t.val % 16) 2 (by omega) (by omega) (by omega) (block_g m c t _ (fun k => ⟨t.val / 16 * 512 + k.val, by omega⟩) hWG) r k)
    · refine conv_of _ _ _ _ _ _ _ _ _ r k _ _ (fun i => taps_u m c t i k) (bias_u m c t k) ?_ ?_ ?_
      · rw [View.readCov_cons_toLoadRect]
        exact (shifted_zero _ _ r k).symm.trans (shifted_start _ _ _ (fun k => ⟨5632 + t.val / 16 * 512 + k.val, by omega⟩) (t.val % 16) 0 (by omega) (by omega) (by omega) (block_u m c t _ (fun k => ⟨5632 + t.val / 16 * 512 + k.val, by omega⟩) hWU) r k)
      · exact (load_zero _ _ _ zeros_u _ _ 7 _ (by omega) r k).trans (shifted_start _ _ _ (fun k => ⟨5632 + t.val / 16 * 512 + k.val, by omega⟩) (t.val % 16) 1 (by omega) (by omega) (by omega) (block_u m c t _ (fun k => ⟨5632 + t.val / 16 * 512 + k.val, by omega⟩) hWU) r k)
      · exact (load_zero _ _ _ zeros_u _ _ 6 _ (by omega) r k).trans (shifted_start _ _ _ (fun k => ⟨5632 + t.val / 16 * 512 + k.val, by omega⟩) (t.val % 16) 2 (by omega) (by omega) (by omega) (block_u m c t _ (fun k => ⟨5632 + t.val / 16 * 512 + k.val, by omega⟩) hWU) r k)
  · have hlt : t.val - 1 < cfg0.N := by have := t.isLt; omega
    have hPG := heldG m c ⟨t.val - 1, hlt⟩
    have hPU := heldU m c ⟨t.val - 1, hlt⟩
    have e3 : (t.val - 1) % 16 = t.val % 16 - 1 := by omega
    simp only [e2, e3] at hPG hPU
    rw [outsAt0_B m c t h0 h1]
    dsimp only
    frame_out
    rw [unread2, unread3]
    have hG : ∀ (i : Fin 8) (k : Fin 512), View.read (Elt Ideal) (View.whole cc0_scratch0) ((Memref.isWhole_whole cc0_scratch0).unread (outsAt0 m c (t.val - 1) hlt).2.1) (ix2 ⟨i.val, by omega⟩ k)
        = (outsAt0 m c (t.val - 1) hlt).2.1 (ix2 ⟨i.val, by omega⟩ k) := fun i k => by rw [unread0]
    have hU : ∀ (i : Fin 8) (k : Fin 512), View.read (Elt Ideal) (View.whole cc0_scratch1) ((Memref.isWhole_whole cc0_scratch1).unread (outsAt0 m c (t.val - 1) hlt).2.2.1) (ix2 ⟨i.val, by omega⟩ k)
        = (outsAt0 m c (t.val - 1) hlt).2.2.1 (ix2 ⟨i.val, by omega⟩ k) := fun i k => by rw [unread1]
    refine (stored _ _ _ _ _ _ _ _ _ _ r k).trans (congrArg₂ gated ?_ ?_)
    · refine conv_of _ _ _ _ _ _ _ _ _ r k _ _ (fun i => taps_g m c t i k) (bias_g m c t k) ?_ ?_ ?_
      · rw [View.readCov_cons_toLoadRect]
        exact (shifted_zero _ _ r k).symm.trans (shifted_next _ _ _ _ (fun k => ⟨t.val / 16 * 512 + k.val, by omega⟩) (t.val % 16) 0 (by omega) (by omega) (by omega) (block_g m c t _ (fun k => ⟨t.val / 16 * 512 + k.val, by omega⟩) hWG) hPG r k)
      · exact (load_over _ _ _ _ 7 _ (by omega) _ hG r k).trans (shifted_next _ _ _ _ (fun k => ⟨t.val / 16 * 512 + k.val, by omega⟩) (t.val % 16) 1 (by omega) (by omega) (by omega) (block_g m c t _ (fun k => ⟨t.val / 16 * 512 + k.val, by omega⟩) hWG) hPG r k)
      · exact (load_over _ _ _ _ 6 _ (by omega) _ hG r k).trans (shifted_next _ _ _ _ (fun k => ⟨t.val / 16 * 512 + k.val, by omega⟩) (t.val % 16) 2 (by omega) (by omega) (by omega) (block_g m c t _ (fun k => ⟨t.val / 16 * 512 + k.val, by omega⟩) hWG) hPG r k)
    · refine conv_of _ _ _ _ _ _ _ _ _ r k _ _ (fun i => taps_u m c t i k) (bias_u m c t k) ?_ ?_ ?_
      · rw [View.readCov_cons_toLoadRect]
        exact (shifted_zero _ _ r k).symm.trans (shifted_next _ _ _ _ (fun k => ⟨5632 + t.val / 16 * 512 + k.val, by omega⟩) (t.val % 16) 0 (by omega) (by omega) (by omega) (block_u m c t _ (fun k => ⟨5632 + t.val / 16 * 512 + k.val, by omega⟩) hWU) hPU r k)
      · exact (load_over _ _ _ _ 7 _ (by omega) _ hU r k).trans (shifted_next _ _ _ _ (fun k => ⟨5632 + t.val / 16 * 512 + k.val, by omega⟩) (t.val % 16) 1 (by omega) (by omega) (by omega) (block_u m c t _ (fun k => ⟨5632 + t.val / 16 * 512 + k.val, by omega⟩) hWU) hPU r k)
      · exact (load_over _ _ _ _ 6 _ (by omega) _ hU r k).trans (shifted_next _ _ _ _ (fun k => ⟨5632 + t.val / 16 * 512 + k.val, by omega⟩) (t.val % 16) 2 (by omega) (by omega) (by omega) (block_u m c t _ (fun k => ⟨5632 + t.val / 16 * 512 + k.val, by omega⟩) hWU) hPU r k)

/-- The result array is the layer's. -/
theorem final (c : Dev nD) : (dats m 0 c).arrAt 7 (cfgs 0).N = glu (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have hN := lt_176 t.val t.isLt
  blk_simp
  rw [after0_7]
  have hy : (ix2 (y 0) (y 1) : S1024x512.Idx) = y := by
    funext a
    match a with
    | ⟨0, _⟩ => rfl
    | ⟨1, _⟩ => rfl
  have e := out_at m c t (y 0) (y 1)
  rw [hy] at e
  have y0 : (y 0).val < 1024 := (y 0).isLt
  have y1 : (y 1).val < 512 := (y 1).isLt
  have g := glu_at (m ((c : Thread nD τ).loc main_arg0)) (m ((c : Thread nD τ).loc main_arg1)) (m ((c : Thread nD τ).loc main_arg2)) (m ((c : Thread nD τ).loc main_arg3)) ⟨t.val % 16 * 1024 + (y 0).val, by omega⟩ ⟨t.val / 16 * 512 + (y 1).val, by omega⟩
  simp only [← add_assoc] at g
  refine e.trans (g.symm.trans ?_)
  refine congrArg _ (funext fun a => Fin.ext ?_)
  match a with
  | ⟨0, _⟩ =>
    blk_simp [idx t]
    rfl
  | ⟨1, _⟩ =>
    blk_simp [idx t]
    rfl

end Cert.FfnIdeal.Ffn

end
-- ==== Proof.ClaimFfn.lean ====
/-
  The claims of the feed-forward up projection: its programs end, and the kernel's results are the layer's.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Ffn
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the feed-forward up projection ends and leaves its arguments. -/
theorem quiescent_Ffn : Cert.quiescent_Ffn (hFfn := Cert.Ffn.Gen.facts) := fun m g _ => Cert.Ffn.Gen.frame m g

/-- So does the kernel over the reals. -/
theorem quiescent_FfnIdeal : Cert.quiescent_FfnIdeal (hFfnIdeal := Cert.FfnIdeal.Gen.facts) := fun m g _ => Cert.FfnIdeal.Gen.frame m g

/-- So does the layer's own text. -/
theorem quiescent_FfnRefIdeal : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩) (Cert.FfnRefIdeal.Value.run m g)

/-- The kernel's results over the reals are those of the layer's text. -/
theorem algebraic_FfnIdeal_FfnRefIdeal : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    unfold Cert.FfnRefIdeal.Value.res_main_v46
    simp only [hagree c]
    exact (Cert.FfnIdeal.Ffn.final m c).symm

end Cert.Proof

end
-- ==== Proof.Rows.lean ====
/-
  The norm of a row, and the residual stream's row after a normalised value is added to it.
-/
module

public import Idealize.ShloMosaic.Lib.Pipeline.ValueKit

@[expose] public section

noncomputable section

open Idealize.ShloMosaic

namespace Cert.Rows

/-- The root-mean-square norm of the row `v`, scaled by `g`. -/
def rmsRow (v g : Fin 2048 → EReal) (j : Fin 2048) : EReal :=
  v j * Ideal.rsqrt (Ideal.div (∑ k, v k * v k) (Ideal.ofBits FTy.f32 0x45000000#32) + Ideal.ofBits FTy.f32 0x358637BD#32) * g j

/-- The residual row `x` after the norm of `v` is added. -/
def resRow (x v g : Fin 2048 → EReal) (j : Fin 2048) : EReal := x j + rmsRow v g j

/-- The norm of that row. -/
def nextRow (x v g g' : Fin 2048 → EReal) (j : Fin 2048) : EReal := rmsRow (resRow x v g) g' j

/-- Equal rows have equal residual rows. -/
theorem resRow_congr {x x' v v' g g' : Fin 2048 → EReal} {j j' : Fin 2048} (hx : ∀ k, x k = x' k) (hv : ∀ k, v k = v' k)
    (hg : ∀ k, g k = g' k) (hj : j = j') : resRow x v g j = resRow x' v' g' j' := by
  rw [funext hx, funext hv, funext hg, hj]

/-- Equal rows have equal norms of their residual rows. -/
theorem nextRow_congr {x x' v v' g g' n n' : Fin 2048 → EReal} {j j' : Fin 2048} (hx : ∀ k, x k = x' k)
    (hv : ∀ k, v k = v' k) (hg : ∀ k, g k = g' k) (hn : ∀ k, n k = n' k) (hj : j = j') :
    nextRow x v g n j = nextRow x' v' g' n' j' := by
  rw [funext hx, funext hv, funext hg, funext hn, hj]

end Cert.Rows

end
-- ==== Proof.Down.lean ====
/-
  The down projection: the kernel's rows are the rows of the normalised projection, summed over its four stretches of the hidden axis, added to the residual stream, and of their norm.
-/
module

public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.DownRefIdeal

open Cert.DownRefIdeal.Gen Cert.Rows

/-- The projection. -/
def projected (a0 : FVec Ideal S16384x5632 .bf16) (a1 : FVec Ideal S5632x2048 .f32) : FVec Ideal S16384x2048 .f32 :=
  Host.dotGeneral dot_S16384x5632_S5632x2048_S16384x2048_1_0_0_1_n_n none (extf .f32 a0 bitsLt_bf16_f32) a1

/-- One product of the projection's sum. -/
def entry (a0 : FVec Ideal S16384x5632 .bf16) (a1 : FVec Ideal S5632x2048 .f32) (r : Fin 16384) (k : Fin 2048) (e : Fin 5632) : EReal :=
  a0 (ix2 r e) * a1 (ix2 e k)

/-- The residual stream after the normalised projection is added. -/
def residual (a0 : FVec Ideal S16384x5632 .bf16) (a1 : FVec Ideal S5632x2048 .f32) (a2 : FVec Ideal S16384x2048 .f32)
    (a3 : FVec Ideal S2048 .f32) : FVec Ideal S16384x2048 .f32 :=
  addf a2 (mulf (mulf (projected a0 a1) (broadcastInDim S16384x2048 ![0, 1] bcast_S16384x1_S16384x2048_0_1 (Host.rsqrt (addf (Host.divf (broadcastInDim S16384x1 ![0] bcast_S16384_S16384x1_0 (Host.reduceAdd (mulf (projected a0 a1) (projected a0 a1)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a3)))

/-- Its norm, the next block's input. -/
def normed (a0 : FVec Ideal S16384x5632 .bf16) (a1 : FVec Ideal S5632x2048 .f32) (a2 : FVec Ideal S16384x2048 .f32)
    (a3 a4 : FVec Ideal S2048 .f32) : FVec Ideal S16384x2048 .bf16 :=
  truncf .bf16 (mulf (mulf (residual a0 a1 a2 a3) (broadcastInDim S16384x2048 ![0, 1] bcast_S16384x1_S16384x2048_0_1 (Host.rsqrt (addf (Host.divf (broadcastInDim S16384x1 ![0] bcast_S16384_S16384x1_0 (Host.reduceAdd (mulf (residual a0 a1 a2 a3) (residual a0 a1 a2 a3)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a4))) bitsLt_bf16_f32

/-- The residual stream, row by row. -/
theorem residual_at (a0 : FVec Ideal S16384x5632 .bf16) (a1 : FVec Ideal S5632x2048 .f32) (a2 : FVec Ideal S16384x2048 .f32) (a3 : FVec Ideal S2048 .f32) (j : S16384x2048.Idx) :
    residual a0 a1 a2 a3 j = resRow (fun k => a2 (ix2 (j 0) k)) (fun k => ∑ e : Fin 5632, a0 (ix2 (j 0) e) * a1 (ix2 e k))
      (fun k => a3 (ix1 k)) (j 1) := by
  pointwise [residual, projected, resRow, rmsRow]

/-- Its norm, row by row. -/
theorem normed_at (a0 : FVec Ideal S16384x5632 .bf16) (a1 : FVec Ideal S5632x2048 .f32) (a2 : FVec Ideal S16384x2048 .f32) (a3 a4 : FVec Ideal S2048 .f32) (j : S16384x2048.Idx) :
    normed a0 a1 a2 a3 a4 j = nextRow (fun k => a2 (ix2 (j 0) k)) (fun k => ∑ e : Fin 5632, a0 (ix2 (j 0) e) * a1 (ix2 e k))
      (fun k => a3 (ix1 k)) (fun k => a4 (ix1 k)) (j 1) := by
  pointwise [normed, residual_at, nextRow, rmsRow]

end Cert.DownRefIdeal

namespace Cert.DownIdeal.Acc

open Cert.DownIdeal Cert.DownIdeal.Gen Cert.DownRefIdeal Cert.Rows

variable (m : (ℓ : Loc nD τ sig) → Buf (Elt Ideal) ℓ)

/-! What the body stores at the last stretch in each half of a block, row by row. -/

/-- The residual rows stored in one half of a block at the last stretch: the old rows plus the norm of the finished product. -/
theorem pay4_at (v0 : Vec Ideal S256x2048 .f32) (v1 : Vec Ideal S256x1408 .bf16) (v2 : Vec Ideal S1408x2048 .bf16)
    (v4 : Vec Ideal S256x2048 .f32) (v5 : Vec Ideal S1x2048 .f32) (j : S256x2048.Idx) :
    k0_pay4 v0 v1 v2 v4 v5 j = resRow (fun k => v4 (ix2 (j 0) k)) (fun k => v0 (ix2 (j 0) k) + ∑ e : Fin 1408, v1 (ix2 (j 0) e) * v2 (ix2 e k))
      (fun k => v5 (ix2 0 k)) (j 1) := by
  pointwise [k0_pay4, resRow, rmsRow]

/-- The residual rows stored in the other half, likewise. -/
theorem pay6_at (v0 : Vec Ideal S256x2048 .f32) (v1 : Vec Ideal S256x1408 .bf16) (v2 : Vec Ideal S1408x2048 .bf16)
    (v4 : Vec Ideal S256x2048 .f32) (v5 : Vec Ideal S1x2048 .f32) (j : S256x2048.Idx) :
    k0_pay6 v0 v1 v2 v4 v5 j = resRow (fun k => v4 (ix2 (j 0) k)) (fun k => v0 (ix2 (j 0) k) + ∑ e : Fin 1408, v1 (ix2 (j 0) e) * v2 (ix2 e k))
      (fun k => v5 (ix2 0 k)) (j 1) := by
  pointwise [k0_pay6, resRow, rmsRow]

/-- The next norm stored in that half: the norm of its residual rows. -/
theorem next6_at (v0 : Vec Ideal S256x2048 .f32) (v1 : Vec Ideal S256x1408 .bf16) (v2 : Vec Ideal S1408x2048 .bf16)
    (v4 : Vec Ideal S256x2048 .f32) (v5 : Vec Ideal S1x2048 .f32) (v6 : Vec Ideal S1x2048 .f32) (j : S256x2048.Idx) :
    k0_pay3 (k0_pay6 v0 v1 v2 v4 v5) (k0_pay7 v6) (k0_pay8 v0 v1 v2 v4 v5) j
      = nextRow (fun k => v4 (ix2 (j 0) k)) (fun k => v0 (ix2 (j 0) k) + ∑ e : Fin 1408, v1 (ix2 (j 0) e) * v2 (ix2 e k))
      (fun k => v5 (ix2 0 k)) (fun k => v6 (ix2 0 k)) (j 1) := by
  pointwise [k0_pay3, k0_pay7, k0_pay8, pay6_at, nextRow, rmsRow]

/-- The next norm stored in the first of the two halves: the norm of its residual rows. -/
theorem next4_at (v0 : Vec Ideal S256x2048 .f32) (v1 : Vec Ideal S256x1408 .bf16) (v2 : Vec Ideal S1408x2048 .bf16)
    (v4 : Vec Ideal S256x2048 .f32) (v5 : Vec Ideal S1x2048 .f32) (v6 : Vec Ideal S1x2048 .f32) (j : S256x2048.Idx) :
    k0_pay5 v0 v1 v2 v4 v5 v6 j
      = nextRow (fun k => v4 (ix2 (j 0) k)) (fun k => v0 (ix2 (j 0) k) + ∑ e : Fin 1408, v1 (ix2 (j 0) e) * v2 (ix2 e k))
      (fun k => v5 (ix2 0 k)) (fun k => v6 (ix2 0 k)) (j 1) := by
  pointwise [k0_pay5, pay4_at, nextRow, rmsRow]

/-- Where each operand's block sits at a grid point. -/
theorem idx : ∀ t : Fin cfg0.N, win0_0.index t = ![t.val / 4, t.val % 4] ∧ win0_1.index t = ![t.val % 4, 0] ∧ win0_2.index t = ![t.val / 4, 0]
    ∧ win0_3.index t = ![0, 0] ∧ win0_4.index t = ![0, 0] ∧ win0_5.index t = ![t.val / 4, 0] ∧ win0_6.index t = ![t.val / 4, 0]
    ∧ t.val < 128 :=
  (by decide +kernel : ∀ t : Fin grid0.N, _)

/-! The running sum: a row's product over the stretches done so far. -/

/-- Reading the scratch buffer as a whole gives what was written to it as a whole. -/
theorem held_unread (v : Vec Ideal S512x2048 .f32) :
    View.read (Elt Ideal) (View.whole cc0_scratch0) ((Memref.isWhole_whole cc0_scratch0).unread v) = v :=
  (Memref.isWhole_whole cc0_scratch0).read_unread v

/-- A stretch's product at a row and a column. -/
def product (v : Vec Ideal S512x1408 .bf16) (w : Vec Ideal S1408x2048 .bf16) (r : Fin 512) (k : Fin 2048) : EReal :=
  ∑ e : Fin 1408, v (ix2 r e) * w (ix2 e k)

/-- It at a grid point. -/
def stretch (c : Dev nD) (t : Fin cfg0.N) (r : Fin 512) (k : Fin 2048) : EReal :=
  product (iblk m c 0 t) (iblk m c 1 t) r k

/-- After a block's first stretch the scratch buffer holds that stretch's product. -/
theorem held_A (c : Dev nD) (t : Fin cfg0.N) (h : t.val % 4 = 0) (r : Fin 512) (k : Fin 2048) :
    (outsAt0 m c t.val t.isLt).2.2 (ix2 r k) = stretch m c t r k := by
  rw [outsAt0_A m c t h (by omega) (by omega)]
  dsimp only
  frame_out
  pointwise [k0_pay1, stretch, product]

/-- After each middle stretch it holds what it held before plus that stretch's product. -/
theorem held_B (c : Dev nD) (t : Fin cfg0.N) (h : 1 ≤ t.val % 4 ∧ t.val % 4 ≤ 2) (p) (r : Fin 512) (k : Fin 2048) :
    (outsAt0 m c t.val t.isLt).2.2 (ix2 r k) = (outsAt0 m c (t.val - 1) p).2.2 (ix2 r k) + stretch m c t r k := by
  rw [outsAt0_B m c t (by omega) h (by omega)]
  dsimp only
  frame_out
  rw [held_unread]
  pointwise [k0_pay2, stretch, product]

/-- A stretch's product is the stretch of the whole product. -/
theorem stretch_eq (c : Dev nD) (t : Fin cfg0.N) (s : ℕ) (hs : s < 4) (h : t.val % 4 = s) (r : Fin 512) (k : Fin 2048) (R : Fin 16384)
    (hR : R.val = t.val / 4 * 512 + r.val) :
    stretch m c t r k = ∑ e : Fin 1408, entry (m ((c : Thread nD τ).loc main_arg0)) (m ((c : Thread nD τ).loc main_arg1)) R k ⟨s * 1408 + e.val, by omega⟩ := by
  unfold stretch product entry
  refine Finset.sum_congr rfl fun e _ => ?_
  blk_point [iblk, V, idx t]

/-- The sum the last stretch leaves: the whole product at the row. -/
theorem total (c : Dev nD) (t : Fin cfg0.N) (h : t.val % 4 = 3) (p) (r : Fin 512) (k : Fin 2048) (R : Fin 16384)
    (hR : R.val = t.val / 4 * 512 + r.val) :
    (outsAt0 m c (t.val - 1) p).2.2 (ix2 r k) + stretch m c t r k
      = ∑ e : Fin 5632, entry (m ((c : Thread nD τ).loc main_arg0)) (m ((c : Thread nD τ).loc main_arg1)) R k e := by
  have hN : t.val < 128 := (idx t).2.2.2.2.2.2.2
  have hN' : cfg0.N = 128 := N_0
  have e1 := held_B m c ⟨t.val - 1, p⟩ (by dsimp only; omega) (by dsimp only; omega) r k
  have e2 := held_B m c ⟨t.val - 1 - 1, by omega⟩ (by dsimp only; omega) (by dsimp only; omega) r k
  have e3 := held_A m c ⟨t.val - 1 - 1 - 1, by omega⟩ (by dsimp only; omega) r k
  dsimp only at e1 e2 e3
  rw [e1, e2, e3, stretch_eq m c _ 0 (by omega) (by dsimp only; omega) r k R (by dsimp only; omega),
    stretch_eq m c _ 1 (by omega) (by dsimp only; omega) r k R (by dsimp only; omega),
    stretch_eq m c _ 2 (by omega) (by dsimp only; omega) r k R (by dsimp only; omega),
    stretch_eq m c _ 3 (by omega) h r k R hR,
    ← Fin.sum_mul_add_fin 4 1408 (entry (m ((c : Thread nD τ).loc main_arg0)) (m ((c : Thread nD τ).loc main_arg1)) R k), Fin.sum_univ_four]
  rfl

/-- The first result array is the residual stream. -/
theorem final5 (c : Dev nD) : (dats m 0 c).arrAt 5 (cfgs 0).N = residual (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h3 : t.val % 4 = 3 := (flush0_5 t).mp hf
  have hN : t.val < cfg0.N := t.isLt
  blk_simp
  rw [after0_5, outsAt0_C m c t (by omega) (by omega) h3]
  dsimp only
  frame_out
  rw [held_unread]
  canon_tiles x h
  case piece0 =>
    refine (pay6_at _ _ _ _ _ x).trans (Eq.trans (resRow_congr ?_ ?hv ?_ ?_) (residual_at _ _ _ _ _).symm)
    case hv =>
      intro k
      refine Eq.trans ?_ (total m c t h3 (by omega) ⟨256 + (x 0).val, by omega⟩ k _ ?hr)
      case hr =>
        blk_simp [idx t]
        show _ = t.val / 4 * 512 + (256 + (x 0).val)
        omega
      · pointwise [stretch, product]
        all_goals try (blk_point [idx t])
    all_goals first
      | (intro k; pointwise; done)
      | (intro k; pointwise; blk_point [iblk, V, idx t]; done)
      | (apply Fin.ext; blk_simp [idx t]; omega)
  case piece1 =>
    refine (pay4_at _ _ _ _ _ x).trans (Eq.trans (resRow_congr ?_ ?hv ?_ ?_) (residual_at _ _ _ _ _).symm)
    case hv =>
      intro k
      refine Eq.trans ?_ (total m c t h3 (by omega) ⟨(x 0).val, by omega⟩ k _ ?hr)
      case hr =>
        blk_simp [idx t]
        show _ = t.val / 4 * 512 + ((x 0).val)
        omega
      · pointwise [stretch, product]
        all_goals try (blk_point [idx t])
    all_goals first
      | (intro k; pointwise; done)
      | (intro k; pointwise; blk_point [iblk, V, idx t]; done)
      | (apply Fin.ext; blk_simp [idx t]; omega)

/-- The second result array is its norm. -/
theorem final6 (c : Dev nD) : (dats m 0 c).arrAt 6 (cfgs 0).N = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h3 : t.val % 4 = 3 := (flush0_6 t).mp hf
  have hN : t.val < cfg0.N := t.isLt
  blk_simp
  rw [after0_6, outsAt0_C m c t (by omega) (by omega) h3]
  dsimp only
  frame_out
  rw [held_unread]
  canon_tiles x h
  case piece0 =>
    refine (next6_at _ _ _ _ _ _ x).trans (Eq.trans (nextRow_congr ?_ ?hv ?_ ?_ ?_) (normed_at _ _ _ _ _ _).symm)
    case hv =>
      intro k
      refine Eq.trans ?_ (total m c t h3 (by omega) ⟨256 + (x 0).val, by omega⟩ k _ ?hr)
      case hr =>
        blk_simp [idx t]
        show _ = t.val / 4 * 512 + (256 + (x 0).val)
        omega
      · pointwise [stretch, product]
        all_goals try (blk_point [idx t])
    all_goals first
      | (intro k; pointwise; done)
      | (intro k; pointwise; blk_point [iblk, V, idx t]; done)
      | (apply Fin.ext; blk_simp [idx t]; omega)
  case piece1 =>
    refine (next4_at _ _ _ _ _ _ x).trans (Eq.trans (nextRow_congr ?_ ?hv ?_ ?_ ?_) (normed_at _ _ _ _ _ _).symm)
    case hv =>
      intro k
      refine Eq.trans ?_ (total m c t h3 (by omega) ⟨(x 0).val, by omega⟩ k _ ?hr)
      case hr =>
        blk_simp [idx t]
        show _ = t.val / 4 * 512 + ((x 0).val)
        omega
      · pointwise [stretch, product]
        all_goals try (blk_point [idx t])
    all_goals first
      | (intro k; pointwise; done)
      | (intro k; pointwise; blk_point [iblk, V, idx t]; done)
      | (apply Fin.ext; blk_simp [idx t]; omega)

end Cert.DownIdeal.Acc

end
-- ==== Proof.ClaimDown.lean ====
/-
  The claims of the down projection: its programs end, and the kernel's results are the layer's.
-/
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Down
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the down projection ends and leaves its arguments. -/
theorem quiescent_Down : Cert.quiescent_Down (hDown := Cert.Down.Gen.facts) := fun m g _ => Cert.Down.Gen.frame m g

/-- So does the kernel over the reals. -/
theorem quiescent_DownIdeal : Cert.quiescent_DownIdeal (hDownIdeal := Cert.DownIdeal.Gen.facts) := fun m g _ => Cert.DownIdeal.Gen.frame m g

/-- So does the layer's own text. -/
theorem quiescent_DownRefIdeal : Cert.quiescent_DownRefIdeal (hDownRefIdeal := Cert.DownRefIdeal.Gen.facts) := fun m g _ =>
  (θ_run Cert.DownRefIdeal.defs _ _).mono (fun r h => ⟨fun c => (h c).2.2, sem_eq_zero_of_no_sems (by decide) r.2⟩) (Cert.DownRefIdeal.Value.run m g)

/-- The kernel's results over the reals are those of the layer's text. -/
theorem algebraic_DownIdeal_DownRefIdeal : Cert.algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Value.run m' g'
    · exact (Cert.DownIdeal.Acc.final5 m c).symm
    · unfold Cert.DownRefIdeal.Value.res_main_v29
      simp only [hagree c]
      exact (Cert.DownIdeal.Acc.final6 m c).symm

end Cert.Proof

end
-- ==== Proof.Outp.lean ====
/-
  The output projection: the kernel's rows are the rows of the normalised projection added to the residual stream, and of their norm.
-/
module

public import proofs.«01_k».proof.Proof.Gen.OutpIdeal.Frame
public import proofs.«01_k».proof.Proof.Gen.OutpIdeal.Value
public import proofs.«01_k».proof.Proof.Gen.OutpRefIdeal
public import proofs.«01_k».proof.Proof.Gen.OutpRefIdeal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.OutpRefIdeal

open Cert.OutpRefIdeal.Gen Cert.Rows

/-- The projection. -/
def projected (a0 : FVec Ideal S16384x2048 .bf16) (a1 : FVec Ideal S2048x2048 .f32) : FVec Ideal S16384x2048 .f32 :=
  Host.dotGeneral dot_S16384x2048_S2048x2048_S16384x2048_1_0_0_1_n_n none (extf .f32 a0 bitsLt_bf16_f32) a1

/-- The residual stream after the normalised projection is added. -/
def residual (a0 : FVec Ideal S16384x2048 .bf16) (a1 : FVec Ideal S2048x2048 .f32) (a2 : FVec Ideal S16384x2048 .f32)
    (a3 : FVec Ideal S2048 .f32) : FVec Ideal S16384x2048 .f32 :=
  addf a2 (mulf (mulf (projected a0 a1) (broadcastInDim S16384x2048 ![0, 1] bcast_S16384x1_S16384x2048_0_1 (Host.rsqrt (addf (Host.divf (broadcastInDim S16384x1 ![0] bcast_S16384_S16384x1_0 (Host.reduceAdd (mulf (projected a0 a1) (projected a0 a1)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a3)))

/-- Its norm, the next block's input. -/
def normed (a0 : FVec Ideal S16384x2048 .bf16) (a1 : FVec Ideal S2048x2048 .f32) (a2 : FVec Ideal S16384x2048 .f32)
    (a3 : FVec Ideal S2048 .f32) (a4 : FVec Ideal S2048 .f32) : FVec Ideal S16384x2048 .bf16 :=
  truncf .bf16 (mulf (mulf (residual a0 a1 a2 a3) (broadcastInDim S16384x2048 ![0, 1] bcast_S16384x1_S16384x2048_0_1 (Host.rsqrt (addf (Host.divf (broadcastInDim S16384x1 ![0] bcast_S16384_S16384x1_0 (Host.reduceAdd (mulf (residual a0 a1 a2 a3) (residual a0 a1 a2 a3)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a4))) bitsLt_bf16_f32

/-- The residual stream, row by row. -/
theorem residual_at (a0 : FVec Ideal S16384x2048 .bf16) (a1 : FVec Ideal S2048x2048 .f32) (a2 : FVec Ideal S16384x2048 .f32) (a3 : FVec Ideal S2048 .f32) (j : S16384x2048.Idx) :
    residual a0 a1 a2 a3 j = resRow (fun k => a2 (ix2 (j 0) k)) (fun k => ∑ e : Fin 2048, a0 (ix2 (j 0) e) * a1 (ix2 e k))
      (fun k => a3 (ix1 k)) (j 1) := by
  pointwise [residual, projected, resRow, rmsRow]

/-- Its norm, row by row. -/
theorem normed_at (a0 : FVec Ideal S16384x2048 .bf16) (a1 : FVec Ideal S2048x2048 .f32) (a2 : FVec Ideal S16384x2048 .f32) (a3 a4 : FVec Ideal S2048 .f32) (j : S16384x2048.Idx) :
    normed a0 a1 a2 a3 a4 j = nextRow (fun k => a2 (ix2 (j 0) k)) (fun k => ∑ e : Fin 2048, a0 (ix2 (j 0) e) * a1 (ix2 e k))
      (fun k => a3 (ix1 k)) (fun k => a4 (ix1 k)) (j 1) := by
  pointwise [normed, residual_at, nextRow, rmsRow]

end Cert.OutpRefIdeal

namespace Cert.OutpIdeal.Out

open Cert.OutpIdeal Cert.OutpIdeal.Gen Cert.OutpRefIdeal Cert.Rows

variable (m : (ℓ : Loc nD τ sig) → Buf (Elt Ideal) ℓ)

/-! What the body stores in each half of a block, row by row. -/

/-- The residual rows stored in one half of a block: the old rows plus the norm of the product. -/
theorem pay1_at (v0 : Vec Ideal S256x2048 .bf16) (v1 : Vec Ideal S2048x2048 .bf16) (v4 : Vec Ideal S256x2048 .f32)
    (v5 : Vec Ideal S1x2048 .f32) (j : S256x2048.Idx) :
    k0_pay1 v0 v1 v4 v5 j = resRow (fun k => v4 (ix2 (j 0) k)) (fun k => ∑ e : Fin 2048, v0 (ix2 (j 0) e) * v1 (ix2 e k))
      (fun k => v5 (ix2 0 k)) (j 1) := by
  pointwise [k0_pay1, resRow, rmsRow]

/-- The residual rows stored in the other half, likewise. -/
theorem pay3_at (v0 : Vec Ideal S256x2048 .bf16) (v1 : Vec Ideal S2048x2048 .bf16) (v4 : Vec Ideal S256x2048 .f32)
    (v5 : Vec Ideal S1x2048 .f32) (j : S256x2048.Idx) :
    k0_pay3 v0 v1 v4 v5 j = resRow (fun k => v4 (ix2 (j 0) k)) (fun k => ∑ e : Fin 2048, v0 (ix2 (j 0) e) * v1 (ix2 e k))
      (fun k => v5 (ix2 0 k)) (j 1) := by
  pointwise [k0_pay3, resRow, rmsRow]

/-- The next norm stored in the first of these halves: the norm of its residual rows. -/
theorem pay2_at (v0 : Vec Ideal S256x2048 .bf16) (v1 : Vec Ideal S2048x2048 .bf16) (v4 : Vec Ideal S256x2048 .f32)
    (v5 : Vec Ideal S1x2048 .f32) (v6 : Vec Ideal S1x2048 .f32) (j : S256x2048.Idx) :
    k0_pay2 v0 v1 v4 v5 v6 j = nextRow (fun k => v4 (ix2 (j 0) k)) (fun k => ∑ e : Fin 2048, v0 (ix2 (j 0) e) * v1 (ix2 e k))
      (fun k => v5 (ix2 0 k)) (fun k => v6 (ix2 0 k)) (j 1) := by
  pointwise [k0_pay2, pay1_at, nextRow, resRow, rmsRow]

/-- The next norm stored in the second of these halves: the norm of its residual rows. -/
theorem pay4_at (v0 : Vec Ideal S256x2048 .bf16) (v1 : Vec Ideal S2048x2048 .bf16) (v4 : Vec Ideal S256x2048 .f32)
    (v5 : Vec Ideal S1x2048 .f32) (v6 : Vec Ideal S1x2048 .f32) (j : S256x2048.Idx) :
    k0_pay4 v0 v1 v4 v5 v6 j = nextRow (fun k => v4 (ix2 (j 0) k)) (fun k => ∑ e : Fin 2048, v0 (ix2 (j 0) e) * v1 (ix2 e k))
      (fun k => v5 (ix2 0 k)) (fun k => v6 (ix2 0 k)) (j 1) := by
  pointwise [k0_pay4, pay3_at, nextRow, resRow, rmsRow]

/-- Where each operand's block sits at a grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ t.val < 32 :=
  (by decide +kernel : ∀ t : Fin grid0.N, _)

/-- The first result array is the residual stream. -/
theorem final5 (c : Dev nD) : (dats m 0 c).arrAt 5 (cfgs 0).N = residual (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  canon_tiles x h
  case piece0 =>
    refine (pay3_at _ _ _ _ x).trans (Eq.trans (resRow_congr ?_ ?_ ?_ ?_) (residual_at _ _ _ _ _).symm)
    all_goals first
      | (intro k; pointwise; done)
      | (intro k; pointwise; blk_point [iblk, V, idx t]; done)
      | (apply Fin.ext; blk_simp [idx t]; omega)
  case piece1 =>
    refine (pay1_at _ _ _ _ x).trans (Eq.trans (resRow_congr ?_ ?_ ?_ ?_) (residual_at _ _ _ _ _).symm)
    all_goals first
      | (intro k; pointwise; done)
      | (intro k; pointwise; blk_point [iblk, V, idx t]; done)
      | (apply Fin.ext; blk_simp [idx t]; omega)

/-- The second result array is its norm. -/
theorem final6 (c : Dev nD) : (dats m 0 c).arrAt 6 (cfgs 0).N = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  canon_tiles x h
  case piece0 =>
    refine (pay4_at _ _ _ _ _ x).trans (Eq.trans (nextRow_congr ?_ ?_ ?_ ?_ ?_) (normed_at _ _ _ _ _ _).symm)
    all_goals first
      | (intro k; pointwise; done)
      | (intro k; pointwise; blk_point [iblk, V, idx t]; done)
      | (apply Fin.ext; blk_simp [idx t]; omega)
  case piece1 =>
    refine (pay2_at _ _ _ _ _ x).trans (Eq.trans (nextRow_congr ?_ ?_ ?_ ?_ ?_) (normed_at _ _ _ _ _ _).symm)
    all_goals first
      | (intro k; pointwise; done)
      | (intro k; pointwise; blk_point [iblk, V, idx t]; done)
      | (apply Fin.ext; blk_simp [idx t]; omega)

end Cert.OutpIdeal.Out

end
-- ==== Proof.ClaimOutp.lean ====
/-
  The claims of the output projection: its programs end, and the kernel's results are the layer's.
-/
module

public import proofs.«01_k».proof.Defs
public import proofs.«01_k».proof.Proof.Gen.Outp
public import proofs.«01_k».proof.Proof.Gen.Outp.Frame
public import proofs.«01_k».proof.Proof.Gen.OutpIdeal
public import proofs.«01_k».proof.Proof.Gen.OutpIdeal.Frame
public import proofs.«01_k».proof.Proof.Gen.OutpIdeal.Value
public import proofs.«01_k».proof.Proof.Gen.OutpRefIdeal
public import proofs.«01_k».proof.Proof.Gen.OutpRefIdeal.Run
public import proofs.«01_k».proof.Proof.Outp
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the output projection ends and leaves its arguments. -/
theorem quiescent_Outp : Cert.quiescent_Outp (hOutp := Cert.Outp.Gen.facts) := fun m g _ => Cert.Outp.Gen.frame m g

/-- So does the kernel over the reals. -/
theorem quiescent_OutpIdeal : Cert.quiescent_OutpIdeal (hOutpIdeal := Cert.OutpIdeal.Gen.facts) := fun m g _ => Cert.OutpIdeal.Gen.frame m g

/-- So does the layer's own text. -/
theorem quiescent_OutpRefIdeal : Cert.quiescent_OutpRefIdeal (hOutpRefIdeal := Cert.OutpRefIdeal.Gen.facts) := fun m g _ =>
  (θ_run Cert.OutpRefIdeal.defs _ _).mono (fun r h => ⟨fun c => (h c).2.2, sem_eq_zero_of_no_sems (by decide) r.2⟩) (Cert.OutpRefIdeal.Value.run m g)

/-- The kernel's results over the reals are those of the layer's text. -/
theorem algebraic_OutpIdeal_OutpRefIdeal : Cert.algebraic_OutpIdeal_OutpRefIdeal (hOutpIdeal := Cert.OutpIdeal.Gen.facts) (hOutpRefIdeal := Cert.OutpRefIdeal.Gen.facts) := by
  pair_intro
  · run_from Cert.OutpIdeal.Gen.run_main m g
  · run_from Cert.OutpRefIdeal.Value.run m' g'
    · exact (Cert.OutpIdeal.Out.final5 m c).symm
    · unfold Cert.OutpRefIdeal.Value.res_main_v29
      simp only [hagree c]
      exact (Cert.OutpIdeal.Out.final6 m c).symm

end Cert.Proof

end
-- ==== Proof.Ple.lean ====
/-
  The per-layer embedding: the kernel's rows are the rows of its gated, normalised projection added to the residual stream, and of their norm.
-/
module

public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.PleRefIdeal

open Cert.PleRefIdeal.Gen Cert.Rows

/-- The gated projection of the embedding. -/
def gated (a0 : FVec Ideal S16384x256 .f32) (a1 : FVec Ideal S16384x2048 .bf16)
    (a2 : FVec Ideal S256x2048 .f32) (a3 : FVec Ideal S2048x2048 .f32) : FVec Ideal S16384x2048 .f32 :=
  mulf (Host.dotGeneral dot_S16384x256_S256x2048_S16384x2048_1_0_0_1_n_n none a0 a2) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none (extf .f32 a1 bitsLt_bf16_f32) a3)))))

/-- The residual stream after the normalised gated projection is added. -/
def residual (a0 : FVec Ideal S16384x256 .f32) (a1 : FVec Ideal S16384x2048 .bf16)
    (a2 : FVec Ideal S256x2048 .f32) (a3 : FVec Ideal S2048x2048 .f32) (a4 : FVec Ideal S16384x2048 .f32)
    (a5 : FVec Ideal S2048 .f32) : FVec Ideal S16384x2048 .f32 :=
  addf a4 (mulf (mulf (gated a0 a1 a2 a3) (broadcastInDim S16384x2048 ![0, 1] bcast_S16384x1_S16384x2048_0_1 (Host.rsqrt (addf (Host.divf (broadcastInDim S16384x1 ![0] bcast_S16384_S16384x1_0 (Host.reduceAdd (mulf (gated a0 a1 a2 a3) (gated a0 a1 a2 a3)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a5)))

/-- Its norm, the next block's input. -/
def normed (a0 : FVec Ideal S16384x256 .f32) (a1 : FVec Ideal S16384x2048 .bf16)
    (a2 : FVec Ideal S256x2048 .f32) (a3 : FVec Ideal S2048x2048 .f32) (a4 : FVec Ideal S16384x2048 .f32)
    (a5 a6 : FVec Ideal S2048 .f32) : FVec Ideal S16384x2048 .bf16 :=
  truncf .bf16 (mulf (mulf (residual a0 a1 a2 a3 a4 a5) (broadcastInDim S16384x2048 ![0, 1] bcast_S16384x1_S16384x2048_0_1 (Host.rsqrt (addf (Host.divf (broadcastInDim S16384x1 ![0] bcast_S16384_S16384x1_0 (Host.reduceAdd (mulf (residual a0 a1 a2 a3 a4 a5) (residual a0 a1 a2 a3 a4 a5)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a6))) bitsLt_bf16_f32

/-- The residual stream, row by row. -/
theorem residual_at (a0 : FVec Ideal S16384x256 .f32) (a1 : FVec Ideal S16384x2048 .bf16)
    (a2 : FVec Ideal S256x2048 .f32) (a3 : FVec Ideal S2048x2048 .f32) (a4 : FVec Ideal S16384x2048 .f32) (a5 : FVec Ideal S2048 .f32) (j : S16384x2048.Idx) :
    residual a0 a1 a2 a3 a4 a5 j = resRow (fun k => a4 (ix2 (j 0) k)) (fun k => (∑ e : Fin 256, a0 (ix2 (j 0) e) * a2 (ix2 e k)) * Ideal.logistic (∑ e : Fin 2048, a1 (ix2 (j 0) e) * a3 (ix2 e k)))
      (fun k => a5 (ix1 k)) (j 1) := by
  pointwise [residual, gated, resRow, rmsRow, Ideal.logistic]

/-- Its norm, row by row. -/
theorem normed_at (a0 : FVec Ideal S16384x256 .f32) (a1 : FVec Ideal S16384x2048 .bf16)
    (a2 : FVec Ideal S256x2048 .f32) (a3 : FVec Ideal S2048x2048 .f32) (a4 : FVec Ideal S16384x2048 .f32) (a5 a6 : FVec Ideal S2048 .f32) (j : S16384x2048.Idx) :
    normed a0 a1 a2 a3 a4 a5 a6 j = nextRow (fun k => a4 (ix2 (j 0) k)) (fun k => (∑ e : Fin 256, a0 (ix2 (j 0) e) * a2 (ix2 e k)) * Ideal.logistic (∑ e : Fin 2048, a1 (ix2 (j 0) e) * a3 (ix2 e k)))
      (fun k => a5 (ix1 k)) (fun k => a6 (ix1 k)) (j 1) := by
  pointwise [normed, residual_at, nextRow, rmsRow]

end Cert.PleRefIdeal

namespace Cert.PleIdeal.Embed

open Cert.PleIdeal Cert.PleIdeal.Gen Cert.PleRefIdeal Cert.Rows

variable (m : (ℓ : Loc nD τ sig) → Buf (Elt Ideal) ℓ)

/-! What the body stores in each half of a block, row by row. -/

/-- The residual rows stored in one half of a block: the old rows plus the norm of the gated projection. -/
theorem pay2_at (v0 : Vec Ideal S256x256 .bf16) (v2 : Vec Ideal S256x2048 .bf16) (v5 : Vec Ideal S256x2048 .bf16)
    (v6 : Vec Ideal S2048x2048 .bf16) (v11 : Vec Ideal S256x2048 .f32) (v12 : Vec Ideal S1x2048 .f32) (j : S256x2048.Idx) :
    k0_pay2 v0 v2 v5 v6 v11 v12 j = resRow (fun k => v11 (ix2 (j 0) k)) (fun k => (∑ e : Fin 256, v0 (ix2 (j 0) e) * v2 (ix2 e k)) * Ideal.logistic (∑ e : Fin 2048, v5 (ix2 (j 0) e) * v6 (ix2 e k)))
      (fun k => v12 (ix2 0 k)) (j 1) := by
  pointwise [k0_pay2, resRow, rmsRow]

/-- The residual rows stored in the other half, likewise. -/
theorem pay6_at (v0 : Vec Ideal S256x256 .bf16) (v2 : Vec Ideal S256x2048 .bf16) (v5 : Vec Ideal S256x2048 .bf16)
    (v6 : Vec Ideal S2048x2048 .bf16) (v11 : Vec Ideal S256x2048 .f32) (v12 : Vec Ideal S1x2048 .f32) (j : S256x2048.Idx) :
    k0_pay6 v0 v2 v5 v6 v11 v12 j = resRow (fun k => v11 (ix2 (j 0) k)) (fun k => (∑ e : Fin 256, v0 (ix2 (j 0) e) * v2 (ix2 e k)) * Ideal.logistic (∑ e : Fin 2048, v5 (ix2 (j 0) e) * v6 (ix2 e k)))
      (fun k => v12 (ix2 0 k)) (j 1) := by
  pointwise [k0_pay6, resRow, rmsRow]

/-- The next norm stored in the first of these halves: the norm of its residual rows. -/
theorem next2_at (v0 : Vec Ideal S256x256 .bf16) (v2 : Vec Ideal S256x2048 .bf16) (v5 : Vec Ideal S256x2048 .bf16)
    (v6 : Vec Ideal S2048x2048 .bf16) (v11 : Vec Ideal S256x2048 .f32) (v12 : Vec Ideal S1x2048 .f32) (v28 : Vec Ideal S1x2048 .f32) (j : S256x2048.Idx) :
    k0_pay5 (k0_pay2 v0 v2 v5 v6 v11 v12) (k0_pay3 v28) (k0_pay4 v0 v2 v5 v6 v11 v12) j
      = nextRow (fun k => v11 (ix2 (j 0) k)) (fun k => (∑ e : Fin 256, v0 (ix2 (j 0) e) * v2 (ix2 e k)) * Ideal.logistic (∑ e : Fin 2048, v5 (ix2 (j 0) e) * v6 (ix2 e k)))
      (fun k => v12 (ix2 0 k)) (fun k => v28 (ix2 0 k)) (j 1) := by
  pointwise [k0_pay5, k0_pay4, k0_pay3, pay2_at, nextRow, rmsRow]

/-- The next norm stored in the second of these halves: the norm of its residual rows. -/
theorem next6_at (v0 : Vec Ideal S256x256 .bf16) (v2 : Vec Ideal S256x2048 .bf16) (v5 : Vec Ideal S256x2048 .bf16)
    (v6 : Vec Ideal S2048x2048 .bf16) (v11 : Vec Ideal S256x2048 .f32) (v12 : Vec Ideal S1x2048 .f32) (v28 : Vec Ideal S1x2048 .f32) (j : S256x2048.Idx) :
    k0_pay1 (k0_pay6 v0 v2 v5 v6 v11 v12) v28 j
      = nextRow (fun k => v11 (ix2 (j 0) k)) (fun k => (∑ e : Fin 256, v0 (ix2 (j 0) e) * v2 (ix2 e k)) * Ideal.logistic (∑ e : Fin 2048, v5 (ix2 (j 0) e) * v6 (ix2 e k)))
      (fun k => v12 (ix2 0 k)) (fun k => v28 (ix2 0 k)) (j 1) := by
  pointwise [k0_pay1, pay6_at, nextRow, rmsRow]

/-- Where each operand's block sits at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![t.val, 0] ∧ win0_8.index t = ![t.val, 0] ∧ t.val < 32 :=
  (by decide +kernel : ∀ t : Fin grid0.N, _)

/-- The first result array is the residual stream. -/
theorem final7 (c : Dev nD) : (dats m 0 c).arrAt 7 (cfgs 0).N = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  canon_tiles x h
  case piece0 =>
    unfold k0_pay7
    refine (pay6_at _ _ _ _ _ _ x).trans (Eq.trans (resRow_congr ?_ ?_ ?_ ?_) (residual_at _ _ _ _ _ _ _).symm)
    all_goals first
      | (intro k; pointwise; done)
      | (intro k; pointwise; blk_point [iblk, V, idx t]; done)
      | (apply Fin.ext; blk_simp [idx t]; omega)
  case piece1 =>
    refine (pay2_at _ _ _ _ _ _ x).trans (Eq.trans (resRow_congr ?_ ?_ ?_ ?_) (residual_at _ _ _ _ _ _ _).symm)
    all_goals first
      | (intro k; pointwise; done)
      | (intro k; pointwise; blk_point [iblk, V, idx t]; done)
      | (apply Fin.ext; blk_simp [idx t]; omega)

/-- The second result array is its norm. -/
theorem final8 (c : Dev nD) : (dats m 0 c).arrAt 8 (cfgs 0).N = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  frame_out
  canon_tiles x h
  case piece0 =>
    unfold k0_pay7
    refine (next6_at _ _ _ _ _ _ _ x).trans (Eq.trans (nextRow_congr ?_ ?_ ?_ ?_ ?_) (normed_at _ _ _ _ _ _ _ _).symm)
    all_goals first
      | (intro k; pointwise; done)
      | (intro k; pointwise; blk_point [iblk, V, idx t]; done)
      | (apply Fin.ext; blk_simp [idx t]; omega)
  case piece1 =>
    refine (next2_at _ _ _ _ _ _ _ x).trans (Eq.trans (nextRow_congr ?_ ?_ ?_ ?_ ?_) (normed_at _ _ _ _ _ _ _ _).symm)
    all_goals first
      | (intro k; pointwise; done)
      | (intro k; pointwise; blk_point [iblk, V, idx t]; done)
      | (apply Fin.ext; blk_simp [idx t]; omega)

end Cert.PleIdeal.Embed

end
-- ==== Proof.ClaimPle.lean ====
/-
  The claims of the per-layer embedding: its programs end, and the kernel's results are the layer's.
-/
module

public import proofs.«01_k».proof.Defs
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Ple
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the per-layer embedding ends and leaves its arguments. -/
theorem quiescent_Ple : Cert.quiescent_Ple (hPle := Cert.Ple.Gen.facts) := fun m g _ => Cert.Ple.Gen.frame m g

/-- So does the kernel over the reals. -/
theorem quiescent_PleIdeal : Cert.quiescent_PleIdeal (hPleIdeal := Cert.PleIdeal.Gen.facts) := fun m g _ => Cert.PleIdeal.Gen.frame m g

/-- So does the layer's own text. -/
theorem quiescent_PleRefIdeal : Cert.quiescent_PleRefIdeal (hPleRefIdeal := Cert.PleRefIdeal.Gen.facts) := fun m g _ =>
  (θ_run Cert.PleRefIdeal.defs _ _).mono (fun r h => ⟨fun c => (h c).2.2, sem_eq_zero_of_no_sems (by decide) r.2⟩) (Cert.PleRefIdeal.Value.run m g)

/-- The kernel's results over the reals are those of the layer's text. -/
theorem algebraic_PleIdeal_PleRefIdeal : Cert.algebraic_PleIdeal_PleRefIdeal (hPleIdeal := Cert.PleIdeal.Gen.facts) (hPleRefIdeal := Cert.PleRefIdeal.Gen.facts) := by
  pair_intro
  · run_from Cert.PleIdeal.Gen.run_main m g
  · run_from Cert.PleRefIdeal.Value.run m' g'
    · exact (Cert.PleIdeal.Embed.final7 m c).symm
    · unfold Cert.PleRefIdeal.Value.res_main_v37
      simp only [hagree c]
      exact (Cert.PleIdeal.Embed.final8 m c).symm

end Cert.Proof

end
-- ==== Proof.Rope.lean ====
/-
  The queries, keys and values: the projection of the normed stream, the queries and keys rotated by position. The
  kernel rotates within a tile against tables of cosines and signed sines, the reference by halves of a head.
-/
module

public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import Idealize.ShloMosaic.Lib.Pipeline.ValueKit

@[expose] public section

set_option maxRecDepth 16384

noncomputable section

open Idealize.ShloMosaic Idealize.ShloMosaic.TcCoe Idealize.SL.Sem

namespace Cert.RopeRefIdeal

open Cert.RopeRefIdeal.Gen

/-- The angle of every position of a sequence and every pair of a head's columns. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The cosines of the angles. -/
def cosT : FVec Ideal S2048x64 .f32 := Host.cos angles

/-- The sines of the angles. -/
def sinT : FVec Ideal S2048x64 .f32 := Host.sin angles

/-- The queries, keys and values of every head before the rotation. -/
def qkv (a0 : FVec Ideal S16384x2048 .bf16) (a1 : FVec Ideal S2048x13088 .f32) : FVec Ideal S8x2048x3x12x128 .f32 :=
  shapeCast _ (Host.dotGeneral dot_S8x2048x2048_S2048x4608_S8x2048x4608_2_0_01_1_n_n none (shapeCast _ (extf .f32 a0 bitsLt_bf16_f32) shapeCasts_S16384x2048_S8x2048x2048) (extractStridedSlice S2048x4608 ![0, 2048] a1 slices_S2048x13088_S2048x4608_0_2048)) shapeCasts_S8x2048x4608_S8x2048x3x12x128

/-- The rotation of every head of one of the three. -/
def turned (x : FVec Ideal S8x2048x12x128 .f32) : FVec Ideal S8x2048x12x128 .f32 :=
  concatenate S8x2048x12x128 3 [⟨S8x2048x12x64, (subf (mulf (extractStridedSlice S8x2048x12x64 ![0, 0, 0, 0] x slices_S8x2048x12x128_S8x2048x12x64_0_0_0_0) (broadcastInDim S8x2048x12x64 ![0, 1, 2, 3] bcast_S1x2048x1x64_S8x2048x12x64_0_1_2_3 (broadcastInDim S1x2048x1x64 ![1, 3] bcast_S2048x64_S1x2048x1x64_1_3 cosT))) (mulf (extractStridedSlice S8x2048x12x64 ![0, 0, 0, 64] x slices_S8x2048x12x128_S8x2048x12x64_0_0_0_64) (broadcastInDim S8x2048x12x64 ![0, 1, 2, 3] bcast_S1x2048x1x64_S8x2048x12x64_0_1_2_3 (broadcastInDim S1x2048x1x64 ![1, 3] bcast_S2048x64_S1x2048x1x64_1_3 sinT))))⟩, ⟨S8x2048x12x64, (addf (mulf (extractStridedSlice S8x2048x12x64 ![0, 0, 0, 64] x slices_S8x2048x12x128_S8x2048x12x64_0_0_0_64) (broadcastInDim S8x2048x12x64 ![0, 1, 2, 3] bcast_S1x2048x1x64_S8x2048x12x64_0_1_2_3 (broadcastInDim S1x2048x1x64 ![1, 3] bcast_S2048x64_S1x2048x1x64_1_3 cosT))) (mulf (extractStridedSlice S8x2048x12x64 ![0, 0, 0, 0] x slices_S8x2048x12x128_S8x2048x12x64_0_0_0_0) (broadcastInDim S8x2048x12x64 ![0, 1, 2, 3] bcast_S1x2048x1x64_S8x2048x12x64_0_1_2_3 (broadcastInDim S1x2048x1x64 ![1, 3] bcast_S2048x64_S1x2048x1x64_1_3 sinT))))⟩] concatenates_S8x2048x12x64_S8x2048x12x64_S8x2048x12x128_d3

/-- The queries and keys rotated and the values as they are. -/
def rotated (a0 : FVec Ideal S16384x2048 .bf16) (a1 : FVec Ideal S2048x13088 .f32) : FVec Ideal S16384x4608 .bf16 :=
  truncf .bf16 (shapeCast _ (concatenate S8x2048x3x12x128 2 [⟨S8x2048x1x12x128, broadcastInDim S8x2048x1x12x128 ![0, 1, 3, 4] bcast_S8x2048x12x128_S8x2048x1x12x128_0_1_3_4 (turned (shapeCast _ (extractStridedSlice S8x2048x1x12x128 ![0, 0, 0, 0, 0] (qkv a0 a1) slices_S8x2048x3x12x128_S8x2048x1x12x128_0_0_0_0_0) shapeCasts_S8x2048x1x12x128_S8x2048x12x128))⟩, ⟨S8x2048x1x12x128, broadcastInDim S8x2048x1x12x128 ![0, 1, 3, 4] bcast_S8x2048x12x128_S8x2048x1x12x128_0_1_3_4 (turned (shapeCast _ (extractStridedSlice S8x2048x1x12x128 ![0, 0, 1, 0, 0] (qkv a0 a1) slices_S8x2048x3x12x128_S8x2048x1x12x128_0_0_1_0_0) shapeCasts_S8x2048x1x12x128_S8x2048x12x128))⟩, ⟨S8x2048x1x12x128, broadcastInDim S8x2048x1x12x128 ![0, 1, 3, 4] bcast_S8x2048x12x128_S8x2048x1x12x128_0_1_3_4 (shapeCast _ (extractStridedSlice S8x2048x1x12x128 ![0, 0, 2, 0, 0] (qkv a0 a1) slices_S8x2048x3x12x128_S8x2048x1x12x128_0_0_2_0_0) shapeCasts_S8x2048x1x12x128_S8x2048x12x128)⟩] concatenates_S8x2048x1x12x128_S8x2048x1x12x128_S8x2048x1x12x128_S8x2048x3x12x128_d2) shapeCasts_S8x2048x3x12x128_S16384x4608) bitsLt_bf16_f32

/-- The reference run's result is the rotated projection of the two arguments. -/
theorem value (m : (ℓ : Loc nD τ sig) → Buf (Elt Ideal) ℓ) (c : Dev nD) : Value.res_main_v59 m c = rotated (m ((c.tc : Thread nD τ).loc main_arg0)) (m ((c.tc : Thread nD τ).loc main_arg1)) := by
  rfl

/-- One entry of the projection: a row of the activations against a column of the weights, the first 2048 columns skipped. -/
def entry (a0 : FVec Ideal S16384x2048 .bf16) (a1 : FVec Ideal S2048x13088 .f32) (r : Fin 16384) (k : Fin 4608) : EReal :=
  ∑ e : Fin 2048, a0 (ix2 r e) * a1 (ix2 e ⟨2048 + k.val, by omega⟩)

/-- An entry of the queries, keys and values by its place in the flat projection. -/
theorem qkv_at (a0 : FVec Ideal S16384x2048 .bf16) (a1 : FVec Ideal S2048x13088 .f32) (b : Fin 8) (s : Fin 2048) (j : Fin 3) (h : Fin 12) (d : Fin 128)
    (r : Fin 16384) (k : Fin 4608) (hr : r.val = 2048 * b.val + s.val) (hk : k.val = 1536 * j.val + 128 * h.val + d.val) :
    qkv a0 a1 (ix5 b s j h d) = entry a0 a1 r k := by
  pointwise [qkv, entry]
  refine Finset.sum_congr rfl fun e _ => congrArg₂ (· * ·) (congrArg (fun q => a0 (ix2 q e)) (Fin.ext ?_)) (congrArg (fun q => a1 (ix2 e q)) (Fin.ext ?_))
  · show b.val * 2048 + s.val = r.val
    omega
  · show 2048 + (j.val * 1536 + h.val * 128 + d.val) = 2048 + k.val
    omega

/-- The rotation at a column of the first half of a head. -/
theorem turned_low (x : FVec Ideal S8x2048x12x128 .f32) (b : Fin 8) (s : Fin 2048) (h : Fin 12) (d : Fin 128) (hd : d.val < 64) :
    turned x (ix4 b s h d) = x (ix4 b s h d) * cosT (ix2 s ⟨d.val % 64, by omega⟩) - x (ix4 b s h ⟨(d.val + 64) % 128, by omega⟩) * sinT (ix2 s ⟨d.val % 64, by omega⟩) := by
  have e1 : (⟨d.val % 64, by omega⟩ : Fin 64) = ⟨d.val, hd⟩ := Fin.ext (by show d.val % 64 = d.val; omega)
  have e2 : (⟨(d.val + 64) % 128, by omega⟩ : Fin 128) = ⟨64 + d.val, by omega⟩ := Fin.ext (by show (d.val + 64) % 128 = 64 + d.val; omega)
  rw [e1, e2]
  pointwise [turned]
  rw [dif_pos hd]

/-- The rotation at a column of the second half of a head. -/
theorem turned_high (x : FVec Ideal S8x2048x12x128 .f32) (b : Fin 8) (s : Fin 2048) (h : Fin 12) (d : Fin 128) (hd : ¬ d.val < 64) :
    turned x (ix4 b s h d) = x (ix4 b s h d) * cosT (ix2 s ⟨d.val % 64, by omega⟩) + x (ix4 b s h ⟨(d.val + 64) % 128, by omega⟩) * sinT (ix2 s ⟨d.val % 64, by omega⟩) := by
  have e1 : (⟨d.val % 64, by omega⟩ : Fin 64) = ⟨d.val - 64, by omega⟩ := Fin.ext (by show d.val % 64 = d.val - 64; omega)
  have e2 : (⟨(d.val + 64) % 128, by omega⟩ : Fin 128) = ⟨d.val - 64, by omega⟩ := Fin.ext (by show (d.val + 64) % 128 = d.val - 64; omega)
  have e3 : (⟨64 + (d.val - 64), by omega⟩ : Fin 128) = d := Fin.ext (by show 64 + (d.val - 64) = d.val; omega)
  rw [e1, e2]
  pointwise [turned]
  rw [dif_neg hd]
  exact congrArg (fun q => x (ix4 b s h q) * cosT (ix2 s ⟨d.val - 64, by omega⟩) + x (ix4 b s h ⟨d.val - 64, by omega⟩) * sinT (ix2 s ⟨d.val - 64, by omega⟩)) e3

/-- The rotated value at a row and a column among the queries and keys. -/
def rotAt (a0 : FVec Ideal S16384x2048 .bf16) (a1 : FVec Ideal S2048x13088 .f32) (r : Fin 16384) (k : Fin 4608) : EReal :=
  if k.val % 128 < 64 then
    entry a0 a1 r k * cosT (ix2 ⟨r.val % 2048, by omega⟩ ⟨k.val % 64, by omega⟩) - entry a0 a1 r ⟨128 * (k.val / 128) + (k.val % 128 + 64) % 128, by omega⟩ * sinT (ix2 ⟨r.val % 2048, by omega⟩ ⟨k.val % 64, by omega⟩)
  else
    entry a0 a1 r k * cosT (ix2 ⟨r.val % 2048, by omega⟩ ⟨k.val % 64, by omega⟩) + entry a0 a1 r ⟨128 * (k.val / 128) + (k.val % 128 + 64) % 128, by omega⟩ * sinT (ix2 ⟨r.val % 2048, by omega⟩ ⟨k.val % 64, by omega⟩)

/-- The rotation of heads whose entries are entries of the projection. -/
theorem turned_entry (a0 : FVec Ideal S16384x2048 .bf16) (a1 : FVec Ideal S2048x13088 .f32) (x : FVec Ideal S8x2048x12x128 .f32) (b : Fin 8) (s : Fin 2048) (j : Fin 3) (h : Fin 12) (d : Fin 128)
    (r : Fin 16384) (k : Fin 4608) (hr : r.val = 2048 * b.val + s.val) (hk : k.val = 1536 * j.val + 128 * h.val + d.val)
    (hx : ∀ d' : Fin 128, x (ix4 b s h d') = entry a0 a1 r ⟨1536 * j.val + 128 * h.val + d'.val, by omega⟩) :
    turned x (ix4 b s h d) = rotAt a0 a1 r k := by
  have e1 : (⟨1536 * j.val + 128 * h.val + d.val, by omega⟩ : Fin 4608) = k := Fin.ext hk.symm
  have e2 : (⟨1536 * j.val + 128 * h.val + (d.val + 64) % 128, by omega⟩ : Fin 4608) = ⟨128 * (k.val / 128) + (k.val % 128 + 64) % 128, by omega⟩ :=
    Fin.ext (by show 1536 * j.val + 128 * h.val + (d.val + 64) % 128 = 128 * (k.val / 128) + (k.val % 128 + 64) % 128; omega)
  have e3 : s = ⟨r.val % 2048, by omega⟩ := Fin.ext (by show s.val = r.val % 2048; omega)
  have e4 : (⟨d.val % 64, by omega⟩ : Fin 64) = ⟨k.val % 64, by omega⟩ := Fin.ext (by show d.val % 64 = k.val % 64; omega)
  unfold rotAt
  by_cases hd : d.val < 64
  · rw [if_pos (by omega), turned_low x b s h d hd, hx, hx, e1, e2, e4, ← e3]
  · rw [if_neg (by omega), turned_high x b s h d hd, hx, hx, e1, e2, e4, ← e3]

/-- The queries, keys and values side by side, at a place. -/
theorem joined_at (X Y Z : FVec Ideal S8x2048x12x128 .f32) (r : Fin 16384) (k : Fin 4608) :
    truncf (F := Ideal) .bf16 (shapeCast S16384x4608 (concatenate S8x2048x3x12x128 2 [⟨S8x2048x1x12x128, broadcastInDim S8x2048x1x12x128 ![0, 1, 3, 4] bcast_S8x2048x12x128_S8x2048x1x12x128_0_1_3_4 X⟩, ⟨S8x2048x1x12x128, broadcastInDim S8x2048x1x12x128 ![0, 1, 3, 4] bcast_S8x2048x12x128_S8x2048x1x12x128_0_1_3_4 Y⟩, ⟨S8x2048x1x12x128, broadcastInDim S8x2048x1x12x128 ![0, 1, 3, 4] bcast_S8x2048x12x128_S8x2048x1x12x128_0_1_3_4 Z⟩] concatenates_S8x2048x1x12x128_S8x2048x1x12x128_S8x2048x1x12x128_S8x2048x3x12x128_d2) shapeCasts_S8x2048x3x12x128_S16384x4608) bitsLt_bf16_f32 (ix2 r k)
    = if h : k.val / 1536 < 1 then X (ix4 ⟨r.val / 2048, by omega⟩ ⟨r.val % 2048, by omega⟩ ⟨k.val / 128 % 12, by omega⟩ ⟨k.val % 128, by omega⟩)
      else if h : k.val / 1536 - 1 < 1 then Y (ix4 ⟨r.val / 2048, by omega⟩ ⟨r.val % 2048, by omega⟩ ⟨k.val / 128 % 12, by omega⟩ ⟨k.val % 128, by omega⟩)
      else Z (ix4 ⟨r.val / 2048, by omega⟩ ⟨r.val % 2048, by omega⟩ ⟨k.val / 128 % 12, by omega⟩ ⟨k.val % 128, by omega⟩) := by
  pointwise

/-- The heads of the queries are the projection's first third. -/
theorem first_at (q : FVec Ideal S8x2048x3x12x128 .f32) (b : Fin 8) (s : Fin 2048) (h : Fin 12) (d : Fin 128) :
    shapeCast S8x2048x12x128 (extractStridedSlice S8x2048x1x12x128 ![0, 0, 0, 0, 0] q slices_S8x2048x3x12x128_S8x2048x1x12x128_0_0_0_0_0) shapeCasts_S8x2048x1x12x128_S8x2048x12x128 (ix4 b s h d) = q (ix5 b s 0 h d) := by
  pointwise

/-- The heads of the keys are the projection's second third. -/
theorem second_at (q : FVec Ideal S8x2048x3x12x128 .f32) (b : Fin 8) (s : Fin 2048) (h : Fin 12) (d : Fin 128) :
    shapeCast S8x2048x12x128 (extractStridedSlice S8x2048x1x12x128 ![0, 0, 1, 0, 0] q slices_S8x2048x3x12x128_S8x2048x1x12x128_0_0_1_0_0) shapeCasts_S8x2048x1x12x128_S8x2048x12x128 (ix4 b s h d) = q (ix5 b s 1 h d) := by
  pointwise

/-- The heads of the values are the projection's last third. -/
theorem third_at (q : FVec Ideal S8x2048x3x12x128 .f32) (b : Fin 8) (s : Fin 2048) (h : Fin 12) (d : Fin 128) :
    shapeCast S8x2048x12x128 (extractStridedSlice S8x2048x1x12x128 ![0, 0, 2, 0, 0] q slices_S8x2048x3x12x128_S8x2048x1x12x128_0_0_2_0_0) shapeCasts_S8x2048x1x12x128_S8x2048x12x128 (ix4 b s h d) = q (ix5 b s 2 h d) := by
  pointwise

/-- The reference's result at a place: the rotation among the queries and keys, the entry itself among the values. -/
theorem rotated_at (a0 : FVec Ideal S16384x2048 .bf16) (a1 : FVec Ideal S2048x13088 .f32) (r : Fin 16384) (k : Fin 4608) :
    rotated a0 a1 (ix2 r k) = if k.val < 3072 then rotAt a0 a1 r k else entry a0 a1 r k := by
  refine (joined_at _ _ _ r k).trans ?_
  by_cases h1 : k.val / 1536 < 1
  · rw [dif_pos h1, if_pos (by omega)]
    refine turned_entry a0 a1 _ _ _ 0 _ _ r k (by show r.val = 2048 * (r.val / 2048) + r.val % 2048; omega) (by show k.val = 1536 * 0 + 128 * (k.val / 128 % 12) + k.val % 128; omega) fun d' => ?_
    exact (first_at _ _ _ _ _).trans (qkv_at a0 a1 _ _ _ _ _ r _ (by show r.val = 2048 * (r.val / 2048) + r.val % 2048; omega) rfl)
  · rw [dif_neg h1]
    by_cases h2 : k.val / 1536 - 1 < 1
    · rw [dif_pos h2, if_pos (by omega)]
      refine turned_entry a0 a1 _ _ _ 1 _ _ r k (by show r.val = 2048 * (r.val / 2048) + r.val % 2048; omega) (by show k.val = 1536 * 1 + 128 * (k.val / 128 % 12) + k.val % 128; omega) fun d' => ?_
      exact (second_at _ _ _ _ _).trans (qkv_at a0 a1 _ _ _ _ _ r _ (by show r.val = 2048 * (r.val / 2048) + r.val % 2048; omega) rfl)
    · rw [dif_neg h2, if_neg (by omega)]
      exact (third_at _ _ _ _ _).trans (qkv_at a0 a1 _ _ _ _ _ r k (by show r.val = 2048 * (r.val / 2048) + r.val % 2048; omega) (by show k.val = 1536 * 2 + 128 * (k.val / 128 % 12) + k.val % 128; omega))

end Cert.RopeRefIdeal

namespace Cert.RopeIdeal.Rope

open Cert.RopeIdeal Cert.RopeIdeal.Gen Cert.RopeRefIdeal

variable (m : (ℓ : Loc nD τ sig) → Buf (Elt Ideal) ℓ)

/-- A row of the activations against a column of the projection's weights. -/
def dotAt {R : ℕ} (a : FVec Ideal ⟨2, ![R, 2048]⟩ .bf16) (w : FVec Ideal S2048x1536 .bf16) (r : Fin R) (j : Fin 1536) : EReal :=
  ∑ k : Fin 2048, a (ix2 r k) * w (ix2 k j)

/-- The column half a head away from a column, in the same head. -/
def partner (j : Fin 1536) : Fin 1536 := ⟨128 * (j.val / 128) + (j.val % 128 + 64) % 128, by omega⟩

/-- The rotated value at a place of a block: the product there times the table of cosines, plus the product half a head away times the table of signed sines. -/
def turn (a : FVec Ideal S1024x2048 .bf16) (w : FVec Ideal S2048x1536 .bf16) (cs sn : FVec Ideal S1024x128 .f32) (r : Fin 1024) (j : Fin 1536) : EReal :=
  dotAt a w r j * cs (ix2 r ⟨j.val % 128, by omega⟩) + dotAt a w r (partner j) * sn (ix2 r ⟨j.val % 128, by omega⟩)

/-- The chain of operations one head of one tile of rows goes through, at a place. -/
theorem chain_at (P : FVec Ideal S256x2048 .bf16) (w : FVec Ideal S2048x1536 .bf16) (cs sn : FVec Ideal S256x128 .f32) (o : ℕ) (hs : S256x1536.Slices ![0, o] S256x128) (x : S256x128.Idx)
    (ho : o + 128 ≤ 1536) :
    truncf (F := Ideal) .bf16 (addf (mulf (extractStridedSlice S256x128 ![0, o] (matmul (F := Ideal) (φ₁ := .bf16) dot_S256x2048_S2048x1536_S256x1536_1_0_0_1_n_n none P (shapeCast S2048x1536 w shapeCasts_S2048x1536_S2048x1536) (constant S256x1536 .f32 0x00000000#32)) hs) (shapeCast S256x128 cs shapeCasts_S256x128_S256x128))
      (mulf (dynamicRotate 1 64#32 none (extractStridedSlice S256x128 ![0, o] (matmul (F := Ideal) (φ₁ := .bf16) dot_S256x2048_S2048x1536_S256x1536_1_0_0_1_n_n none P (shapeCast S2048x1536 w shapeCasts_S2048x1536_S2048x1536) (constant S256x1536 .f32 0x00000000#32)) hs) rotates_S256x128_d1) (shapeCast S256x128 sn shapeCasts_S256x128_S256x128))) bitsLt_bf16_f32 x
    = (∑ k : Fin 2048, P (ix2 (x 0) k) * w (ix2 k ⟨o + (x 1).val, by have : (x 1).val < 128 := (x 1).isLt; omega⟩)) * cs x
      + (∑ k : Fin 2048, P (ix2 (x 0) k) * w (ix2 k ⟨o + ((x 1).val + 128 - 64) % 128, by omega⟩)) * sn x := by
  pointwise

/-- The chain gives the rotated value at the tile's place in the block. -/
theorem head_at (A : FVec Ideal S1024x2048 .bf16) (w : FVec Ideal S2048x1536 .bf16) (C S : FVec Ideal S1024x128 .f32) (y : S1024x1536.Idx) (x : S256x128.Idx)
    (p o : ℕ) (h0 : (y 0).val = p + (x 0).val) (h1 : (y 1).val = o + (x 1).val) (ho : o % 128 = 0) (ho' : o + 128 ≤ 1536)
    (hs : S256x1536.Slices ![0, o] S256x128) (i0 : ∀ a : Fin 2, ![p, 0] a + ![256, 2048] a ≤ S1024x2048.size a) (i2 i3 : ∀ a : Fin 2, ![p, 0] a + ![256, 128] a ≤ S1024x128.size a) :
    truncf (F := Ideal) .bf16 (addf (mulf (extractStridedSlice S256x128 ![0, o] (matmul (F := Ideal) (φ₁ := .bf16) dot_S256x2048_S2048x1536_S256x1536_1_0_0_1_n_n none (View.ld (Val := Elt Ideal) (e' := .bf16) A (Rect.unit (s := S1024x2048) ![p, 0] ![256, 2048] i0) : FVec Ideal S256x2048 .bf16) (shapeCast S2048x1536 w shapeCasts_S2048x1536_S2048x1536) (constant S256x1536 .f32 0x00000000#32)) hs) (shapeCast S256x128 (View.ld (Val := Elt Ideal) (e' := .f32) C (Rect.unit (s := S1024x128) ![p, 0] ![256, 128] i2) : FVec Ideal S256x128 .f32) shapeCasts_S256x128_S256x128))
      (mulf (dynamicRotate 1 64#32 none (extractStridedSlice S256x128 ![0, o] (matmul (F := Ideal) (φ₁ := .bf16) dot_S256x2048_S2048x1536_S256x1536_1_0_0_1_n_n none (View.ld (Val := Elt Ideal) (e' := .bf16) A (Rect.unit (s := S1024x2048) ![p, 0] ![256, 2048] i0) : FVec Ideal S256x2048 .bf16) (shapeCast S2048x1536 w shapeCasts_S2048x1536_S2048x1536) (constant S256x1536 .f32 0x00000000#32)) hs) rotates_S256x128_d1) (shapeCast S256x128 (View.ld (Val := Elt Ideal) (e' := .f32) S (Rect.unit (s := S1024x128) ![p, 0] ![256, 128] i3) : FVec Ideal S256x128 .f32) shapeCasts_S256x128_S256x128))) bitsLt_bf16_f32 x
    = turn A w C S (y 0) (y 1) := by
  have hx : (x 1).val < 128 := (x 1).isLt
  have hy : (y 1).val < 1536 := (y 1).isLt
  have eA : ∀ k : Fin 2048, (View.ld (Val := Elt Ideal) (e' := .bf16) A (Rect.unit (s := S1024x2048) ![p, 0] ![256, 2048] i0) : FVec Ideal S256x2048 .bf16) (ix2 (x 0) k) = A (ix2 (y 0) k) := fun k =>
    View.ld_unit_apply_of _ _ _ _ _ (ix2 (y 0) k) fun a => by
      match a with
      | 0 => exact h0
      | 1 => exact (Nat.zero_add _).symm
  have eT : ∀ (B : FVec Ideal S1024x128 .f32) (i : ∀ a : Fin 2, ![p, 0] a + ![256, 128] a ≤ S1024x128.size a), (View.ld (Val := Elt Ideal) (e' := .f32) B (Rect.unit (s := S1024x128) ![p, 0] ![256, 128] i) : FVec Ideal S256x128 .f32) x = B (ix2 (y 0) ⟨(y 1).val % 128, by omega⟩) := fun B i =>
    View.ld_unit_apply_of _ _ _ _ _ (ix2 (y 0) ⟨(y 1).val % 128, by omega⟩) fun a => by
      match a with
      | 0 => exact h0
      | 1 =>
        show (y 1).val % 128 = 0 + (x 1).val
        omega
  have e1 : (⟨o + (x 1).val, by omega⟩ : Fin 1536) = y 1 := Fin.ext h1.symm
  have e2 : (⟨o + ((x 1).val + 128 - 64) % 128, by omega⟩ : Fin 1536) = partner (y 1) := by
    apply Fin.ext
    show o + ((x 1).val + 128 - 64) % 128 = 128 * ((y 1).val / 128) + ((y 1).val % 128 + 64) % 128
    omega
  refine (chain_at _ w _ _ o hs x ho').trans ?_
  rw [eT C i2, eT S i3, e1, e2]
  simp only [eA]
  rfl

/-- The block a grid point of the first two thirds stores: every place is the rotated value. -/
theorem blockA (c : Dev nD) (t : Fin (cfgs 0).N) (g0 : t.val % 3 ≤ 1) (g1 : ¬ t.val % 3 = 2) (y : S1024x1536.Idx) :
    outsAt0 m c t.val t.isLt y = turn (iblk m c 0 t) (iblk m c 1 t) (iblk m c 2 t) (iblk m c 3 t) (y 0) (y 1) := by
  rw [outsAt0_A m c t g0 g1]
  frame_out
  canon_tiles x h
  all_goals
    open_payloads
    exact head_at _ _ _ _ y x _ _ (by omega) (by omega) (by decide) (by decide) _ _ _ _

/-- Where each operand's block sits at a grid point. -/
theorem idx : ∀ t : Fin cfg0.N, win0_0.index t = ![t.val / 3, 0] ∧ win0_1.index t = ![0, t.val % 3]
    ∧ win0_2.index t = ![t.val / 3 % 2, 0] ∧ win0_3.index t = ![t.val / 3 % 2, 0] ∧ win0_4.index t = ![t.val / 3, t.val % 3] ∧ t.val / 3 < 16 :=
  (by decide +kernel : ∀ t : Fin grid0.N, _)

/-- The cosine table of the reference, at a place. -/
theorem cosT_at (s : Fin 2048) (f : Fin 64) : cosT (ix2 s f) = Ideal.cos (FloatOps.sitofp (F := Ideal) .f32 (BitVec.ofNat 32 s.val) * Ideal.pow (Ideal.ofBits .f32 0x461C4000#32) (Ideal.div (-FloatOps.sitofp (F := Ideal) .f32 (BitVec.ofNat 32 f.val)) (Ideal.ofBits .f32 0x42800000#32))) := by
  pointwise [cosT, angles]

/-- The sine table of the reference, at a place. -/
theorem sinT_at (s : Fin 2048) (f : Fin 64) : sinT (ix2 s f) = Ideal.sin (FloatOps.sitofp (F := Ideal) .f32 (BitVec.ofNat 32 s.val) * Ideal.pow (Ideal.ofBits .f32 0x461C4000#32) (Ideal.div (-FloatOps.sitofp (F := Ideal) .f32 (BitVec.ofNat 32 f.val)) (Ideal.ofBits .f32 0x42800000#32))) := by
  pointwise [sinT, angles]

/-- The kernel's table of cosines, at a place. -/
theorem table_cos (c : Dev nD) (s : Fin 2048) (d : Fin 128) :
    V m c main_v14 (ix2 s d) = if h : d.val < 64 then Ideal.cos (FloatOps.sitofp (F := Ideal) .f32 (BitVec.ofNat 32 s.val) * Ideal.pow (Ideal.ofBits .f32 0x461C4000#32) (Ideal.div (-FloatOps.sitofp (F := Ideal) .f32 (BitVec.ofNat 32 d.val)) (Ideal.ofBits .f32 0x42800000#32))) else Ideal.cos (FloatOps.sitofp (F := Ideal) .f32 (BitVec.ofNat 32 s.val) * Ideal.pow (Ideal.ofBits .f32 0x461C4000#32) (Ideal.div (-FloatOps.sitofp (F := Ideal) .f32 (BitVec.ofNat 32 (d.val - 64))) (Ideal.ofBits .f32 0x42800000#32))) := by
  simp only [V]
  entry_read
  pointwise

/-- The kernel's table of signed sines, at a place. -/
theorem table_sin (c : Dev nD) (s : Fin 2048) (d : Fin 128) :
    V m c main_v16 (ix2 s d) = if h : d.val < 64 then -Ideal.sin (FloatOps.sitofp (F := Ideal) .f32 (BitVec.ofNat 32 s.val) * Ideal.pow (Ideal.ofBits .f32 0x461C4000#32) (Ideal.div (-FloatOps.sitofp (F := Ideal) .f32 (BitVec.ofNat 32 d.val)) (Ideal.ofBits .f32 0x42800000#32))) else Ideal.sin (FloatOps.sitofp (F := Ideal) .f32 (BitVec.ofNat 32 s.val) * Ideal.pow (Ideal.ofBits .f32 0x461C4000#32) (Ideal.div (-FloatOps.sitofp (F := Ideal) .f32 (BitVec.ofNat 32 (d.val - 64))) (Ideal.ofBits .f32 0x42800000#32))) := by
  simp only [V]
  entry_read
  pointwise

/-- A block of the activations. -/
theorem blk0 (c : Dev nD) (t : Fin cfg0.N) (r : Fin 1024) (e : Fin 2048) :
    iblk m c 0 t (ix2 r e) = m ((c : Thread nD τ).loc main_arg0) (ix2 ⟨t.val / 3 * 1024 + r.val, by have := (idx t).2.2.2.2.2; omega⟩ e) := by
  blk_point [iblk, V, idx t]

/-- A block of the weights. -/
theorem blk1 (c : Dev nD) (t : Fin cfg0.N) (e : Fin 2048) (j : Fin 1536) :
    iblk m c 1 t (ix2 e j) = m ((c : Thread nD τ).loc main_arg1) (ix2 e ⟨2048 + (t.val % 3 * 1536 + j.val), by omega⟩) := by
  blk_point [iblk, V, idx t]

/-- A block of the kernel's table of cosines: the reference's, once for each half of a head. -/
theorem blk2 (c : Dev nD) (t : Fin cfg0.N) (r : Fin 1024) (d : Fin 128) :
    iblk m c 2 t (ix2 r d) = cosT (ix2 ⟨t.val / 3 % 2 * 1024 + r.val, by omega⟩ ⟨d.val % 64, by omega⟩) := by
  have h : iblk m c 2 t (ix2 r d) = if h : d.val < 64 then Ideal.cos (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 d.val)) (Ideal.ofBits .f32 0x42800000#32))) else Ideal.cos (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 (d.val - 64))) (Ideal.ofBits .f32 0x42800000#32))) := by
    have he : ((cfg0.win 2).blk t).view.emb (ix2 r d) = ix2 ⟨t.val / 3 % 2 * 1024 + r.val, by omega⟩ d := by
      blk_ext [idx t]
    show V m c main_v14 (((cfg0.win 2).blk t).view.emb (ix2 r d)) = _
    rw [he, table_cos]
  rw [h, cosT_at]
  by_cases hd : d.val < 64
  · rw [dif_pos hd]
    show _ = Ideal.cos (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 (d.val % 64))) (Ideal.ofBits .f32 0x42800000#32)))
    rw [Nat.mod_eq_of_lt hd]
  · rw [dif_neg hd]
    show _ = Ideal.cos (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 (d.val % 64))) (Ideal.ofBits .f32 0x42800000#32)))
    rw [show d.val % 64 = d.val - 64 by omega]

/-- A block of the kernel's table of sines in the first half of a head: the reference's with the sign turned. -/
theorem blk3_low (c : Dev nD) (t : Fin cfg0.N) (r : Fin 1024) (d : Fin 128) (hd : d.val < 64) :
    iblk m c 3 t (ix2 r d) = -sinT (ix2 ⟨t.val / 3 % 2 * 1024 + r.val, by omega⟩ ⟨d.val % 64, by omega⟩) := by
  have h : iblk m c 3 t (ix2 r d) = if h : d.val < 64 then -Ideal.sin (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 d.val)) (Ideal.ofBits .f32 0x42800000#32))) else Ideal.sin (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 (d.val - 64))) (Ideal.ofBits .f32 0x42800000#32))) := by
    have he : ((cfg0.win 3).blk t).view.emb (ix2 r d) = ix2 ⟨t.val / 3 % 2 * 1024 + r.val, by omega⟩ d := by
      blk_ext [idx t]
    show V m c main_v16 (((cfg0.win 3).blk t).view.emb (ix2 r d)) = _
    rw [he, table_sin]
  rw [h, sinT_at, dif_pos hd]
  show _ = -Ideal.sin (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 (d.val % 64))) (Ideal.ofBits .f32 0x42800000#32)))
  rw [Nat.mod_eq_of_lt hd]

/-- A block of the kernel's table of sines in the second half of a head. -/
theorem blk3_high (c : Dev nD) (t : Fin cfg0.N) (r : Fin 1024) (d : Fin 128) (hd : ¬ d.val < 64) :
    iblk m c 3 t (ix2 r d) = sinT (ix2 ⟨t.val / 3 % 2 * 1024 + r.val, by omega⟩ ⟨d.val % 64, by omega⟩) := by
  have h : iblk m c 3 t (ix2 r d) = if h : d.val < 64 then -Ideal.sin (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 d.val)) (Ideal.ofBits .f32 0x42800000#32))) else Ideal.sin (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 (d.val - 64))) (Ideal.ofBits .f32 0x42800000#32))) := by
    have he : ((cfg0.win 3).blk t).view.emb (ix2 r d) = ix2 ⟨t.val / 3 % 2 * 1024 + r.val, by omega⟩ d := by
      blk_ext [idx t]
    show V m c main_v16 (((cfg0.win 3).blk t).view.emb (ix2 r d)) = _
    rw [he, table_sin]
  rw [h, sinT_at, dif_neg hd]
  show _ = Ideal.sin (FloatOps.sitofp (F := Ideal) .f32 (BitVec.ofNat 32 (t.val / 3 % 2 * 1024 + r.val)) * Ideal.pow (Ideal.ofBits .f32 0x461C4000#32) (Ideal.div (-FloatOps.sitofp (F := Ideal) .f32 (BitVec.ofNat 32 (d.val % 64))) (Ideal.ofBits .f32 0x42800000#32)))
  rw [show d.val % 64 = d.val - 64 by omega]

/-- A product of a block of rows and a block of columns is an entry of the projection. -/
theorem dot_entry (c : Dev nD) (t : Fin cfg0.N) (r : Fin 1024) (j : Fin 1536) (R : Fin 16384) (K : Fin 4608)
    (hR : R.val = t.val / 3 * 1024 + r.val) (hK : K.val = t.val % 3 * 1536 + j.val) :
    dotAt (iblk m c 0 t) (iblk m c 1 t) r j = entry (m ((c : Thread nD τ).loc main_arg0)) (m ((c : Thread nD τ).loc main_arg1)) R K := by
  unfold dotAt entry
  refine Finset.sum_congr rfl fun e _ => ?_
  rw [blk0 m c t r e, blk1 m c t e j]
  refine congrArg₂ (· * ·) (congrArg (fun q => m ((c : Thread nD τ).loc main_arg0) (ix2 q e)) (Fin.ext hR.symm)) (congrArg (fun q => m ((c : Thread nD τ).loc main_arg1) (ix2 e q)) (Fin.ext ?_))
  show 2048 + (t.val % 3 * 1536 + j.val) = 2048 + K.val
  omega

/-- The kernel's rotation within a block is the reference's rotation. -/
theorem turn_eq (c : Dev nD) (t : Fin cfg0.N) (r : Fin 1024) (j : Fin 1536) (R : Fin 16384) (K : Fin 4608)
    (hR : R.val = t.val / 3 * 1024 + r.val) (hK : K.val = t.val % 3 * 1536 + j.val) :
    turn (iblk m c 0 t) (iblk m c 1 t) (iblk m c 2 t) (iblk m c 3 t) r j = rotAt (m ((c : Thread nD τ).loc main_arg0)) (m ((c : Thread nD τ).loc main_arg1)) R K := by
  have e1 : (⟨t.val / 3 % 2 * 1024 + r.val, by omega⟩ : Fin 2048) = ⟨R.val % 2048, by omega⟩ := Fin.ext (by show t.val / 3 % 2 * 1024 + r.val = R.val % 2048; omega)
  have e2 : (⟨j.val % 128 % 64, by omega⟩ : Fin 64) = ⟨K.val % 64, by omega⟩ := Fin.ext (by show j.val % 128 % 64 = K.val % 64; omega)
  have d1 := dot_entry m c t r j R K hR hK
  have d2 := dot_entry m c t r (partner j) R ⟨128 * (K.val / 128) + (K.val % 128 + 64) % 128, by omega⟩ hR (by
    show 128 * (K.val / 128) + (K.val % 128 + 64) % 128 = t.val % 3 * 1536 + (128 * (j.val / 128) + (j.val % 128 + 64) % 128)
    omega)
  unfold turn rotAt
  rw [d1, d2, blk2]
  by_cases hd : j.val % 128 < 64
  · rw [if_pos (by omega), blk3_low m c t r _ hd]
    simp only [e1, e2]
    rw [mul_neg, ← sub_eq_add_neg]
  · rw [if_neg (by omega), blk3_high m c t r _ hd]
    simp only [e1, e2]

/-- The block a grid point of the last third stores: every place is the product itself. -/
theorem blockB (c : Dev nD) (t : Fin (cfgs 0).N) (g0 : ¬ t.val % 3 ≤ 1) (g1 : t.val % 3 = 2) (y : S1024x1536.Idx) :
    outsAt0 m c t.val t.isLt y = dotAt (iblk m c 0 t) (iblk m c 1 t) (y 0) (y 1) := by
  rw [outsAt0_B m c t g0 g1]
  frame_out
  pointwise [k0_pay2, dotAt]

/-- The kernel's result array is the queries, keys and values rotated. -/
theorem final (c : Dev nD) : (dats m 0 c).arrAt 4 (cfgs 0).N
    = rotated (m ((c : Thread nD τ).loc main_arg0)) (m ((c : Thread nD τ).loc main_arg1)) := by
  refine (dats m 0 c).arrAt_eq_of_covers 4 _ (by decide +kernel) fun t _ y => ?_
  have hy0 : (y 0).val < 1024 := (y 0).isLt
  have hy1 : (y 1).val < 1536 := (y 1).isLt
  have ht := (idx t).2.2.2.2.2
  have he : ((cfg0.win 4).blk t).view.emb y = ix2 ⟨t.val / 3 * 1024 + (y 0).val, by omega⟩ ⟨t.val % 3 * 1536 + (y 1).val, by omega⟩ := by
    blk_ext [idx t]
  blk_simp
  rw [after0_4, he, rotated_at]
  by_cases h : t.val % 3 ≤ 1
  · rw [blockA m c t h (by omega) y, if_pos (by show t.val % 3 * 1536 + (y 1).val < 3072; omega)]
    exact turn_eq m c t _ _ _ _ rfl rfl
  · rw [blockB m c t h (by omega) y, if_neg (by show ¬ t.val % 3 * 1536 + (y 1).val < 3072; omega)]
    exact dot_entry m c t _ _ _ _ rfl rfl

end Cert.RopeIdeal.Rope

end
-- ==== Proof.ClaimRope.lean ====
/-
  The claims of the rotated projection: its programs end, and the kernel's results are the layer's.
-/
module

public import proofs.«01_k».proof.Defs
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Rope
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the rotated projection ends and leaves its arguments. -/
theorem quiescent_Rope : Cert.quiescent_Rope (hRope := Cert.Rope.Gen.facts) := fun m g _ => Cert.Rope.Gen.frame m g

/-- So does the kernel over the reals. -/
theorem quiescent_RopeIdeal : Cert.quiescent_RopeIdeal (hRopeIdeal := Cert.RopeIdeal.Gen.facts) := fun m g _ => Cert.RopeIdeal.Gen.frame m g

/-- So does the layer's own text. -/
theorem quiescent_RopeRefIdeal : Cert.quiescent_RopeRefIdeal (hRopeRefIdeal := Cert.RopeRefIdeal.Gen.facts) := fun m g _ =>
  (θ_run Cert.RopeRefIdeal.defs _ _).mono (fun r h => ⟨fun c => (h c).2, sem_eq_zero_of_no_sems (by decide) r.2⟩) (Cert.RopeRefIdeal.Value.run m g)

/-- The kernel's results over the reals are those of the layer's text. -/
theorem algebraic_RopeIdeal_RopeRefIdeal : Cert.algebraic_RopeIdeal_RopeRefIdeal (hRopeIdeal := Cert.RopeIdeal.Gen.facts) (hRopeRefIdeal := Cert.RopeRefIdeal.Gen.facts) := by
  pair_intro
  · run_from Cert.RopeIdeal.Gen.run_main m g
  · run_from Cert.RopeRefIdeal.Value.run m' g'
    rw [Cert.RopeRefIdeal.value]
    simp only [hagree c]
    exact (Cert.RopeIdeal.Rope.final m c).symm

end Cert.Proof

end
-- ==== Proof.Proja.lean ====
/-
  A slice of the input projection (columns 0 to 2048): the kernel's tiles are the tiles of that slice.
-/
module

public import proofs.«01_k».proof.Proof.Gen.ProjaIdeal.Frame
public import proofs.«01_k».proof.Proof.Gen.ProjaIdeal.Value
public import proofs.«01_k».proof.Proof.Gen.ProjaRefIdeal
public import proofs.«01_k».proof.Proof.Gen.ProjaRefIdeal.Run
public import Idealize.ShloMosaic.Lib.Pipeline.ValueKit

@[expose] public section

set_option maxRecDepth 16384

noncomputable section

open Idealize.ShloMosaic Idealize.ShloMosaic.TcCoe Idealize.SL.Sem

namespace Cert.ProjaRefIdeal

open Cert.ProjaRefIdeal.Gen

/-- The slice of the projection, columns 0 to 2048. -/
def projected (a0 : FVec Ideal S16384x2048 .bf16) (a1 : FVec Ideal S2048x13088 .f32) : FVec Ideal S16384x2048 .f32 :=
  extractStridedSlice S16384x2048 ![0, 0] (Host.dotGeneral dot_S16384x2048_S2048x13088_S16384x13088_1_0_0_1_n_n none (extf .f32 a0 bitsLt_bf16_f32) a1) slices_S16384x13088_S16384x2048_0_0

end Cert.ProjaRefIdeal

namespace Cert.ProjaIdeal.Proj

open Cert.ProjaIdeal Cert.ProjaIdeal.Gen Cert.ProjaRefIdeal

variable (m : (ℓ : Loc nD τ sig) → Buf (Elt Ideal) ℓ)

/-- Where each operand's block sits at a grid point. -/
theorem idx : ∀ t : Fin cfg0.N, win0_0.index t = ![t.val / 2, 0] ∧ win0_1.index t = ![0, t.val % 2]
    ∧ win0_2.index t = ![t.val / 2, t.val % 2] ∧ t.val / 2 < 16 :=
  (by decide +kernel : ∀ t : Fin grid0.N, _)

/-- What the body stores at a place of a tile is the projection at the tile's place in the array. -/
theorem point (c : Dev nD) (t : Fin cfg0.N) (y) : k0_pay1 (iblk m c 0 t) (iblk m c 1 t) y
      = projected (m ((c : Thread nD τ).loc main_arg0)) (m ((c : Thread nD τ).loc main_arg1)) (((cfg0.win 2).blk t).view.emb y) := by
  pointwise [k0_pay1, projected]
  blk_point [iblk, V, idx t]

/-- The kernel's result array is the slice of the projection. -/
theorem final (c : Dev nD) : (dats m 0 c).arrAt 2 (cfgs 0).N
    = projected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjaIdeal.Proj

end
-- ==== Proof.ClaimProja.lean ====
/-
  The claims of the projection of the first branch: its programs end, and the kernel's results are the layer's.
-/
module

public import proofs.«01_k».proof.Defs
public import proofs.«01_k».proof.Proof.Gen.Proja
public import proofs.«01_k».proof.Proof.Gen.Proja.Frame
public import proofs.«01_k».proof.Proof.Gen.ProjaIdeal
public import proofs.«01_k».proof.Proof.Gen.ProjaIdeal.Frame
public import proofs.«01_k».proof.Proof.Gen.ProjaIdeal.Value
public import proofs.«01_k».proof.Proof.Gen.ProjaRefIdeal
public import proofs.«01_k».proof.Proof.Gen.ProjaRefIdeal.Run
public import proofs.«01_k».proof.Proof.Proja
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the projection of the first branch ends and leaves its arguments. -/
theorem quiescent_Proja : Cert.quiescent_Proja (hProja := Cert.Proja.Gen.facts) := fun m g _ => Cert.Proja.Gen.frame m g

/-- So does the kernel over the reals. -/
theorem quiescent_ProjaIdeal : Cert.quiescent_ProjaIdeal (hProjaIdeal := Cert.ProjaIdeal.Gen.facts) := fun m g _ => Cert.ProjaIdeal.Gen.frame m g

/-- So does the layer's own text. -/
theorem quiescent_ProjaRefIdeal : Cert.quiescent_ProjaRefIdeal (hProjaRefIdeal := Cert.ProjaRefIdeal.Gen.facts) := fun m g _ =>
  (θ_run Cert.ProjaRefIdeal.defs _ _).mono (fun r h => ⟨fun c => (h c).2, sem_eq_zero_of_no_sems (by decide) r.2⟩) (Cert.ProjaRefIdeal.Value.run m g)

/-- The kernel's results over the reals are those of the layer's text. -/
theorem algebraic_ProjaIdeal_ProjaRefIdeal : Cert.algebraic_ProjaIdeal_ProjaRefIdeal (hProjaIdeal := Cert.ProjaIdeal.Gen.facts) (hProjaRefIdeal := Cert.ProjaRefIdeal.Gen.facts) := by
  pair_intro
  · run_from Cert.ProjaIdeal.Gen.run_main m g
  · run_from Cert.ProjaRefIdeal.Value.run m' g'
    exact (Cert.ProjaIdeal.Proj.final m c).symm

end Cert.Proof

end
-- ==== Proof.Projc.lean ====
/-
  A slice of the input projection (columns 6656 to 9728): the kernel's tiles are the tiles of that slice.
-/
module

public import proofs.«01_k».proof.Proof.Gen.ProjcIdeal.Frame
public import proofs.«01_k».proof.Proof.Gen.ProjcIdeal.Value
public import proofs.«01_k».proof.Proof.Gen.ProjcRefIdeal
public import proofs.«01_k».proof.Proof.Gen.ProjcRefIdeal.Run
public import Idealize.ShloMosaic.Lib.Pipeline.ValueKit

@[expose] public section

set_option maxRecDepth 16384

noncomputable section

open Idealize.ShloMosaic Idealize.ShloMosaic.TcCoe Idealize.SL.Sem

namespace Cert.ProjcRefIdeal

open Cert.ProjcRefIdeal.Gen

/-- The slice of the projection, columns 6656 to 9728. -/
def projected (a0 : FVec Ideal S16384x2048 .bf16) (a1 : FVec Ideal S2048x13088 .f32) : FVec Ideal S16384x3072 .bf16 :=
  truncf .bf16 (extractStridedSlice S16384x3072 ![0, 6656] (Host.dotGeneral dot_S16384x2048_S2048x13088_S16384x13088_1_0_0_1_n_n none (extf .f32 a0 bitsLt_bf16_f32) a1) slices_S16384x13088_S16384x3072_0_6656) bitsLt_bf16_f32

end Cert.ProjcRefIdeal

namespace Cert.ProjcIdeal.Proj

open Cert.ProjcIdeal Cert.ProjcIdeal.Gen Cert.ProjcRefIdeal

variable (m : (ℓ : Loc nD τ sig) → Buf (Elt Ideal) ℓ)

/-- Where each operand's block sits at a grid point. -/
theorem idx : ∀ t : Fin cfg0.N, win0_0.index t = ![t.val / 3, 0] ∧ win0_1.index t = ![0, t.val % 3]
    ∧ win0_2.index t = ![t.val / 3, t.val % 3] ∧ t.val / 3 < 16 :=
  (by decide +kernel : ∀ t : Fin grid0.N, _)

/-- What the body stores at a place of a tile is the projection at the tile's place in the array. -/
theorem point (c : Dev nD) (t : Fin cfg0.N) (y) : k0_pay1 (iblk m c 0 t) (iblk m c 1 t) y
      = projected (m ((c : Thread nD τ).loc main_arg0)) (m ((c : Thread nD τ).loc main_arg1)) (((cfg0.win 2).blk t).view.emb y) := by
  pointwise [k0_pay1, projected]
  blk_point [iblk, V, idx t]

/-- The kernel's result array is the slice of the projection. -/
theorem final (c : Dev nD) : (dats m 0 c).arrAt 2 (cfgs 0).N
    = projected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ProjcIdeal.Proj

end
-- ==== Proof.ClaimProjc.lean ====
/-
  The claims of the projection of the third branch: its programs end, and the kernel's results are the layer's.
-/
module

public import proofs.«01_k».proof.Defs
public import proofs.«01_k».proof.Proof.Gen.Projc
public import proofs.«01_k».proof.Proof.Gen.Projc.Frame
public import proofs.«01_k».proof.Proof.Gen.ProjcIdeal
public import proofs.«01_k».proof.Proof.Gen.ProjcIdeal.Frame
public import proofs.«01_k».proof.Proof.Gen.ProjcIdeal.Value
public import proofs.«01_k».proof.Proof.Gen.ProjcRefIdeal
public import proofs.«01_k».proof.Proof.Gen.ProjcRefIdeal.Run
public import proofs.«01_k».proof.Proof.Projc
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the projection of the third branch ends and leaves its arguments. -/
theorem quiescent_Projc : Cert.quiescent_Projc (hProjc := Cert.Projc.Gen.facts) := fun m g _ => Cert.Projc.Gen.frame m g

/-- So does the kernel over the reals. -/
theorem quiescent_ProjcIdeal : Cert.quiescent_ProjcIdeal (hProjcIdeal := Cert.ProjcIdeal.Gen.facts) := fun m g _ => Cert.ProjcIdeal.Gen.frame m g

/-- So does the layer's own text. -/
theorem quiescent_ProjcRefIdeal : Cert.quiescent_ProjcRefIdeal (hProjcRefIdeal := Cert.ProjcRefIdeal.Gen.facts) := fun m g _ =>
  (θ_run Cert.ProjcRefIdeal.defs _ _).mono (fun r h => ⟨fun c => (h c).2, sem_eq_zero_of_no_sems (by decide) r.2⟩) (Cert.ProjcRefIdeal.Value.run m g)

/-- The kernel's results over the reals are those of the layer's text. -/
theorem algebraic_ProjcIdeal_ProjcRefIdeal : Cert.algebraic_ProjcIdeal_ProjcRefIdeal (hProjcIdeal := Cert.ProjcIdeal.Gen.facts) (hProjcRefIdeal := Cert.ProjcRefIdeal.Gen.facts) := by
  pair_intro
  · run_from Cert.ProjcIdeal.Gen.run_main m g
  · run_from Cert.ProjcRefIdeal.Value.run m' g'
    exact (Cert.ProjcIdeal.Proj.final m c).symm

end Cert.Proof

end
-- ==== Proof.Norm.lean ====
/-
  The first norm: the kernel's rows are the rows of the residual stream over their root mean square, scaled.
-/
module

public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.NormRefIdeal

open Cert.NormRefIdeal.Gen Cert.Rows

/-- The norm of every row of the residual stream. -/
def normed (a0 : FVec Ideal S16384x2048 .f32) (a1 : FVec Ideal S2048 .f32) : FVec Ideal S16384x2048 .bf16 :=
  truncf .bf16 (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a1))) bitsLt_bf16_f32

/-- The norm at a row and column. -/
theorem normed_at (a0 : FVec Ideal S16384x2048 .f32) (a1 : FVec Ideal S2048 .f32) (j : S16384x2048.Idx) :
    normed a0 a1 j = rmsRow (fun k => a0 (ix2 (j 0) k)) (fun k => a1 (ix1 k)) (j 1) := by
  pointwise [normed, rmsRow]

end Cert.NormRefIdeal

namespace Cert.NormIdeal.Norm

open Cert.NormIdeal Cert.NormIdeal.Gen Cert.NormRefIdeal Cert.Rows

variable (m : (ℓ : Loc nD τ sig) → Buf (Elt Ideal) ℓ)

/-- What the body stores of a block, row by row. -/
theorem pay_at (v0 : Vec Ideal S512x2048 .f32) (v1 : Vec Ideal S1x2048 .f32) (j : S512x2048.Idx) :
    k0_pay1 v0 v1 j = rmsRow (fun k => v0 (ix2 (j 0) k)) (fun k => v1 (ix2 0 k)) (j 1) := by
  pointwise [k0_pay1, rmsRow]

/-- The norm of equal rows is equal. -/
theorem rms_congr {v v' g g' : Fin 2048 → EReal} {j j' : Fin 2048} (hv : ∀ k, v k = v' k) (hg : ∀ k, g k = g' k) (hj : j = j') :
    rmsRow v g j = rmsRow v' g' j' := by
  rw [funext hv, funext hg, hj]

/-- Where each operand's block sits at a grid point. -/
theorem idx : ∀ t : Fin cfg0.N, win0_0.index t = ![t.val, 0] ∧ win0_1.index t = ![0, 0] ∧ win0_2.index t = ![t.val, 0]
    ∧ t.val < 32 :=
  (by decide +kernel : ∀ t : Fin grid0.N, _)

/-- The result array is the norm. -/
theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (pay_at _ _ y).trans (Eq.trans (rms_congr ?_ ?_ ?_) (normed_at _ _ _).symm)
  all_goals first
    | (intro k; pointwise; done)
    | (intro k; pointwise; blk_point [iblk, V, idx t]; done)
    | (apply Fin.ext; blk_simp [idx t]; done)

end Cert.NormIdeal.Norm

end
-- ==== Proof.ClaimNorm.lean ====
/-
  The claims of the first norm: its programs end, and the kernel's results are the layer's.
-/
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Norm
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the first norm ends and leaves its arguments. -/
theorem quiescent_Norm : Cert.quiescent_Norm (hNorm := Cert.Norm.Gen.facts) := fun m g _ => Cert.Norm.Gen.frame m g

/-- So does the kernel over the reals. -/
theorem quiescent_NormIdeal : Cert.quiescent_NormIdeal (hNormIdeal := Cert.NormIdeal.Gen.facts) := fun m g _ => Cert.NormIdeal.Gen.frame m g

/-- So does the layer's own text. -/
theorem quiescent_NormRefIdeal : Cert.quiescent_NormRefIdeal (hNormRefIdeal := Cert.NormRefIdeal.Gen.facts) := fun m g _ =>
  (θ_run Cert.NormRefIdeal.defs _ _).mono (fun r h => ⟨fun c => (h c).2, sem_eq_zero_of_no_sems (by decide) r.2⟩) (Cert.NormRefIdeal.Value.run m g)

/-- The kernel's results over the reals are those of the layer's text. -/
theorem algebraic_NormIdeal_NormRefIdeal : Cert.algebraic_NormIdeal_NormRefIdeal (hNormIdeal := Cert.NormIdeal.Gen.facts) (hNormRefIdeal := Cert.NormRefIdeal.Gen.facts) := by
  pair_intro
  · run_from Cert.NormIdeal.Gen.run_main m g
  · run_from Cert.NormRefIdeal.Value.run m' g'
    exact (Cert.NormIdeal.Norm.final m c).symm

end Cert.Proof

end
-- ==== Proof.Stick.lean ====
module
public import Idealize.ShloMosaic.Lib.Pipeline.ValueKit
@[expose] public section

/-!
Stick-breaking attention of one query row, over a row of scores `z : ℕ → EReal`, without any program:
the query at position `q` gives the earlier key `k < q` the weight
`exp (z k + Σ_{k ≤ k' < q} log (1 - sigmoid (z k')))`, which is the share `sigmoid (z k)` of what the keys
between `k` and `q` have left of the stick.  The kernel writes the logarithm one way, the reference another;
for real scores they are one number.
-/

noncomputable section
open Idealize.ShloMosaic

namespace Cert.Stick

/-- `log (1 - sigmoid z)` as the kernel computes it: `min z 0 - log (1 + exp (-|z|)) - z`. -/
def l1 (z : EReal) : EReal := min z 0 - Ideal.log (1 + Ideal.exp (0 - max z (-z))) - z

/-- The same at a real score, a real number. -/
def l1r (r : ℝ) : ℝ := min r 0 - Real.log (1 + Real.exp (0 - max r (-r))) - r

/-- What key `k` contributes to the sums of logarithms of query `q`: nothing from `q` on. -/
def L (z : ℕ → EReal) (q k : ℕ) : EReal := if k < q then l1 (z k) else 0

/-- The sum of the contributions of all keys from `k` on. -/
def S (z : ℕ → EReal) (q k : ℕ) : EReal := ∑ k' ∈ Finset.Ico k 2048, L z q k'

/-- The weight query `q` gives key `k`. -/
def A (z : ℕ → EReal) (q k : ℕ) : EReal := if k < q then Ideal.exp (z k + S z q k) else 0

/-- The larger of two reals, among the extended reals. -/
theorem coe_max (x y : ℝ) : ((max x y : ℝ) : EReal) = max (x : EReal) (y : EReal) := EReal.coe_strictMono.monotone.map_max

/-- The smaller of two reals, among the extended reals. -/
theorem coe_min (x y : ℝ) : ((min x y : ℝ) : EReal) = min (x : EReal) (y : EReal) := EReal.coe_strictMono.monotone.map_min

/-- At a real score the kernel's logarithm is the real one. -/
theorem l1_coe (r : ℝ) : l1 (r : EReal) = (l1r r : EReal) := by
  have h : (0 : ℝ) < 1 + Real.exp (0 - max r (-r)) := by positivity
  unfold l1 l1r
  rw [← EReal.coe_neg, ← EReal.coe_zero, ← coe_max, ← coe_min, ← EReal.coe_sub, Ideal.exp_coe, ← EReal.coe_one,
    ← EReal.coe_add, Ideal.log_coe, if_neg (not_le.mpr h), ← EReal.coe_sub, ← EReal.coe_sub]

/-- With real scores every contribution is real. -/
theorem L_real {z : ℕ → EReal} (hz : ∀ k, ∃ r : ℝ, z k = r) (q k : ℕ) : ∃ r : ℝ, L z q k = r := by
  unfold L
  split
  · obtain ⟨r, hr⟩ := hz k
    exact ⟨_, by rw [hr]; exact l1_coe r⟩
  · exact ⟨0, rfl⟩

/-- A real number less itself is zero; an infinite one less itself would not be. -/
theorem sub_self_real {x : EReal} (h : ∃ r : ℝ, x = r) : x - x = 0 := by
  obtain ⟨r, rfl⟩ := h
  rw [← EReal.coe_sub, sub_self, EReal.coe_zero]

/-- A sum of reals is real. -/
theorem sum_real {ι : Type} (s : Finset ι) (f : ι → EReal) (h : ∀ i, ∃ r : ℝ, f i = r) : ∃ r : ℝ, ∑ i ∈ s, f i = r := by
  classical
  choose g hg using h
  refine ⟨∑ i ∈ s, g i, ?_⟩
  simp only [hg]
  induction s using Finset.induction_on with
  | empty => simp
  | insert a s ha ih => rw [Finset.sum_insert ha, Finset.sum_insert ha, ih, EReal.coe_add]

/-- A sum over a block of 256 keys against the lower-triangular matrix of ones is the sum from a key to the
block's end; the pass over the remainders `x - x` adds nothing to it. -/
theorem tri_sum (X : ℕ → EReal) (hX : ∀ k, ∃ r : ℝ, X k = r) (b s : ℕ) (hs : s < 256) :
    (∑ k : Fin 256, X (256 * b + k.val) * (if s ≤ k.val then (1 : EReal) else 0))
      + ∑ k : Fin 256, (X (256 * b + k.val) - X (256 * b + k.val)) * (if s ≤ k.val then (1 : EReal) else 0)
      = ∑ k ∈ Finset.Ico (256 * b + s) (256 * b + 256), X k := by
  rw [Finset.sum_eq_zero (s := Finset.univ) (f := fun k : Fin 256 => (X (256 * b + k.val) - X (256 * b + k.val)) * (if s ≤ k.val then (1 : EReal) else 0))
    (fun k _ => by rw [sub_self_real (hX _), zero_mul]), add_zero,
    Fin.sum_univ_eq_sum_range (fun k => X (256 * b + k) * (if s ≤ k then (1 : EReal) else 0)) 256]
  have e : ∀ k ∈ Finset.range 256, X (256 * b + k) * (if s ≤ k then (1 : EReal) else 0) = if s ≤ k then X (256 * b + k) else 0 := by
    intro k _
    split <;> simp
  rw [Finset.sum_congr rfl e, ← Finset.sum_filter, Finset.sum_Ico_eq_sum_range]
  refine Finset.sum_bij (fun k _ => k - s) ?_ ?_ ?_ ?_
  · intro k hk
    simp only [Finset.mem_filter, Finset.mem_range] at hk ⊢
    omega
  · intro a ha b hb
    simp only [Finset.mem_filter, Finset.mem_range] at ha hb
    omega
  · intro k hk
    simp only [Finset.mem_range] at hk
    exact ⟨k + s, by simp only [Finset.mem_filter, Finset.mem_range]; omega, by omega⟩
  · intro k hk
    simp only [Finset.mem_filter, Finset.mem_range] at hk
    congr 1
    omega

/-- The sum from a key of a block on is the sum to the block's end and the sum from there. -/
theorem S_split (z : ℕ → EReal) (q b s : ℕ) (hs : s < 256) (hb : b < 8) :
    (∑ k ∈ Finset.Ico (256 * b + s) (256 * b + 256), L z q k) + S z q (256 * (b + 1)) = S z q (256 * b + s) := by
  unfold S
  rw [show 256 * (b + 1) = 256 * b + 256 by omega]
  exact Finset.sum_Ico_consecutive _ (by omega) (by omega)

/-- Past the query nothing contributes. -/
theorem S_past (z : ℕ → EReal) (q k : ℕ) (h : q ≤ k) : S z q k = 0 := by
  refine Finset.sum_eq_zero fun k' hk' => ?_
  rw [Finset.mem_Ico] at hk'
  exact if_neg (by omega)

/-- A block's share of the weighted sum, added to that of the later keys. -/
theorem acc_split (f : ℕ → EReal) (b : ℕ) (hb : b < 8) :
    (∑ k ∈ Finset.Ico (256 * (b + 1)) 2048, f k) + ∑ k : Fin 256, f (256 * b + k.val) = ∑ k ∈ Finset.Ico (256 * b) 2048, f k := by
  rw [Fin.sum_univ_eq_sum_range (fun k => f (256 * b + k)) 256, add_comm,
    ← Finset.sum_Ico_consecutive f (show 256 * b ≤ 256 * (b + 1) by omega) (show 256 * (b + 1) ≤ 2048 by omega)]
  congr 1
  rw [Finset.sum_Ico_eq_sum_range, show 256 * (b + 1) - 256 * b = 256 by omega]

/-- `log (1 + exp y)` the stable way, and its use as `log (sigmoid x)`, as the reference writes them. -/
def softplus (y : EReal) : EReal := max y 0 + Ideal.log (1 + Ideal.exp (0 - max y (-y)))

/-- At a real argument it is the real one. -/
theorem softplus_coe (r : ℝ) : softplus (r : EReal) = ((max r 0 + Real.log (1 + Real.exp (0 - max r (-r))) : ℝ) : EReal) := by
  have h : (0 : ℝ) < 1 + Real.exp (0 - max r (-r)) := by positivity
  unfold softplus
  rw [← EReal.coe_neg, ← EReal.coe_zero, ← coe_max, ← coe_max, ← EReal.coe_sub, Ideal.exp_coe, ← EReal.coe_one,
    ← EReal.coe_add, Ideal.log_coe, if_neg (not_le.mpr h), ← EReal.coe_add]

/-- `log (sigmoid (-z))` is `log (1 - sigmoid z)`. -/
theorem neg_softplus (z : EReal) (h : ∃ r : ℝ, z = r) : -softplus z = l1 z := by
  obtain ⟨r, rfl⟩ := h
  rw [softplus_coe, l1_coe, ← EReal.coe_neg]
  congr 1
  unfold l1r
  have := min_add_max r 0
  linarith

/-- `log (sigmoid z) = z + log (1 - sigmoid z)`. -/
theorem neg_softplus_neg (z : EReal) (h : ∃ r : ℝ, z = r) : -softplus (-z) = z + l1 z := by
  obtain ⟨r, rfl⟩ := h
  rw [← EReal.coe_neg, softplus_coe, l1_coe, ← EReal.coe_neg, ← EReal.coe_add]
  congr 1
  unfold l1r
  rw [neg_neg, max_comm (-r) r]
  have h1 : max (-r) 0 = -min r 0 := by rw [← neg_zero, max_neg_neg, neg_zero]
  rw [h1]
  ring

/-- The reference's weight, `exp (log (sigmoid z) + (inclusive sum - own term))`, is `A`. -/
theorem ref_weight (z : ℕ → EReal) (hz : ∀ k, ∃ r : ℝ, z k = r) (q k : ℕ) :
    (if k < q then Ideal.exp (-softplus (-(z k)) + (S z q k - L z q k)) else 0) = A z q k := by
  unfold A
  split
  · next hk =>
    rw [neg_softplus_neg _ (hz k)]
    congr 1
    obtain ⟨s, hs⟩ : ∃ r : ℝ, S z q k = r := sum_real _ _ (L_real hz q)
    obtain ⟨l, hl⟩ := L_real hz q k
    have hl' : l1 (z k) = (l : EReal) := by rw [← hl]; exact (if_pos hk).symm
    obtain ⟨r, hr⟩ := hz k
    rw [hs, hl, hl', hr, ← EReal.coe_add, ← EReal.coe_sub, ← EReal.coe_add, ← EReal.coe_add]
    congr 1
    ring
  · rfl

end Cert.Stick
-- ==== Proof.SbBody.lean ====
/-
  The body of the stick-breaking attention kernel: what it computes of a block of keys, entry by entry,
  and what a grid point stores, as lists of stores.
-/
module

public import proofs.«01_k».proof.Proof.Gen.SbIdeal.Frame
public import proofs.«01_k».proof.Proof.Gen.SbIdeal.Value
public import proofs.«01_k».proof.Proof.Stick
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.SbIdeal.Sb

open Cert.SbIdeal Cert.SbIdeal.Gen

/-- A block of scores: the scaled products of the block's queries and keys. -/
theorem z_at (Q : Vec Ideal S128x128 .bf16) (K : Vec Ideal S256x128 .bf16) (j : S128x256.Idx) :
    k0_pay9 Q K j = (∑ e : Fin 128, Q (ix2 (j 0) e) * K (ix2 (j 1) e)) * Ideal.ofBits .f32 0x3DB504F3#32 := by
  pointwise [k0_pay9]

/-- The logarithm of what a key leaves of the stick, entry by entry. -/
theorem l_at (z : FVec Ideal S128x256 .f32) (j : S128x256.Idx) :
    k0_pay27 z (k0_pay18 z) j = Stick.l1 (z j) := by
  pointwise [k0_pay27, k0_pay18, Stick.l1]
  rfl

/-- The sums within a block from each key on, by a triangular product of the leading part and of the remainder, which over the reals is `x - x`. -/
theorem incl_at (v5 : FVec Ideal S256x256 .bf16) (x : FVec Ideal S128x256 .f32) (j : S128x256.Idx) :
    k0_pay34 v5 x j = (∑ k : Fin 256, x (ix2 (j 0) k) * v5 (ix2 k (j 1))) + ∑ k : Fin 256, (x (ix2 (j 0) k) - x (ix2 (j 0) k)) * v5 (ix2 k (j 1)) := by
  pointwise [k0_pay34]

/-- A block's share of the weighted values, added to the sum so far. -/
theorem acc_at (z incl : FVec Ideal S128x256 .f32) (run : Vec Ideal S1x128x256 .f32) (V : Vec Ideal S256x128 .bf16) (acc : Vec Ideal S128x128 .f32) (j : S128x128.Idx) :
    k0_pay44 z incl run V acc j = acc j + ∑ k : Fin 256, Ideal.exp (z (ix2 (j 0) k) + incl (ix2 (j 0) k) + run (ix3 0 (j 0) k)) * V (ix2 k (j 1)) := by
  pointwise [k0_pay44]

/-- The running logarithm after a block. -/
theorem run_at (incl : FVec Ideal S128x256 .f32) (run : Vec Ideal S1x128x256 .f32) (j : S1x128x256.Idx) :
    k0_pay45 incl run j = run j + incl (ix2 (j 1) 0) := by
  pointwise [k0_pay45]

/-- The triangular matrix: one where the column is at most the row. -/
theorem tri_at (j : S256x256.Idx) : (k0_pay121 (F := Ideal)) j = if (j 1).val ≤ (j 0).val then 1 else 0 := by
  have h0 : (j 0).val < 256 := (j 0).isLt
  have h1 : (j 1).val < 256 := (j 1).isLt
  pointwise [k0_pay121]
  rw [WordCmp.cmpi_sge_ofNat (lt_trans h0 (by norm_num)) (lt_trans h1 (by norm_num))]
  by_cases h : (j 1).val ≤ (j 0).val <;> simp [h, FloatOps.sitofp]

/-- The comparison of two positions as the kernel's words make it. -/
theorem below (k r t : ℕ) (hk : k < 256) (hr : r < 128) (ht : t < 256) :
    IntOp.cmpi .slt (IntOp.subi (BitVec.ofNat 32 k) (BitVec.ofNat 32 r)) (BitVec.ofNat 32 t) = BitVec.ofBool (decide (k < r + t)) := by
  rw [WordCmp.cmpi_slt_eq]
  have e : (IntOp.subi (BitVec.ofNat 32 k) (BitVec.ofNat 32 r)).toInt = (k : ℤ) - r := by
    show (BitVec.ofNat 32 k - BitVec.ofNat 32 r).toInt = _
    rw [BitVec.toInt_sub, WordCmp.toInt_ofNat_of_lt (lt_trans hk (by norm_num)), WordCmp.toInt_ofNat_of_lt (lt_trans hr (by norm_num)), Int.bmod_def]
    split <;> omega
  rw [e, WordCmp.toInt_ofNat_of_lt (lt_trans ht (by norm_num))]
  congr 2
  exact propext (by omega)

/-- Where the query block begins within its key block, as the kernel's words compute it. -/
theorem thr (n : Fin 16) : Scalar.muli
        (Scalar.select
          (Scalar.andi
            (Scalar.xori
              (Scalar.cmpi CmpIPredicate.slt
                (Scalar.remsi (BitVec.ofNat 32 n.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (Scalar.cmpi CmpIPredicate.ne
              (Scalar.remsi (BitVec.ofNat 32 n.val) (Scalar.select (Scalar.cmpi CmpIPredicate.eq 2#32 0#32) 1#32 2#32))
              0#32))
          (Scalar.addi
            (Scalar.remsi (BitVec.ofNat 32 n.val) (Scalar.select (Scalar.cmpi CmpIPredicate.eq 2#32 0#32) 1#32 2#32))
            (Scalar.select (Scalar.cmpi CmpIPredicate.eq 2#32 0#32) 1#32 2#32))
          (Scalar.remsi (BitVec.ofNat 32 n.val) (Scalar.select (Scalar.cmpi CmpIPredicate.eq 2#32 0#32) 1#32 2#32)))
        128#32 = BitVec.ofNat 32 (n.val % 2 * 128) := by
  revert n
  decide +kernel

/-- Within the query's own key block: which keys come before the query. -/
theorem mask_at (i : grid0.Coords) (j : S128x256.Idx) : k0_pay122 i j = BitVec.ofBool (decide ((j 1).val < (j 0).val + (i 1).val % 2 * 128)) := by
  have h0 : (j 0).val < 128 := (j 0).isLt
  have h1 : (j 1).val < 256 := (j 1).isLt
  pointwise [k0_pay122]
  rw [thr (i 1)]
  exact below _ _ _ h1 h0 (by omega)

/-- The logarithms within the query's own block: zero from the query on. -/
theorem ld_at (m21 : IVec S128x256 1) (z : FVec Ideal S128x256 .f32) (j : S128x256.Idx) : k0_pay147 m21 z (k0_pay141 z) j = Scalar.select (m21 j) (Stick.l1 (z j)) 0 := by
  pointwise [k0_pay147, k0_pay141, Stick.l1]
  rfl

/-- The query's own block's share of the weighted values, which begins the sum. -/
theorem accd_at (m21 : IVec S128x256 1) (z incl : FVec Ideal S128x256 .f32) (V : Vec Ideal S256x128 .bf16) (j : S128x128.Idx) : k0_pay2 m21 z incl V j = ∑ k : Fin 256, Scalar.select (m21 (ix2 (j 0) k)) (Ideal.exp (z (ix2 (j 0) k) + incl (ix2 (j 0) k))) 0 * V (ix2 k (j 1)) := by
  pointwise [k0_pay2]

/-- The running logarithm after the query's own block. -/
theorem rund_at (incl : FVec Ideal S128x256 .f32) (j : S1x128x256.Idx) : k0_pay3 incl j = incl (ix2 (j 1) 0) := by
  pointwise [k0_pay3]

/-- The stored result is the sum. -/
theorem out_at (a : Vec Ideal S128x1024 .f32) (j : S128x1024.Idx) : k0_pay8 a j = a j := by
  pointwise [k0_pay8]

/-- The sums of logarithms within a block from each key on. -/
def stepIncl (v5 : FVec Ideal S256x256 .bf16) (z : FVec Ideal S128x256 .f32) : FVec Ideal S128x256 .f32 := k0_pay34 v5 (k0_pay27 z (k0_pay18 z))

/-- One head's weighted values after one more block. -/
def stepAcc (v5 : FVec Ideal S256x256 .bf16) (Q : Vec Ideal S128x128 .bf16) (K V : Vec Ideal S256x128 .bf16) (run : Vec Ideal S1x128x256 .f32) (acc : Vec Ideal S128x128 .f32) : FVec Ideal S128x128 .f32 :=
  k0_pay44 (k0_pay9 Q K) (stepIncl v5 (k0_pay9 Q K)) run V acc

/-- One head's running logarithm after one more block. -/
def stepRun (v5 : FVec Ideal S256x256 .bf16) (Q : Vec Ideal S128x128 .bf16) (K : Vec Ideal S256x128 .bf16) (run : Vec Ideal S1x128x256 .f32) : FVec Ideal S1x128x256 .f32 :=
  k0_pay45 (stepIncl v5 (k0_pay9 Q K)) run

/-- One block of the loop: every head's sums and running logarithms are stored anew, each from what was there at the block's start. -/
theorem trip_eq (𝒱 : Variants) (c : Dev nD) (bd : Option 𝒱.V) (i : grid0.Coords) (arg2 : Memref sig .tc .vmem S128x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S8x128x256 .f32) (harg7 : arg7.IsWhole) (v5 : FVec Ideal S256x256 .bf16) (v22 v23 v24 v25 v26 v27 v28 v29 : Vec Ideal S128x128 .bf16) (v46 : BitVec 32) (x3 x4 : Vec Ideal S2048x1024 .bf16) (k : Fin (k0_t1_loop i).trips) (f6 : BufTy.Contents (Elt Ideal) arg6.view.ty) (f7 : BufTy.Contents (Elt Ideal) arg7.view.ty) :
    tripL_k0_t1 (F := Ideal) 𝒱 c bd i arg2 harg2 arg3 harg3 arg4 harg4 arg5 harg5 arg6 harg6 arg7 harg7 v5 v22 v23 v24 v25 v26 v27 v28 v29 v46 (harg3.unread x3) (harg4.unread x4) k f6 f7 = ([⟨(Rect.unit (s := S128x1024) ![0, 896] ![128, 128] (by decide)), stepAcc v5 v29 (View.ld (Val := Elt Ideal) (e' := .bf16) x3 (Rect.unit (s := S2048x1024) (k0_off16 i k) ![256, 128] (k0_off16_inb i k)) : Vec Ideal S256x128 .bf16) (View.ld (Val := Elt Ideal) (e' := .bf16) x4 (Rect.unit (s := S2048x1024) (k0_off16 i k) ![256, 128] (k0_off16_inb i k)) : Vec Ideal S256x128 .bf16) (View.ld (Val := Elt Ideal) (e' := .f32) (arg7.view.read (Elt Ideal) f7) (Rect.unit (s := S8x128x256) ![7, 0, 0] ![1, 128, 256] (by decide)) : Vec Ideal S1x128x256 .f32) (View.ld (Val := Elt Ideal) (e' := .f32) (arg6.view.read (Elt Ideal) f6) (Rect.unit (s := S128x1024) ![0, 896] ![128, 128] (by decide)) : Vec Ideal S128x128 .f32)⟩,
      ⟨(Rect.unit (s := S128x1024) ![0, 768] ![128, 128] (by decide)), stepAcc v5 v28 (View.ld (Val := Elt Ideal) (e' := .bf16) x3 (Rect.unit (s := S2048x1024) (k0_off15 i k) ![256, 128] (k0_off15_inb i k)) : Vec Ideal S256x128 .bf16) (View.ld (Val := Elt Ideal) (e' := .bf16) x4 (Rect.unit (s := S2048x1024) (k0_off15 i k) ![256, 128] (k0_off15_inb i k)) : Vec Ideal S256x128 .bf16) (View.ld (Val := Elt Ideal) (e' := .f32) (arg7.view.read (Elt Ideal) f7) (Rect.unit (s := S8x128x256) ![6, 0, 0] ![1, 128, 256] (by decide)) : Vec Ideal S1x128x256 .f32) (View.ld (Val := Elt Ideal) (e' := .f32) (arg6.view.read (Elt Ideal) f6) (Rect.unit (s := S128x1024) ![0, 768] ![128, 128] (by decide)) : Vec Ideal S128x128 .f32)⟩,
      ⟨(Rect.unit (s := S128x1024) ![0, 640] ![128, 128] (by decide)), stepAcc v5 v27 (View.ld (Val := Elt Ideal) (e' := .bf16) x3 (Rect.unit (s := S2048x1024) (k0_off14 i k) ![256, 128] (k0_off14_inb i k)) : Vec Ideal S256x128 .bf16) (View.ld (Val := Elt Ideal) (e' := .bf16) x4 (Rect.unit (s := S2048x1024) (k0_off14 i k) ![256, 128] (k0_off14_inb i k)) : Vec Ideal S256x128 .bf16) (View.ld (Val := Elt Ideal) (e' := .f32) (arg7.view.read (Elt Ideal) f7) (Rect.unit (s := S8x128x256) ![5, 0, 0] ![1, 128, 256] (by decide)) : Vec Ideal S1x128x256 .f32) (View.ld (Val := Elt Ideal) (e' := .f32) (arg6.view.read (Elt Ideal) f6) (Rect.unit (s := S128x1024) ![0, 640] ![128, 128] (by decide)) : Vec Ideal S128x128 .f32)⟩,
      ⟨(Rect.unit (s := S128x1024) ![0, 512] ![128, 128] (by decide)), stepAcc v5 v26 (View.ld (Val := Elt Ideal) (e' := .bf16) x3 (Rect.unit (s := S2048x1024) (k0_off13 i k) ![256, 128] (k0_off13_inb i k)) : Vec Ideal S256x128 .bf16) (View.ld (Val := Elt Ideal) (e' := .bf16) x4 (Rect.unit (s := S2048x1024) (k0_off13 i k) ![256, 128] (k0_off13_inb i k)) : Vec Ideal S256x128 .bf16) (View.ld (Val := Elt Ideal) (e' := .f32) (arg7.view.read (Elt Ideal) f7) (Rect.unit (s := S8x128x256) ![4, 0, 0] ![1, 128, 256] (by decide)) : Vec Ideal S1x128x256 .f32) (View.ld (Val := Elt Ideal) (e' := .f32) (arg6.view.read (Elt Ideal) f6) (Rect.unit (s := S128x1024) ![0, 512] ![128, 128] (by decide)) : Vec Ideal S128x128 .f32)⟩,
      ⟨(Rect.unit (s := S128x1024) ![0, 384] ![128, 128] (by decide)), stepAcc v5 v25 (View.ld (Val := Elt Ideal) (e' := .bf16) x3 (Rect.unit (s := S2048x1024) (k0_off12 i k) ![256, 128] (k0_off12_inb i k)) : Vec Ideal S256x128 .bf16) (View.ld (Val := Elt Ideal) (e' := .bf16) x4 (Rect.unit (s := S2048x1024) (k0_off12 i k) ![256, 128] (k0_off12_inb i k)) : Vec Ideal S256x128 .bf16) (View.ld (Val := Elt Ideal) (e' := .f32) (arg7.view.read (Elt Ideal) f7) (Rect.unit (s := S8x128x256) ![3, 0, 0] ![1, 128, 256] (by decide)) : Vec Ideal S1x128x256 .f32) (View.ld (Val := Elt Ideal) (e' := .f32) (arg6.view.read (Elt Ideal) f6) (Rect.unit (s := S128x1024) ![0, 384] ![128, 128] (by decide)) : Vec Ideal S128x128 .f32)⟩,
      ⟨(Rect.unit (s := S128x1024) ![0, 256] ![128, 128] (by decide)), stepAcc v5 v24 (View.ld (Val := Elt Ideal) (e' := .bf16) x3 (Rect.unit (s := S2048x1024) (k0_off11 i k) ![256, 128] (k0_off11_inb i k)) : Vec Ideal S256x128 .bf16) (View.ld (Val := Elt Ideal) (e' := .bf16) x4 (Rect.unit (s := S2048x1024) (k0_off11 i k) ![256, 128] (k0_off11_inb i k)) : Vec Ideal S256x128 .bf16) (View.ld (Val := Elt Ideal) (e' := .f32) (arg7.view.read (Elt Ideal) f7) (Rect.unit (s := S8x128x256) ![2, 0, 0] ![1, 128, 256] (by decide)) : Vec Ideal S1x128x256 .f32) (View.ld (Val := Elt Ideal) (e' := .f32) (arg6.view.read (Elt Ideal) f6) (Rect.unit (s := S128x1024) ![0, 256] ![128, 128] (by decide)) : Vec Ideal S128x128 .f32)⟩,
      ⟨(Rect.unit (s := S128x1024) ![0, 128] ![128, 128] (by decide)), stepAcc v5 v23 (View.ld (Val := Elt Ideal) (e' := .bf16) x3 (Rect.unit (s := S2048x1024) (k0_off10 i k) ![256, 128] (k0_off10_inb i k)) : Vec Ideal S256x128 .bf16) (View.ld (Val := Elt Ideal) (e' := .bf16) x4 (Rect.unit (s := S2048x1024) (k0_off10 i k) ![256, 128] (k0_off10_inb i k)) : Vec Ideal S256x128 .bf16) (View.ld (Val := Elt Ideal) (e' := .f32) (arg7.view.read (Elt Ideal) f7) (Rect.unit (s := S8x128x256) ![1, 0, 0] ![1, 128, 256] (by decide)) : Vec Ideal S1x128x256 .f32) (View.ld (Val := Elt Ideal) (e' := .f32) (arg6.view.read (Elt Ideal) f6) (Rect.unit (s := S128x1024) ![0, 128] ![128, 128] (by decide)) : Vec Ideal S128x128 .f32)⟩,
      ⟨(Rect.unit (s := S128x1024) ![0, 0] ![128, 128] (by decide)), stepAcc v5 v22 (View.ld (Val := Elt Ideal) (e' := .bf16) x3 (Rect.unit (s := S2048x1024) (k0_off9 i k) ![256, 128] (k0_off9_inb i k)) : Vec Ideal S256x128 .bf16) (View.ld (Val := Elt Ideal) (e' := .bf16) x4 (Rect.unit (s := S2048x1024) (k0_off9 i k) ![256, 128] (k0_off9_inb i k)) : Vec Ideal S256x128 .bf16) (View.ld (Val := Elt Ideal) (e' := .f32) (arg7.view.read (Elt Ideal) f7) (Rect.unit (s := S8x128x256) ![0, 0, 0] ![1, 128, 256] (by decide)) : Vec Ideal S1x128x256 .f32) (View.ld (Val := Elt Ideal) (e' := .f32) (arg6.view.read (Elt Ideal) f6) (Rect.unit (s := S128x1024) ![0, 0] ![128, 128] (by decide)) : Vec Ideal S128x128 .f32)⟩],
      [⟨(Rect.unit (s := S8x128x256) ![7, 0, 0] ![1, 128, 256] (by decide)), stepRun v5 v29 (View.ld (Val := Elt Ideal) (e' := .bf16) x3 (Rect.unit (s := S2048x1024) (k0_off16 i k) ![256, 128] (k0_off16_inb i k)) : Vec Ideal S256x128 .bf16) (View.ld (Val := Elt Ideal) (e' := .f32) (arg7.view.read (Elt Ideal) f7) (Rect.unit (s := S8x128x256) ![7, 0, 0] ![1, 128, 256] (by decide)) : Vec Ideal S1x128x256 .f32)⟩,
      ⟨(Rect.unit (s := S8x128x256) ![6, 0, 0] ![1, 128, 256] (by decide)), stepRun v5 v28 (View.ld (Val := Elt Ideal) (e' := .bf16) x3 (Rect.unit (s := S2048x1024) (k0_off15 i k) ![256, 128] (k0_off15_inb i k)) : Vec Ideal S256x128 .bf16) (View.ld (Val := Elt Ideal) (e' := .f32) (arg7.view.read (Elt Ideal) f7) (Rect.unit (s := S8x128x256) ![6, 0, 0] ![1, 128, 256] (by decide)) : Vec Ideal S1x128x256 .f32)⟩,
      ⟨(Rect.unit (s := S8x128x256) ![5, 0, 0] ![1, 128, 256] (by decide)), stepRun v5 v27 (View.ld (Val := Elt Ideal) (e' := .bf16) x3 (Rect.unit (s := S2048x1024) (k0_off14 i k) ![256, 128] (k0_off14_inb i k)) : Vec Ideal S256x128 .bf16) (View.ld (Val := Elt Ideal) (e' := .f32) (arg7.view.read (Elt Ideal) f7) (Rect.unit (s := S8x128x256) ![5, 0, 0] ![1, 128, 256] (by decide)) : Vec Ideal S1x128x256 .f32)⟩,
      ⟨(Rect.unit (s := S8x128x256) ![4, 0, 0] ![1, 128, 256] (by decide)), stepRun v5 v26 (View.ld (Val := Elt Ideal) (e' := .bf16) x3 (Rect.unit (s := S2048x1024) (k0_off13 i k) ![256, 128] (k0_off13_inb i k)) : Vec Ideal S256x128 .bf16) (View.ld (Val := Elt Ideal) (e' := .f32) (arg7.view.read (Elt Ideal) f7) (Rect.unit (s := S8x128x256) ![4, 0, 0] ![1, 128, 256] (by decide)) : Vec Ideal S1x128x256 .f32)⟩,
      ⟨(Rect.unit (s := S8x128x256) ![3, 0, 0] ![1, 128, 256] (by decide)), stepRun v5 v25 (View.ld (Val := Elt Ideal) (e' := .bf16) x3 (Rect.unit (s := S2048x1024) (k0_off12 i k) ![256, 128] (k0_off12_inb i k)) : Vec Ideal S256x128 .bf16) (View.ld (Val := Elt Ideal) (e' := .f32) (arg7.view.read (Elt Ideal) f7) (Rect.unit (s := S8x128x256) ![3, 0, 0] ![1, 128, 256] (by decide)) : Vec Ideal S1x128x256 .f32)⟩,
      ⟨(Rect.unit (s := S8x128x256) ![2, 0, 0] ![1, 128, 256] (by decide)), stepRun v5 v24 (View.ld (Val := Elt Ideal) (e' := .bf16) x3 (Rect.unit (s := S2048x1024) (k0_off11 i k) ![256, 128] (k0_off11_inb i k)) : Vec Ideal S256x128 .bf16) (View.ld (Val := Elt Ideal) (e' := .f32) (arg7.view.read (Elt Ideal) f7) (Rect.unit (s := S8x128x256) ![2, 0, 0] ![1, 128, 256] (by decide)) : Vec Ideal S1x128x256 .f32)⟩,
      ⟨(Rect.unit (s := S8x128x256) ![1, 0, 0] ![1, 128, 256] (by decide)), stepRun v5 v23 (View.ld (Val := Elt Ideal) (e' := .bf16) x3 (Rect.unit (s := S2048x1024) (k0_off10 i k) ![256, 128] (k0_off10_inb i k)) : Vec Ideal S256x128 .bf16) (View.ld (Val := Elt Ideal) (e' := .f32) (arg7.view.read (Elt Ideal) f7) (Rect.unit (s := S8x128x256) ![1, 0, 0] ![1, 128, 256] (by decide)) : Vec Ideal S1x128x256 .f32)⟩,
      ⟨(Rect.unit (s := S8x128x256) ![0, 0, 0] ![1, 128, 256] (by decide)), stepRun v5 v22 (View.ld (Val := Elt Ideal) (e' := .bf16) x3 (Rect.unit (s := S2048x1024) (k0_off9 i k) ![256, 128] (k0_off9_inb i k)) : Vec Ideal S256x128 .bf16) (View.ld (Val := Elt Ideal) (e' := .f32) (arg7.view.read (Elt Ideal) f7) (Rect.unit (s := S8x128x256) ![0, 0, 0] ![1, 128, 256] (by decide)) : Vec Ideal S1x128x256 .f32)⟩]) := by
  unfold tripL_k0_t1
  unfold trip_k0_t1
  frame_out
  rfl

/-- The sums of logarithms within the query's own block. -/
def diagIncl (i : grid0.Coords) (z : FVec Ideal S128x256 .f32) : FVec Ideal S128x256 .f32 := k0_pay34 k0_pay121 (k0_pay147 (k0_pay122 i) z (k0_pay141 z))

/-- One head's weighted values after the query's own block. -/
def diagAcc (i : grid0.Coords) (Q : Vec Ideal S128x128 .bf16) (K V : Vec Ideal S256x128 .bf16) : FVec Ideal S128x128 .f32 :=
  k0_pay2 (k0_pay122 i) (k0_pay9 Q K) (diagIncl i (k0_pay9 Q K)) V

/-- One head's running logarithm after the query's own block. -/
def diagRun (i : grid0.Coords) (Q : Vec Ideal S128x128 .bf16) (K : Vec Ideal S256x128 .bf16) : FVec Ideal S1x128x256 .f32 :=
  k0_pay3 (diagIncl i (k0_pay9 Q K))

/-- The stores of the weighted values of the query's own block, the last head first. -/
def diag6 (i : grid0.Coords) (x0 : Vec Ideal S128x1024 .bf16) (x3 x4 : Vec Ideal S2048x1024 .bf16) : List (View.Piece (Elt Ideal) S128x1024 .f32) :=
  [⟨(Rect.unit (s := S128x1024) ![0, 896] ![128, 128] (by decide)), diagAcc i (View.ld (Val := Elt Ideal) (e' := .bf16) x0 (Rect.unit (s := S128x1024) ![0, 896] ![128, 128] (by decide)) : Vec Ideal S128x128 .bf16) (View.ld (Val := Elt Ideal) (e' := .bf16) x3 (Rect.unit (s := S2048x1024) (k0_off8 i) ![256, 128] (k0_off8_inb i)) : Vec Ideal S256x128 .bf16) (View.ld (Val := Elt Ideal) (e' := .bf16) x4 (Rect.unit (s := S2048x1024) (k0_off8 i) ![256, 128] (k0_off8_inb i)) : Vec Ideal S256x128 .bf16)⟩,
    ⟨(Rect.unit (s := S128x1024) ![0, 768] ![128, 128] (by decide)), diagAcc i (View.ld (Val := Elt Ideal) (e' := .bf16) x0 (Rect.unit (s := S128x1024) ![0, 768] ![128, 128] (by decide)) : Vec Ideal S128x128 .bf16) (View.ld (Val := Elt Ideal) (e' := .bf16) x3 (Rect.unit (s := S2048x1024) (k0_off7 i) ![256, 128] (k0_off7_inb i)) : Vec Ideal S256x128 .bf16) (View.ld (Val := Elt Ideal) (e' := .bf16) x4 (Rect.unit (s := S2048x1024) (k0_off7 i) ![256, 128] (k0_off7_inb i)) : Vec Ideal S256x128 .bf16)⟩,
    ⟨(Rect.unit (s := S128x1024) ![0, 640] ![128, 128] (by decide)), diagAcc i (View.ld (Val := Elt Ideal) (e' := .bf16) x0 (Rect.unit (s := S128x1024) ![0, 640] ![128, 128] (by decide)) : Vec Ideal S128x128 .bf16) (View.ld (Val := Elt Ideal) (e' := .bf16) x3 (Rect.unit (s := S2048x1024) (k0_off6 i) ![256, 128] (k0_off6_inb i)) : Vec Ideal S256x128 .bf16) (View.ld (Val := Elt Ideal) (e' := .bf16) x4 (Rect.unit (s := S2048x1024) (k0_off6 i) ![256, 128] (k0_off6_inb i)) : Vec Ideal S256x128 .bf16)⟩,
    ⟨(Rect.unit (s := S128x1024) ![0, 512] ![128, 128] (by decide)), diagAcc i (View.ld (Val := Elt Ideal) (e' := .bf16) x0 (Rect.unit (s := S128x1024) ![0, 512] ![128, 128] (by decide)) : Vec Ideal S128x128 .bf16) (View.ld (Val := Elt Ideal) (e' := .bf16) x3 (Rect.unit (s := S2048x1024) (k0_off5 i) ![256, 128] (k0_off5_inb i)) : Vec Ideal S256x128 .bf16) (View.ld (Val := Elt Ideal) (e' := .bf16) x4 (Rect.unit (s := S2048x1024) (k0_off5 i) ![256, 128] (k0_off5_inb i)) : Vec Ideal S256x128 .bf16)⟩,
    ⟨(Rect.unit (s := S128x1024) ![0, 384] ![128, 128] (by decide)), diagAcc i (View.ld (Val := Elt Ideal) (e' := .bf16) x0 (Rect.unit (s := S128x1024) ![0, 384] ![128, 128] (by decide)) : Vec Ideal S128x128 .bf16) (View.ld (Val := Elt Ideal) (e' := .bf16) x3 (Rect.unit (s := S2048x1024) (k0_off4 i) ![256, 128] (k0_off4_inb i)) : Vec Ideal S256x128 .bf16) (View.ld (Val := Elt Ideal) (e' := .bf16) x4 (Rect.unit (s := S2048x1024) (k0_off4 i) ![256, 128] (k0_off4_inb i)) : Vec Ideal S256x128 .bf16)⟩,
    ⟨(Rect.unit (s := S128x1024) ![0, 256] ![128, 128] (by decide)), diagAcc i (View.ld (Val := Elt Ideal) (e' := .bf16) x0 (Rect.unit (s := S128x1024) ![0, 256] ![128, 128] (by decide)) : Vec Ideal S128x128 .bf16) (View.ld (Val := Elt Ideal) (e' := .bf16) x3 (Rect.unit (s := S2048x1024) (k0_off3 i) ![256, 128] (k0_off3_inb i)) : Vec Ideal S256x128 .bf16) (View.ld (Val := Elt Ideal) (e' := .bf16) x4 (Rect.unit (s := S2048x1024) (k0_off3 i) ![256, 128] (k0_off3_inb i)) : Vec Ideal S256x128 .bf16)⟩,
    ⟨(Rect.unit (s := S128x1024) ![0, 128] ![128, 128] (by decide)), diagAcc i (View.ld (Val := Elt Ideal) (e' := .bf16) x0 (Rect.unit (s := S128x1024) ![0, 128] ![128, 128] (by decide)) : Vec Ideal S128x128 .bf16) (View.ld (Val := Elt Ideal) (e' := .bf16) x3 (Rect.unit (s := S2048x1024) (k0_off2 i) ![256, 128] (k0_off2_inb i)) : Vec Ideal S256x128 .bf16) (View.ld (Val := Elt Ideal) (e' := .bf16) x4 (Rect.unit (s := S2048x1024) (k0_off2 i) ![256, 128] (k0_off2_inb i)) : Vec Ideal S256x128 .bf16)⟩,
    ⟨(Rect.unit (s := S128x1024) ![0, 0] ![128, 128] (by decide)), diagAcc i (View.ld (Val := Elt Ideal) (e' := .bf16) x0 (Rect.unit (s := S128x1024) ![0, 0] ![128, 128] (by decide)) : Vec Ideal S128x128 .bf16) (View.ld (Val := Elt Ideal) (e' := .bf16) x3 (Rect.unit (s := S2048x1024) (k0_off1 i) ![256, 128] (k0_off1_inb i)) : Vec Ideal S256x128 .bf16) (View.ld (Val := Elt Ideal) (e' := .bf16) x4 (Rect.unit (s := S2048x1024) (k0_off1 i) ![256, 128] (k0_off1_inb i)) : Vec Ideal S256x128 .bf16)⟩]

/-- The stores of the running logarithms of the query's own block, the last head first. -/
def diag7 (i : grid0.Coords) (x0 : Vec Ideal S128x1024 .bf16) (x3 : Vec Ideal S2048x1024 .bf16) : List (View.Piece (Elt Ideal) S8x128x256 .f32) :=
  [⟨(Rect.unit (s := S8x128x256) ![7, 0, 0] ![1, 128, 256] (by decide)), diagRun i (View.ld (Val := Elt Ideal) (e' := .bf16) x0 (Rect.unit (s := S128x1024) ![0, 896] ![128, 128] (by decide)) : Vec Ideal S128x128 .bf16) (View.ld (Val := Elt Ideal) (e' := .bf16) x3 (Rect.unit (s := S2048x1024) (k0_off8 i) ![256, 128] (k0_off8_inb i)) : Vec Ideal S256x128 .bf16)⟩,
    ⟨(Rect.unit (s := S8x128x256) ![6, 0, 0] ![1, 128, 256] (by decide)), diagRun i (View.ld (Val := Elt Ideal) (e' := .bf16) x0 (Rect.unit (s := S128x1024) ![0, 768] ![128, 128] (by decide)) : Vec Ideal S128x128 .bf16) (View.ld (Val := Elt Ideal) (e' := .bf16) x3 (Rect.unit (s := S2048x1024) (k0_off7 i) ![256, 128] (k0_off7_inb i)) : Vec Ideal S256x128 .bf16)⟩,
    ⟨(Rect.unit (s := S8x128x256) ![5, 0, 0] ![1, 128, 256] (by decide)), diagRun i (View.ld (Val := Elt Ideal) (e' := .bf16) x0 (Rect.unit (s := S128x1024) ![0, 640] ![128, 128] (by decide)) : Vec Ideal S128x128 .bf16) (View.ld (Val := Elt Ideal) (e' := .bf16) x3 (Rect.unit (s := S2048x1024) (k0_off6 i) ![256, 128] (k0_off6_inb i)) : Vec Ideal S256x128 .bf16)⟩,
    ⟨(Rect.unit (s := S8x128x256) ![4, 0, 0] ![1, 128, 256] (by decide)), diagRun i (View.ld (Val := Elt Ideal) (e' := .bf16) x0 (Rect.unit (s := S128x1024) ![0, 512] ![128, 128] (by decide)) : Vec Ideal S128x128 .bf16) (View.ld (Val := Elt Ideal) (e' := .bf16) x3 (Rect.unit (s := S2048x1024) (k0_off5 i) ![256, 128] (k0_off5_inb i)) : Vec Ideal S256x128 .bf16)⟩,
    ⟨(Rect.unit (s := S8x128x256) ![3, 0, 0] ![1, 128, 256] (by decide)), diagRun i (View.ld (Val := Elt Ideal) (e' := .bf16) x0 (Rect.unit (s := S128x1024) ![0, 384] ![128, 128] (by decide)) : Vec Ideal S128x128 .bf16) (View.ld (Val := Elt Ideal) (e' := .bf16) x3 (Rect.unit (s := S2048x1024) (k0_off4 i) ![256, 128] (k0_off4_inb i)) : Vec Ideal S256x128 .bf16)⟩,
    ⟨(Rect.unit (s := S8x128x256) ![2, 0, 0] ![1, 128, 256] (by decide)), diagRun i (View.ld (Val := Elt Ideal) (e' := .bf16) x0 (Rect.unit (s := S128x1024) ![0, 256] ![128, 128] (by decide)) : Vec Ideal S128x128 .bf16) (View.ld (Val := Elt Ideal) (e' := .bf16) x3 (Rect.unit (s := S2048x1024) (k0_off3 i) ![256, 128] (k0_off3_inb i)) : Vec Ideal S256x128 .bf16)⟩,
    ⟨(Rect.unit (s := S8x128x256) ![1, 0, 0] ![1, 128, 256] (by decide)), diagRun i (View.ld (Val := Elt Ideal) (e' := .bf16) x0 (Rect.unit (s := S128x1024) ![0, 128] ![128, 128] (by decide)) : Vec Ideal S128x128 .bf16) (View.ld (Val := Elt Ideal) (e' := .bf16) x3 (Rect.unit (s := S2048x1024) (k0_off2 i) ![256, 128] (k0_off2_inb i)) : Vec Ideal S256x128 .bf16)⟩,
    ⟨(Rect.unit (s := S8x128x256) ![0, 0, 0] ![1, 128, 256] (by decide)), diagRun i (View.ld (Val := Elt Ideal) (e' := .bf16) x0 (Rect.unit (s := S128x1024) ![0, 0] ![128, 128] (by decide)) : Vec Ideal S128x128 .bf16) (View.ld (Val := Elt Ideal) (e' := .bf16) x3 (Rect.unit (s := S2048x1024) (k0_off1 i) ![256, 128] (k0_off1_inb i)) : Vec Ideal S256x128 .bf16)⟩]

variable (m : (ℓ : Loc nD τ sig) → Buf (Elt Ideal) ℓ) (c : Dev nD)

/-- The second loop makes no trips. -/
theorem trips2 : ∀ t : Fin cfg0.N, (k0_t2_loop (grid0.coords t)).trips = 0 := by decide +kernel

/-- What a grid point leaves in its block: the sums stored by the loop over those stored for the query's own block, read back. -/
theorem outs (t : Fin cfg0.N) : ∃ (v46 : BitVec 32) (j6 : BufTy.Contents (Elt Ideal) scM0_0.view.ty) (j7 : BufTy.Contents (Elt Ideal) scM0_1.view.ty),
    outsAt0 m c t = k0_pay8 (View.canon ((pb_k0_t1 (F := Ideal) Variants.none c none (grid0.coords t) (ms0_0 t) (hs0_0 t) (ms0_1 t) (hs0_1 t) (ms0_2 t) (hs0_2 t) (ms0_3 t) (hs0_3 t)
      scM0_0 (Memref.isWhole_whole _) scM0_1 (Memref.isWhole_whole _) k0_pay121 (View.ld (Val := Elt Ideal) (e' := .bf16) (iblk m c 0 t) (Rect.unit (s := S128x1024) ![0, 0] ![128, 128] (by decide)) : Vec Ideal S128x128 .bf16) (View.ld (Val := Elt Ideal) (e' := .bf16) (iblk m c 0 t) (Rect.unit (s := S128x1024) ![0, 128] ![128, 128] (by decide)) : Vec Ideal S128x128 .bf16) (View.ld (Val := Elt Ideal) (e' := .bf16) (iblk m c 0 t) (Rect.unit (s := S128x1024) ![0, 256] ![128, 128] (by decide)) : Vec Ideal S128x128 .bf16) (View.ld (Val := Elt Ideal) (e' := .bf16) (iblk m c 0 t) (Rect.unit (s := S128x1024) ![0, 384] ![128, 128] (by decide)) : Vec Ideal S128x128 .bf16) (View.ld (Val := Elt Ideal) (e' := .bf16) (iblk m c 0 t) (Rect.unit (s := S128x1024) ![0, 512] ![128, 128] (by decide)) : Vec Ideal S128x128 .bf16) (View.ld (Val := Elt Ideal) (e' := .bf16) (iblk m c 0 t) (Rect.unit (s := S128x1024) ![0, 640] ![128, 128] (by decide)) : Vec Ideal S128x128 .bf16) (View.ld (Val := Elt Ideal) (e' := .bf16) (iblk m c 0 t) (Rect.unit (s := S128x1024) ![0, 768] ![128, 128] (by decide)) : Vec Ideal S128x128 .bf16) (View.ld (Val := Elt Ideal) (e' := .bf16) (iblk m c 0 t) (Rect.unit (s := S128x1024) ![0, 896] ![128, 128] (by decide)) : Vec Ideal S128x128 .bf16) v46 ((hs0_1 t).unread (iblk m c 1 t)) ((hs0_2 t).unread (iblk m c 2 t))
      (scM0_0.view.writes (Elt Ideal) j6 (diag6 (grid0.coords t) (iblk m c 0 t) (iblk m c 1 t) (iblk m c 2 t))) (scM0_1.view.writes (Elt Ideal) j7 (diag7 (grid0.coords t) (iblk m c 0 t) (iblk m c 1 t)))
      (k0_t1_loop (grid0.coords t)).trips).1 ++ diag6 (grid0.coords t) (iblk m c 0 t) (iblk m c 1 t) (iblk m c 2 t))) := by
  unfold outsAt0
  unfold out0_A_3
  frame_out
  have h2 := trips2 t
  change Scf.trips _ _ _ = 0 at h2
  rw [h2]
  apply Exists.intro
  apply Exists.intro
  apply Exists.intro
  change k0_pay8 (View.canon ([] ++ _)) = _
  rw [List.nil_append]
  rfl

end Cert.SbIdeal.Sb
-- ==== Proof.SbHead.lean ====
/-
  One head of one block of keys: the kernel's values are those of `Stick.lean`.
-/
module

public import proofs.«01_k».proof.Proof.SbBody

@[expose] public section

set_option maxRecDepth 16384

noncomputable section

open Idealize.ShloMosaic Idealize.ShloMosaic.TcCoe Idealize.SL.Sem

namespace Cert.SbIdeal.Sb

open Cert.SbIdeal Cert.SbIdeal.Gen

/-- `incl_at` with row and column named. -/
theorem incl_ix (v5 : FVec Ideal S256x256 .bf16) (x : FVec Ideal S128x256 .f32) (i : Fin 128) (s : Fin 256) :
    k0_pay34 v5 x (ix2 i s) = (∑ k : Fin 256, (x (ix2 i k) : EReal) * (v5 (ix2 k s) : EReal)) + ∑ k : Fin 256, ((x (ix2 i k) : EReal) - (x (ix2 i k) : EReal)) * (v5 (ix2 k s) : EReal) := incl_at v5 x (ix2 i s)

/-- Within a block before the query the sums are those of the logarithms from each key to the block's end. -/
theorem stepIncl_at (Z : ℕ → EReal) (hZ : ∀ k, ∃ r : ℝ, Z k = r) (b q : ℕ) (hq : 256 * b + 256 ≤ q) (z : FVec Ideal S128x256 .f32) (i : Fin 128)
    (hz : ∀ k : Fin 256, z (ix2 i k) = Z (256 * b + k.val)) (s : Fin 256) :
    stepIncl k0_pay121 z (ix2 i s) = ∑ k ∈ Finset.Ico (256 * b + s.val) (256 * b + 256), Stick.L Z q k := by
  rw [← Stick.tri_sum (Stick.L Z q) (Stick.L_real hZ q) b s.val s.isLt]
  unfold stepIncl
  rw [incl_ix]
  have e : ∀ k : Fin 256, k0_pay27 z (k0_pay18 z) (ix2 i k) = Stick.L Z q (256 * b + k.val) := fun k => by
    rw [l_at, hz]
    exact (if_pos (by omega)).symm
  have t : ∀ k : Fin 256, (k0_pay121 (F := Ideal)) (ix2 k s) = if s.val ≤ k.val then (1 : EReal) else 0 := fun k => tri_at _
  simp only [e, t]

/-- A key comes before the query, in positions of the sequence. -/
theorem mask_word (t : grid0.Coords) (i : Fin 128) (k : Fin 256) :
    k0_pay122 t (ix2 i k) = BitVec.ofBool (decide (256 * ((t 1).val / 2) + k.val < 128 * (t 1).val + i.val)) := by
  rw [mask_at]
  show BitVec.ofBool (decide (k.val < i.val + (t 1).val % 2 * 128)) = _
  congr 2
  exact propext (by omega)

/-- Within the query's own block the sums are those of the logarithms from each key on. -/
theorem diagIncl_at (Z : ℕ → EReal) (hZ : ∀ k, ∃ r : ℝ, Z k = r) (t : grid0.Coords) (z : FVec Ideal S128x256 .f32) (i : Fin 128)
    (hz : ∀ k : Fin 256, z (ix2 i k) = Z (256 * ((t 1).val / 2) + k.val)) (s : Fin 256) :
    diagIncl t z (ix2 i s) = ∑ k ∈ Finset.Ico (256 * ((t 1).val / 2) + s.val) (256 * ((t 1).val / 2) + 256), Stick.L Z (128 * (t 1).val + i.val) k := by
  rw [← Stick.tri_sum (Stick.L Z _) (Stick.L_real hZ _) _ s.val s.isLt]
  unfold diagIncl
  rw [incl_ix]
  have e : ∀ k : Fin 256, k0_pay147 (k0_pay122 t) z (k0_pay141 z) (ix2 i k) = Stick.L Z (128 * (t 1).val + i.val) (256 * ((t 1).val / 2) + k.val) := fun k => by
    rw [ld_at, hz, mask_word]
    unfold Stick.L
    split
    · next h => rw [decide_eq_true h]; rfl
    · next h => rw [decide_eq_false h]; rfl
  have t' : ∀ k : Fin 256, (k0_pay121 (F := Ideal)) (ix2 k s) = if s.val ≤ k.val then (1 : EReal) else 0 := fun k => tri_at _
  simp only [e, t']

/-- One more block extends the weighted sum of one head down to that block's first key. -/
theorem stepAcc_at (Z W : ℕ → EReal) (hZ : ∀ k, ∃ r : ℝ, Z k = r) (b q : ℕ) (hb : b < 8) (hq : 256 * b + 256 ≤ q) (Q : Vec Ideal S128x128 .bf16) (K V : Vec Ideal S256x128 .bf16)
    (run : Vec Ideal S1x128x256 .f32) (acc : Vec Ideal S128x128 .f32) (i e : Fin 128)
    (hz : ∀ k : Fin 256, k0_pay9 Q K (ix2 i k) = Z (256 * b + k.val)) (hV : ∀ k : Fin 256, V (ix2 k e) = W (256 * b + k.val))
    (hrun : ∀ k : Fin 256, run (ix3 0 i k) = Stick.S Z q (256 * (b + 1)))
    (hacc : acc (ix2 i e) = ∑ k ∈ Finset.Ico (256 * (b + 1)) 2048, Stick.A Z q k * W k) :
    stepAcc k0_pay121 Q K V run acc (ix2 i e) = ∑ k ∈ Finset.Ico (256 * b) 2048, Stick.A Z q k * W k := by
  rw [← Stick.acc_split (fun k => Stick.A Z q k * W k) b hb]
  unfold stepAcc
  rw [acc_at, hacc]
  refine congrArg (_ + ·) (Finset.sum_congr rfl fun k _ => ?_)
  show Ideal.exp (k0_pay9 Q K (ix2 i k) + stepIncl k0_pay121 (k0_pay9 Q K) (ix2 i k) + run (ix3 0 i k)) * V (ix2 k e) = _
  rw [stepIncl_at Z hZ b q hq _ i hz k, hz, hV, hrun, add_assoc, Stick.S_split Z q b k.val k.isLt hb]
  refine congrArg (· * _) ?_
  exact (if_pos (by omega)).symm

/-- One more block extends the running logarithm down to that block's first key. -/
theorem stepRun_at (Z : ℕ → EReal) (hZ : ∀ k, ∃ r : ℝ, Z k = r) (b q : ℕ) (hb : b < 8) (hq : 256 * b + 256 ≤ q) (Q : Vec Ideal S128x128 .bf16) (K : Vec Ideal S256x128 .bf16)
    (run : Vec Ideal S1x128x256 .f32) (u : Fin 1) (i : Fin 128) (s : Fin 256)
    (hz : ∀ k : Fin 256, k0_pay9 Q K (ix2 i k) = Z (256 * b + k.val))
    (hrun : run (ix3 u i s) = Stick.S Z q (256 * (b + 1))) :
    stepRun k0_pay121 Q K run (ix3 u i s) = Stick.S Z q (256 * b) := by
  unfold stepRun
  rw [run_at, hrun]
  show _ + stepIncl k0_pay121 (k0_pay9 Q K) (ix2 i 0) = _
  rw [stepIncl_at Z hZ b q hq _ i hz 0, add_comm]
  exact Stick.S_split Z q b 0 (by norm_num) hb

/-- The query's own block gives the weighted sum from its first key on: later keys weigh nothing. -/
theorem diagAcc_at (Z W : ℕ → EReal) (hZ : ∀ k, ∃ r : ℝ, Z k = r) (t : grid0.Coords) (Q : Vec Ideal S128x128 .bf16) (K V : Vec Ideal S256x128 .bf16) (i e : Fin 128)
    (hz : ∀ k : Fin 256, k0_pay9 Q K (ix2 i k) = Z (256 * ((t 1).val / 2) + k.val)) (hV : ∀ k : Fin 256, V (ix2 k e) = W (256 * ((t 1).val / 2) + k.val)) :
    diagAcc t Q K V (ix2 i e) = ∑ k ∈ Finset.Ico (256 * ((t 1).val / 2)) 2048, Stick.A Z (128 * (t 1).val + i.val) k * W k := by
  have hn : (t 1).val < 16 := (t 1).isLt
  rw [← Stick.acc_split (fun k => Stick.A Z (128 * (t 1).val + i.val) k * W k) ((t 1).val / 2) (by omega)]
  rw [Finset.sum_eq_zero (s := Finset.Ico _ _) (fun k hk => by
    rw [Finset.mem_Ico] at hk
    show Stick.A Z (128 * (t 1).val + i.val) k * W k = 0
    unfold Stick.A
    rw [if_neg (by omega), zero_mul]), zero_add]
  unfold diagAcc
  rw [accd_at]
  refine Finset.sum_congr rfl fun k _ => ?_
  show Scalar.select (k0_pay122 t (ix2 i k)) (Ideal.exp (k0_pay9 Q K (ix2 i k) + diagIncl t (k0_pay9 Q K) (ix2 i k))) 0 * V (ix2 k e) = _
  have h := Stick.S_split Z (128 * (t 1).val + i.val) ((t 1).val / 2) k.val k.isLt (by omega)
  rw [Stick.S_past Z _ (256 * ((t 1).val / 2 + 1)) (by omega), add_zero] at h
  rw [diagIncl_at Z hZ t _ i hz k, hz, hV, mask_word, h]
  refine congrArg (· * _) ?_
  unfold Stick.A
  split
  · next h => rw [decide_eq_true h]; rfl
  · next h => rw [decide_eq_false h]; rfl

/-- The query's own block gives the running logarithm from its first key on. -/
theorem diagRun_at (Z : ℕ → EReal) (hZ : ∀ k, ∃ r : ℝ, Z k = r) (t : grid0.Coords) (Q : Vec Ideal S128x128 .bf16) (K : Vec Ideal S256x128 .bf16)
    (u : Fin 1) (i : Fin 128) (s : Fin 256)
    (hz : ∀ k : Fin 256, k0_pay9 Q K (ix2 i k) = Z (256 * ((t 1).val / 2) + k.val)) :
    diagRun t Q K (ix3 u i s) = Stick.S Z (128 * (t 1).val + i.val) (256 * ((t 1).val / 2)) := by
  have hn : (t 1).val < 16 := (t 1).isLt
  unfold diagRun
  rw [rund_at]
  show diagIncl t (k0_pay9 Q K) (ix2 i 0) = _
  have h := Stick.S_split Z (128 * (t 1).val + i.val) ((t 1).val / 2) 0 (by norm_num) (by omega)
  rw [Stick.S_past Z _ (256 * ((t 1).val / 2 + 1)) (by omega), add_zero] at h
  rw [diagIncl_at Z hZ t _ i hz 0]
  exact h

/-- An array's entry by naturals, zero outside it. -/
def at2 {a b : ℕ} (x : (⟨2, ![a, b]⟩ : Shape).Idx → EReal) (r c : ℕ) : EReal := if h : r < a ∧ c < b then x (ix2 ⟨r, h.1⟩ ⟨c, h.2⟩) else 0

/-- The row of scores of query row `i` and head `h`. -/
def zr (x0 : Vec Ideal S128x1024 .bf16) (x3 : Vec Ideal S2048x1024 .bf16) (i h k : ℕ) : EReal :=
  (∑ e : Fin 128, at2 x0 i (128 * h + e.val) * at2 x3 k (128 * h + e.val)) * Ideal.ofBits .f32 0x3DB504F3#32

/-- A head's queries, loaded from the block of queries. -/
theorem ld_q (x0 : Vec Ideal S128x1024 .bf16) (p : ℕ) (hb) (i : Fin 128) (e : Fin 128) :
    (View.ld (Val := Elt Ideal) (e' := .bf16) x0 (Rect.unit (s := S128x1024) ![0, p] ![128, 128] hb) : Vec Ideal S128x128 .bf16) (ix2 i e) = at2 x0 i.val (p + e.val) := by
  have h1 : p + 128 ≤ 1024 := hb 1
  unfold at2
  rw [dif_pos ⟨i.isLt, by omega⟩]
  exact View.ld_unit_apply_of _ _ _ _ _ _ fun a => by
    match a with
    | 0 => exact (Nat.zero_add _).symm
    | 1 => rfl

/-- A head's keys or values of one key block, loaded from the sequence's. -/
theorem ld_k (x3 : Vec Ideal S2048x1024 .bf16) (o : Fin 2 → ℕ) (p r : ℕ) (ho : o = ![r, p]) (hb) (k : Fin 256) (e : Fin 128) :
    (View.ld (Val := Elt Ideal) (e' := .bf16) x3 (Rect.unit (s := S2048x1024) o ![256, 128] hb) : Vec Ideal S256x128 .bf16) (ix2 k e) = at2 x3 (r + k.val) (p + e.val) := by
  subst ho
  have h0 : r + 256 ≤ 2048 := hb 0
  have h1 : p + 128 ≤ 1024 := hb 1
  unfold at2
  rw [dif_pos ⟨by omega, by omega⟩]
  exact View.ld_unit_apply_of _ _ _ _ _ _ fun a => by
    match a with
    | 0 => rfl
    | 1 => rfl

/-- A head's block of scores is a stretch of the row of scores. -/
theorem pay9_zr (x0 : Vec Ideal S128x1024 .bf16) (x3 : Vec Ideal S2048x1024 .bf16) (h : ℕ) (p : ℕ) (hp : p = 128 * h) (hbq) (o : Fin 2 → ℕ) (r : ℕ) (ho : o = ![r, p]) (hbk) (i : Fin 128) (k : Fin 256) :
    k0_pay9 (View.ld (Val := Elt Ideal) (e' := .bf16) x0 (Rect.unit (s := S128x1024) ![0, p] ![128, 128] hbq) : Vec Ideal S128x128 .bf16)
      (View.ld (Val := Elt Ideal) (e' := .bf16) x3 (Rect.unit (s := S2048x1024) o ![256, 128] hbk) : Vec Ideal S256x128 .bf16) (ix2 i k)
      = zr x0 x3 i.val h (r + k.val) := by
  rw [z_at]
  subst hp
  refine congrArg (· * _) (Finset.sum_congr rfl fun e _ => ?_)
  exact congrArg₂ (· * ·) (ld_q x0 _ hbq i e) (ld_k x3 o _ r ho hbk k e)

/-- The loop visits the key blocks before the query's own. -/
theorem trips1 : ∀ t : Fin cfg0.N, (k0_t1_loop (grid0.coords t)).trips = (grid0.coords t 1).val / 2 := by decide +kernel

/-- Where the query's own key block is loaded, head by head. -/
theorem offD : ∀ t : Fin cfg0.N, k0_off1 (grid0.coords t) = ![256 * ((grid0.coords t 1).val / 2), 0] ∧ k0_off2 (grid0.coords t) = ![256 * ((grid0.coords t 1).val / 2), 128]
    ∧ k0_off3 (grid0.coords t) = ![256 * ((grid0.coords t 1).val / 2), 256] ∧ k0_off4 (grid0.coords t) = ![256 * ((grid0.coords t 1).val / 2), 384]
    ∧ k0_off5 (grid0.coords t) = ![256 * ((grid0.coords t 1).val / 2), 512] ∧ k0_off6 (grid0.coords t) = ![256 * ((grid0.coords t 1).val / 2), 640]
    ∧ k0_off7 (grid0.coords t) = ![256 * ((grid0.coords t 1).val / 2), 768] ∧ k0_off8 (grid0.coords t) = ![256 * ((grid0.coords t 1).val / 2), 896] := by decide +kernel

/-- Where the key block of a trip is loaded, head by head: the blocks are visited backwards. -/
theorem offL : ∀ (t : Fin cfg0.N) (k : Fin (k0_t1_loop (grid0.coords t)).trips), k0_off9 (grid0.coords t) k = ![256 * ((grid0.coords t 1).val / 2 - 1 - k.val), 0] ∧ k0_off10 (grid0.coords t) k = ![256 * ((grid0.coords t 1).val / 2 - 1 - k.val), 128]
    ∧ k0_off11 (grid0.coords t) k = ![256 * ((grid0.coords t 1).val / 2 - 1 - k.val), 256] ∧ k0_off12 (grid0.coords t) k = ![256 * ((grid0.coords t 1).val / 2 - 1 - k.val), 384]
    ∧ k0_off13 (grid0.coords t) k = ![256 * ((grid0.coords t 1).val / 2 - 1 - k.val), 512] ∧ k0_off14 (grid0.coords t) k = ![256 * ((grid0.coords t 1).val / 2 - 1 - k.val), 640]
    ∧ k0_off15 (grid0.coords t) k = ![256 * ((grid0.coords t 1).val / 2 - 1 - k.val), 768] ∧ k0_off16 (grid0.coords t) k = ![256 * ((grid0.coords t 1).val / 2 - 1 - k.val), 896] := by decide +kernel

end Cert.SbIdeal.Sb
-- ==== Proof.SbLoop.lean ====
/-
  The loop over the key blocks, from the query's own backwards: what the scratch buffers hold after each.
-/
module

public import proofs.«01_k».proof.Proof.SbHead
public import Idealize.ShloMosaic.Lib.Pipeline.ReadBack

@[expose] public section

set_option maxRecDepth 16384

noncomputable section

open Idealize.ShloMosaic Idealize.ShloMosaic.TcCoe Idealize.SL.Sem

namespace Cert.SbIdeal.Sb

open Cert.SbIdeal Cert.SbIdeal.Gen

/-- The weighted values from key block `b` on, for every row and column of query block `n`. -/
def inv6 (x0 : Vec Ideal S128x1024 .bf16) (x3 x4 : Vec Ideal S2048x1024 .bf16) (n b : ℕ) (y : S128x1024.Idx) : EReal :=
  ∑ k ∈ Finset.Ico (256 * b) 2048, Stick.A (zr x0 x3 (y 0).val ((y 1).val / 128)) (128 * n + (y 0).val) k * at2 x4 k (y 1).val

/-- The running logarithms from key block `b` on, by head and row of query block `n`; the last axis holds copies. -/
def inv7 (x0 : Vec Ideal S128x1024 .bf16) (x3 : Vec Ideal S2048x1024 .bf16) (n b : ℕ) (y : S8x128x256.Idx) : EReal :=
  Stick.S (zr x0 x3 (y 1).val (y 0).val) (128 * n + (y 1).val) (256 * b)

/-- Where an entry of a head's columns lies in the accumulator. -/
theorem emb6 (p : ℕ) (hb) (x : (Rect.unit (s := S128x1024) ![0, p] ![128, 128] hb).shape.Idx) :
    (((Rect.unit (s := S128x1024) ![0, p] ![128, 128] hb).emb x) 0).val = (x 0).val ∧ (((Rect.unit (s := S128x1024) ![0, p] ![128, 128] hb).emb x) 1).val = p + (x 1).val :=
  ⟨(ValueKit.rect_emb_unit_val _ _ _ x 0).trans (Nat.zero_add _), ValueKit.rect_emb_unit_val _ _ _ x 1⟩

/-- Where an entry of a head's plane lies in the running logarithms. -/
theorem emb7 (h : ℕ) (hb) (x : (Rect.unit (s := S8x128x256) ![h, 0, 0] ![1, 128, 256] hb).shape.Idx) :
    (((Rect.unit (s := S8x128x256) ![h, 0, 0] ![1, 128, 256] hb).emb x) 0).val = h ∧ (((Rect.unit (s := S8x128x256) ![h, 0, 0] ![1, 128, 256] hb).emb x) 1).val = (x 1).val := by
  have h0 : (x 0).val < 1 := (x 0).isLt
  have e0 := ValueKit.rect_emb_unit_val _ _ hb x 0
  refine ⟨?_, (ValueKit.rect_emb_unit_val _ _ _ x 1).trans (Nat.zero_add _)⟩
  rw [e0]
  show h + (x 0).val = h
  omega

/-- A column of a head lies in that head's columns. -/
theorem mem6 (p : ℕ) (hb) (y : S128x1024.Idx) (h : p ≤ (y 1).val ∧ (y 1).val < p + 128) : y ∈ (Rect.unit (s := S128x1024) ![0, p] ![128, 128] hb).set :=
  Rect.mem_set_unit.mpr fun a => by
    match a with
    | 0 => exact ⟨Nat.zero_le _, lt_of_lt_of_eq (y 0).isLt (Nat.zero_add _).symm⟩
    | 1 => exact h

/-- A plane of a head lies in that head's rectangle. -/
theorem mem7 (p : ℕ) (hb) (y : S8x128x256.Idx) (h : p ≤ (y 0).val ∧ (y 0).val < p + 1) : y ∈ (Rect.unit (s := S8x128x256) ![p, 0, 0] ![1, 128, 256] hb).set :=
  Rect.mem_set_unit.mpr fun a => by
    match a with
    | 0 => exact h
    | 1 => exact ⟨Nat.zero_le _, lt_of_lt_of_eq (y 1).isLt (Nat.zero_add _).symm⟩
    | 2 => exact ⟨Nat.zero_le _, lt_of_lt_of_eq (y 2).isLt (Nat.zero_add _).symm⟩

section
variable (x0 : Vec Ideal S128x1024 .bf16) (x3 x4 : Vec Ideal S2048x1024 .bf16) (hz : ∀ i h k, ∃ r : ℝ, zr x0 x3 i h k = r)
include hz

/-- What the query's own block stores for a head is `inv6` there. -/
theorem diag6_piece (t : grid0.Coords) (h p : ℕ) (hp : p = 128 * h) (hbq) (o : Fin 2 → ℕ) (ho : o = ![256 * ((t 1).val / 2), p]) (hbk)
    (x : (Rect.unit (s := S128x1024) ![0, p] ![128, 128] hbq).shape.Idx) :
    diagAcc t (View.ld (Val := Elt Ideal) (e' := .bf16) x0 (Rect.unit (s := S128x1024) ![0, p] ![128, 128] hbq) : Vec Ideal S128x128 .bf16)
      (View.ld (Val := Elt Ideal) (e' := .bf16) x3 (Rect.unit (s := S2048x1024) o ![256, 128] hbk) : Vec Ideal S256x128 .bf16)
      (View.ld (Val := Elt Ideal) (e' := .bf16) x4 (Rect.unit (s := S2048x1024) o ![256, 128] hbk) : Vec Ideal S256x128 .bf16) x
      = inv6 x0 x3 x4 (t 1).val ((t 1).val / 2) ((Rect.unit (s := S128x1024) ![0, p] ![128, 128] hbq).emb x) := by
  obtain ⟨e0, e1⟩ := emb6 p hbq x
  have hx : (x 1).val < 128 := (x 1).isLt
  have hh : (p + (x 1).val) / 128 = h := by omega
  unfold inv6
  rw [e0, e1, hh]
  refine (congrArg _ (ValueIdx.eq_ix2 (n0 := 128) (n1 := 128) x)).trans ?_
  exact diagAcc_at (zr x0 x3 (x 0).val h) (fun k => at2 x4 k (p + (x 1).val)) (hz _ _) t _ _ _ (x 0) (x 1)
    (fun k => pay9_zr x0 x3 h p hp hbq o _ ho hbk (x 0) k) (fun k => ld_k x4 o p _ ho hbk k (x 1))

/-- What the query's own block stores for a head is `inv7` there. -/
theorem diag7_piece (t : grid0.Coords) (h p : ℕ) (hp : p = 128 * h) (hbq) (o : Fin 2 → ℕ) (ho : o = ![256 * ((t 1).val / 2), p]) (hbk) (hb7)
    (x : (Rect.unit (s := S8x128x256) ![h, 0, 0] ![1, 128, 256] hb7).shape.Idx) :
    diagRun t (View.ld (Val := Elt Ideal) (e' := .bf16) x0 (Rect.unit (s := S128x1024) ![0, p] ![128, 128] hbq) : Vec Ideal S128x128 .bf16)
      (View.ld (Val := Elt Ideal) (e' := .bf16) x3 (Rect.unit (s := S2048x1024) o ![256, 128] hbk) : Vec Ideal S256x128 .bf16) x
      = inv7 x0 x3 (t 1).val ((t 1).val / 2) ((Rect.unit (s := S8x128x256) ![h, 0, 0] ![1, 128, 256] hb7).emb x) := by
  obtain ⟨e0, e1⟩ := emb7 h hb7 x
  unfold inv7
  rw [e0, e1]
  refine (congrArg _ (ValueIdx.eq_ix3 (n0 := 1) (n1 := 128) (n2 := 256) x)).trans ?_
  exact diagRun_at (zr x0 x3 (x 1).val h) (hz _ _) t _ _ (x 0) (x 1) (x 2) (fun k => pay9_zr x0 x3 h p hp hbq o _ ho hbk (x 1) k)

/-- From `inv6` and `inv7` at a block, what the block before it stores for a head is `inv6` there. -/
theorem step6_piece (n b : ℕ) (hb8 : b < 8) (hq : 256 * b + 256 ≤ 128 * n) (f6 : S128x1024.Idx → EReal) (f7 : S8x128x256.Idx → EReal)
    (h6 : ∀ y, f6 y = inv6 x0 x3 x4 n (b + 1) y) (h7 : ∀ y, f7 y = inv7 x0 x3 n (b + 1) y)
    (h p : ℕ) (hp : p = 128 * h) (hbq) (o : Fin 2 → ℕ) (ho : o = ![256 * b, p]) (hbk) (hb7)
    (x : (Rect.unit (s := S128x1024) ![0, p] ![128, 128] hbq).shape.Idx) :
    stepAcc k0_pay121 (View.ld (Val := Elt Ideal) (e' := .bf16) x0 (Rect.unit (s := S128x1024) ![0, p] ![128, 128] hbq) : Vec Ideal S128x128 .bf16)
      (View.ld (Val := Elt Ideal) (e' := .bf16) x3 (Rect.unit (s := S2048x1024) o ![256, 128] hbk) : Vec Ideal S256x128 .bf16)
      (View.ld (Val := Elt Ideal) (e' := .bf16) x4 (Rect.unit (s := S2048x1024) o ![256, 128] hbk) : Vec Ideal S256x128 .bf16)
      (View.ld (Val := Elt Ideal) (e' := .f32) f7 (Rect.unit (s := S8x128x256) ![h, 0, 0] ![1, 128, 256] hb7) : Vec Ideal S1x128x256 .f32)
      (View.ld (Val := Elt Ideal) (e' := .f32) f6 (Rect.unit (s := S128x1024) ![0, p] ![128, 128] hbq) : Vec Ideal S128x128 .f32) x
      = inv6 x0 x3 x4 n b ((Rect.unit (s := S128x1024) ![0, p] ![128, 128] hbq).emb x) := by
  obtain ⟨e0, e1⟩ := emb6 p hbq x
  have hx : (x 1).val < 128 := (x 1).isLt
  have hh : (p + (x 1).val) / 128 = h := by omega
  have ha : (View.ld (Val := Elt Ideal) (e' := .f32) f6 (Rect.unit (s := S128x1024) ![0, p] ![128, 128] hbq) : Vec Ideal S128x128 .f32) x
      = ∑ k ∈ Finset.Ico (256 * (b + 1)) 2048, Stick.A (zr x0 x3 (x 0).val h) (128 * n + (x 0).val) k * at2 x4 k (p + (x 1).val) := by
    refine (h6 ((Rect.unit (s := S128x1024) ![0, p] ![128, 128] hbq).emb x)).trans ?_
    unfold inv6
    rw [e0, e1, hh]
  have hr : ∀ k : Fin 256, (View.ld (Val := Elt Ideal) (e' := .f32) f7 (Rect.unit (s := S8x128x256) ![h, 0, 0] ![1, 128, 256] hb7) : Vec Ideal S1x128x256 .f32) (ix3 0 (x 0) k)
      = Stick.S (zr x0 x3 (x 0).val h) (128 * n + (x 0).val) (256 * (b + 1)) := fun k => by
    refine (h7 ((Rect.unit (s := S8x128x256) ![h, 0, 0] ![1, 128, 256] hb7).emb (ix3 0 (x 0) k))).trans ?_
    obtain ⟨e2, e3⟩ := emb7 h hb7 (ix3 0 (x 0) k)
    unfold inv7
    rw [e2, e3]
    rfl
  unfold inv6
  rw [e0, e1, hh]
  have ex := ValueIdx.eq_ix2 (n0 := 128) (n1 := 128) x
  refine (congrArg _ ex).trans ?_
  exact stepAcc_at (zr x0 x3 (x 0).val h) (fun k => at2 x4 k (p + (x 1).val)) (hz _ _) b (128 * n + (x 0).val) hb8 (by omega) _ _ _ _ _ (x 0) (x 1)
    (fun k => pay9_zr x0 x3 h p hp hbq o _ ho hbk (x 0) k) (fun k => ld_k x4 o p _ ho hbk k (x 1)) hr ((congrArg _ ex.symm).trans ha)

/-- From `inv7` at a block, what the block before it stores for a head is `inv7` there. -/
theorem step7_piece (n b : ℕ) (hb8 : b < 8) (hq : 256 * b + 256 ≤ 128 * n) (f7 : S8x128x256.Idx → EReal)
    (h7 : ∀ y, f7 y = inv7 x0 x3 n (b + 1) y)
    (h p : ℕ) (hp : p = 128 * h) (hbq) (o : Fin 2 → ℕ) (ho : o = ![256 * b, p]) (hbk) (hb7)
    (x : (Rect.unit (s := S8x128x256) ![h, 0, 0] ![1, 128, 256] hb7).shape.Idx) :
    stepRun k0_pay121 (View.ld (Val := Elt Ideal) (e' := .bf16) x0 (Rect.unit (s := S128x1024) ![0, p] ![128, 128] hbq) : Vec Ideal S128x128 .bf16)
      (View.ld (Val := Elt Ideal) (e' := .bf16) x3 (Rect.unit (s := S2048x1024) o ![256, 128] hbk) : Vec Ideal S256x128 .bf16)
      (View.ld (Val := Elt Ideal) (e' := .f32) f7 (Rect.unit (s := S8x128x256) ![h, 0, 0] ![1, 128, 256] hb7) : Vec Ideal S1x128x256 .f32) x
      = inv7 x0 x3 n b ((Rect.unit (s := S8x128x256) ![h, 0, 0] ![1, 128, 256] hb7).emb x) := by
  obtain ⟨e0, e1⟩ := emb7 h hb7 x
  have hr : (View.ld (Val := Elt Ideal) (e' := .f32) f7 (Rect.unit (s := S8x128x256) ![h, 0, 0] ![1, 128, 256] hb7) : Vec Ideal S1x128x256 .f32) x
      = Stick.S (zr x0 x3 (x 1).val h) (128 * n + (x 1).val) (256 * (b + 1)) := by
    refine (h7 ((Rect.unit (s := S8x128x256) ![h, 0, 0] ![1, 128, 256] hb7).emb x)).trans ?_
    unfold inv7
    rw [e0, e1]
  unfold inv7
  rw [e0, e1]
  have ex := ValueIdx.eq_ix3 (n0 := 1) (n1 := 128) (n2 := 256) x
  refine (congrArg _ ex).trans ?_
  exact stepRun_at (zr x0 x3 (x 1).val h) (hz _ _) b (128 * n + (x 1).val) hb8 (by omega) _ _ _ (x 0) (x 1) (x 2)
    (fun k => pay9_zr x0 x3 h p hp hbq o _ ho hbk (x 1) k) ((congrArg _ ex.symm).trans hr)

/-- All heads' stores of weighted values for the query's own block. -/
theorem diag6_pieces (t : Fin cfg0.N) : View.PiecesOf (Val := Elt Ideal) (e := .f32) (inv6 x0 x3 x4 (grid0.coords t 1).val ((grid0.coords t 1).val / 2)) (diag6 (grid0.coords t) x0 x3 x4) := by
  have ho := offD t
  refine ⟨?_, ?_, ?_, ?_, ?_, ?_, ?_, ?_, trivial⟩
  · exact fun x => diag6_piece x0 x3 x4 hz _ 7 896 rfl (by decide) _ ho.2.2.2.2.2.2.2 _ x
  · exact fun x => diag6_piece x0 x3 x4 hz _ 6 768 rfl (by decide) _ ho.2.2.2.2.2.2.1 _ x
  · exact fun x => diag6_piece x0 x3 x4 hz _ 5 640 rfl (by decide) _ ho.2.2.2.2.2.1 _ x
  · exact fun x => diag6_piece x0 x3 x4 hz _ 4 512 rfl (by decide) _ ho.2.2.2.2.1 _ x
  · exact fun x => diag6_piece x0 x3 x4 hz _ 3 384 rfl (by decide) _ ho.2.2.2.1 _ x
  · exact fun x => diag6_piece x0 x3 x4 hz _ 2 256 rfl (by decide) _ ho.2.2.1 _ x
  · exact fun x => diag6_piece x0 x3 x4 hz _ 1 128 rfl (by decide) _ ho.2.1 _ x
  · exact fun x => diag6_piece x0 x3 x4 hz _ 0 0 rfl (by decide) _ ho.1 _ x

/-- All heads' stores of running logarithms for the query's own block. -/
theorem diag7_pieces (t : Fin cfg0.N) : View.PiecesOf (Val := Elt Ideal) (e := .f32) (inv7 x0 x3 (grid0.coords t 1).val ((grid0.coords t 1).val / 2)) (diag7 (grid0.coords t) x0 x3) := by
  have ho := offD t
  refine ⟨?_, ?_, ?_, ?_, ?_, ?_, ?_, ?_, trivial⟩
  · exact fun x => diag7_piece x0 x3 hz _ 7 896 rfl (by decide) _ ho.2.2.2.2.2.2.2 _ (by decide) x
  · exact fun x => diag7_piece x0 x3 hz _ 6 768 rfl (by decide) _ ho.2.2.2.2.2.2.1 _ (by decide) x
  · exact fun x => diag7_piece x0 x3 hz _ 5 640 rfl (by decide) _ ho.2.2.2.2.2.1 _ (by decide) x
  · exact fun x => diag7_piece x0 x3 hz _ 4 512 rfl (by decide) _ ho.2.2.2.2.1 _ (by decide) x
  · exact fun x => diag7_piece x0 x3 hz _ 3 384 rfl (by decide) _ ho.2.2.2.1 _ (by decide) x
  · exact fun x => diag7_piece x0 x3 hz _ 2 256 rfl (by decide) _ ho.2.2.1 _ (by decide) x
  · exact fun x => diag7_piece x0 x3 hz _ 1 128 rfl (by decide) _ ho.2.1 _ (by decide) x
  · exact fun x => diag7_piece x0 x3 hz _ 0 0 rfl (by decide) _ ho.1 _ (by decide) x

omit hz in
/-- The heads' stores cover the accumulator. -/
theorem diag6_covers (t : grid0.Coords) (y : S128x1024.Idx) : ∃ p ∈ diag6 t x0 x3 x4, y ∈ p.1.set := by
  unfold diag6
  have h1 : (y 1).val < 1024 := (y 1).isLt
  rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128)) with h | h | h | h | h | h | h | h
  · refine ⟨_, .tail _ (.tail _ (.tail _ (.tail _ (.tail _ (.tail _ (.tail _ (.head _))))))), ?_⟩
    exact mem6 0 (by decide) y h
  · refine ⟨_, .tail _ (.tail _ (.tail _ (.tail _ (.tail _ (.tail _ (.head _)))))), ?_⟩
    exact mem6 128 (by decide) y h
  · refine ⟨_, .tail _ (.tail _ (.tail _ (.tail _ (.tail _ (.head _))))), ?_⟩
    exact mem6 256 (by decide) y h
  · refine ⟨_, .tail _ (.tail _ (.tail _ (.tail _ (.head _)))), ?_⟩
    exact mem6 384 (by decide) y h
  · refine ⟨_, .tail _ (.tail _ (.tail _ (.head _))), ?_⟩
    exact mem6 512 (by decide) y h
  · refine ⟨_, .tail _ (.tail _ (.head _)), ?_⟩
    exact mem6 640 (by decide) y h
  · refine ⟨_, .tail _ (.head _), ?_⟩
    exact mem6 768 (by decide) y h
  · refine ⟨_, .head _, ?_⟩
    exact mem6 896 (by decide) y h

omit hz in
/-- The heads' stores cover the running logarithms. -/
theorem diag7_covers (t : grid0.Coords) (y : S8x128x256.Idx) : ∃ p ∈ diag7 t x0 x3, y ∈ p.1.set := by
  unfold diag7
  have h0 : (y 0).val < 8 := (y 0).isLt
  rcases (by omega : (0 ≤ (y 0).val ∧ (y 0).val < 0 + 1) ∨ (1 ≤ (y 0).val ∧ (y 0).val < 1 + 1) ∨ (2 ≤ (y 0).val ∧ (y 0).val < 2 + 1) ∨ (3 ≤ (y 0).val ∧ (y 0).val < 3 + 1) ∨ (4 ≤ (y 0).val ∧ (y 0).val < 4 + 1) ∨ (5 ≤ (y 0).val ∧ (y 0).val < 5 + 1) ∨ (6 ≤ (y 0).val ∧ (y 0).val < 6 + 1) ∨ (7 ≤ (y 0).val ∧ (y 0).val < 7 + 1)) with h | h | h | h | h | h | h | h
  · refine ⟨_, .tail _ (.tail _ (.tail _ (.tail _ (.tail _ (.tail _ (.tail _ (.head _))))))), ?_⟩
    exact mem7 0 (by decide) y h
  · refine ⟨_, .tail _ (.tail _ (.tail _ (.tail _ (.tail _ (.tail _ (.head _)))))), ?_⟩
    exact mem7 1 (by decide) y h
  · refine ⟨_, .tail _ (.tail _ (.tail _ (.tail _ (.tail _ (.head _))))), ?_⟩
    exact mem7 2 (by decide) y h
  · refine ⟨_, .tail _ (.tail _ (.tail _ (.tail _ (.head _)))), ?_⟩
    exact mem7 3 (by decide) y h
  · refine ⟨_, .tail _ (.tail _ (.tail _ (.head _))), ?_⟩
    exact mem7 4 (by decide) y h
  · refine ⟨_, .tail _ (.tail _ (.head _)), ?_⟩
    exact mem7 5 (by decide) y h
  · refine ⟨_, .tail _ (.head _), ?_⟩
    exact mem7 6 (by decide) y h
  · refine ⟨_, .head _, ?_⟩
    exact mem7 7 (by decide) y h

end

/-- One trip takes the invariants from a key block to the one before it. -/
theorem trip_keeps (t : Fin cfg0.N) (𝒱 : Variants) (c : Dev nD) (bd : Option 𝒱.V) (arg2 : Memref sig .tc .vmem S128x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S8x128x256 .f32) (harg7 : arg7.IsWhole) (v46 : BitVec 32) (x0 : Vec Ideal S128x1024 .bf16) (x3 x4 : Vec Ideal S2048x1024 .bf16) (hz : ∀ i h k, ∃ r : ℝ, zr x0 x3 i h k = r)
    (k : Fin (k0_t1_loop (grid0.coords t)).trips) (f6 : BufTy.Contents (Elt Ideal) arg6.view.ty) (f7 : BufTy.Contents (Elt Ideal) arg7.view.ty)
    (h6 : ∀ y, arg6.view.read (Elt Ideal) f6 y = inv6 x0 x3 x4 (grid0.coords t 1).val ((grid0.coords t 1).val / 2 - k.val) y)
    (h7 : ∀ y, arg7.view.read (Elt Ideal) f7 y = inv7 x0 x3 (grid0.coords t 1).val ((grid0.coords t 1).val / 2 - k.val) y) :
    (∀ y, arg6.view.read (Elt Ideal) (arg6.view.writes (Elt Ideal) f6 (tripL_k0_t1 (F := Ideal) 𝒱 c bd (grid0.coords t) arg2 harg2 arg3 harg3 arg4 harg4 arg5 harg5 arg6 harg6 arg7 harg7 k0_pay121 (View.ld (Val := Elt Ideal) (e' := .bf16) x0 (Rect.unit (s := S128x1024) ![0, 0] ![128, 128] (by decide)) : Vec Ideal S128x128 .bf16) (View.ld (Val := Elt Ideal) (e' := .bf16) x0 (Rect.unit (s := S128x1024) ![0, 128] ![128, 128] (by decide)) : Vec Ideal S128x128 .bf16) (View.ld (Val := Elt Ideal) (e' := .bf16) x0 (Rect.unit (s := S128x1024) ![0, 256] ![128, 128] (by decide)) : Vec Ideal S128x128 .bf16) (View.ld (Val := Elt Ideal) (e' := .bf16) x0 (Rect.unit (s := S128x1024) ![0, 384] ![128, 128] (by decide)) : Vec Ideal S128x128 .bf16) (View.ld (Val := Elt Ideal) (e' := .bf16) x0 (Rect.unit (s := S128x1024) ![0, 512] ![128, 128] (by decide)) : Vec Ideal S128x128 .bf16) (View.ld (Val := Elt Ideal) (e' := .bf16) x0 (Rect.unit (s := S128x1024) ![0, 640] ![128, 128] (by decide)) : Vec Ideal S128x128 .bf16) (View.ld (Val := Elt Ideal) (e' := .bf16) x0 (Rect.unit (s := S128x1024) ![0, 768] ![128, 128] (by decide)) : Vec Ideal S128x128 .bf16) (View.ld (Val := Elt Ideal) (e' := .bf16) x0 (Rect.unit (s := S128x1024) ![0, 896] ![128, 128] (by decide)) : Vec Ideal S128x128 .bf16) v46 (harg3.unread x3) (harg4.unread x4) k f6 f7).1) y = inv6 x0 x3 x4 (grid0.coords t 1).val ((grid0.coords t 1).val / 2 - 1 - k.val) y)
    ∧ (∀ y, arg7.view.read (Elt Ideal) (arg7.view.writes (Elt Ideal) f7 (tripL_k0_t1 (F := Ideal) 𝒱 c bd (grid0.coords t) arg2 harg2 arg3 harg3 arg4 harg4 arg5 harg5 arg6 harg6 arg7 harg7 k0_pay121 (View.ld (Val := Elt Ideal) (e' := .bf16) x0 (Rect.unit (s := S128x1024) ![0, 0] ![128, 128] (by decide)) : Vec Ideal S128x128 .bf16) (View.ld (Val := Elt Ideal) (e' := .bf16) x0 (Rect.unit (s := S128x1024) ![0, 128] ![128, 128] (by decide)) : Vec Ideal S128x128 .bf16) (View.ld (Val := Elt Ideal) (e' := .bf16) x0 (Rect.unit (s := S128x1024) ![0, 256] ![128, 128] (by decide)) : Vec Ideal S128x128 .bf16) (View.ld (Val := Elt Ideal) (e' := .bf16) x0 (Rect.unit (s := S128x1024) ![0, 384] ![128, 128] (by decide)) : Vec Ideal S128x128 .bf16) (View.ld (Val := Elt Ideal) (e' := .bf16) x0 (Rect.unit (s := S128x1024) ![0, 512] ![128, 128] (by decide)) : Vec Ideal S128x128 .bf16) (View.ld (Val := Elt Ideal) (e' := .bf16) x0 (Rect.unit (s := S128x1024) ![0, 640] ![128, 128] (by decide)) : Vec Ideal S128x128 .bf16) (View.ld (Val := Elt Ideal) (e' := .bf16) x0 (Rect.unit (s := S128x1024) ![0, 768] ![128, 128] (by decide)) : Vec Ideal S128x128 .bf16) (View.ld (Val := Elt Ideal) (e' := .bf16) x0 (Rect.unit (s := S128x1024) ![0, 896] ![128, 128] (by decide)) : Vec Ideal S128x128 .bf16) v46 (harg3.unread x3) (harg4.unread x4) k f6 f7).2) y = inv7 x0 x3 (grid0.coords t 1).val ((grid0.coords t 1).val / 2 - 1 - k.val) y) := by
  have hk : k.val < (grid0.coords t 1).val / 2 := lt_of_lt_of_eq k.isLt (trips1 t)
  have hn : (grid0.coords t 1).val < 16 := (grid0.coords t 1).isLt
  have ho := offL t k
  have hb1 : (grid0.coords t 1).val / 2 - k.val = (grid0.coords t 1).val / 2 - 1 - k.val + 1 := by omega
  have hb8 : (grid0.coords t 1).val / 2 - 1 - k.val < 8 := by omega
  have hq : 256 * ((grid0.coords t 1).val / 2 - 1 - k.val) + 256 ≤ 128 * (grid0.coords t 1).val := by omega
  rw [hb1] at h6 h7
  rw [trip_eq]
  dsimp only
  refine ⟨fun y => View.read_writes_apply_of_pieces _ _ _ _ (View.PiecesOf.mem ?_) y ?_, fun y => View.read_writes_apply_of_pieces _ _ _ _ (View.PiecesOf.mem ?_) y ?_⟩
  · refine ⟨?_, ?_, ?_, ?_, ?_, ?_, ?_, ?_, trivial⟩
    · exact fun x => step6_piece x0 x3 x4 hz _ _ hb8 hq _ _ h6 h7 7 896 rfl (by decide) _ ho.2.2.2.2.2.2.2 _ (by decide) x
    · exact fun x => step6_piece x0 x3 x4 hz _ _ hb8 hq _ _ h6 h7 6 768 rfl (by decide) _ ho.2.2.2.2.2.2.1 _ (by decide) x
    · exact fun x => step6_piece x0 x3 x4 hz _ _ hb8 hq _ _ h6 h7 5 640 rfl (by decide) _ ho.2.2.2.2.2.1 _ (by decide) x
    · exact fun x => step6_piece x0 x3 x4 hz _ _ hb8 hq _ _ h6 h7 4 512 rfl (by decide) _ ho.2.2.2.2.1 _ (by decide) x
    · exact fun x => step6_piece x0 x3 x4 hz _ _ hb8 hq _ _ h6 h7 3 384 rfl (by decide) _ ho.2.2.2.1 _ (by decide) x
    · exact fun x => step6_piece x0 x3 x4 hz _ _ hb8 hq _ _ h6 h7 2 256 rfl (by decide) _ ho.2.2.1 _ (by decide) x
    · exact fun x => step6_piece x0 x3 x4 hz _ _ hb8 hq _ _ h6 h7 1 128 rfl (by decide) _ ho.2.1 _ (by decide) x
    · exact fun x => step6_piece x0 x3 x4 hz _ _ hb8 hq _ _ h6 h7 0 0 rfl (by decide) _ ho.1 _ (by decide) x
  · clear h6 h7
    have h1 : (y 1).val < 1024 := (y 1).isLt
    rcases (by omega : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128)) with h | h | h | h | h | h | h | h
    · refine ⟨_, .tail _ (.tail _ (.tail _ (.tail _ (.tail _ (.tail _ (.tail _ (.head _))))))), ?_⟩
      exact mem6 0 (by decide) y h
    · refine ⟨_, .tail _ (.tail _ (.tail _ (.tail _ (.tail _ (.tail _ (.head _)))))), ?_⟩
      exact mem6 128 (by decide) y h
    · refine ⟨_, .tail _ (.tail _ (.tail _ (.tail _ (.tail _ (.head _))))), ?_⟩
      exact mem6 256 (by decide) y h
    · refine ⟨_, .tail _ (.tail _ (.tail _ (.tail _ (.head _)))), ?_⟩
      exact mem6 384 (by decide) y h
    · refine ⟨_, .tail _ (.tail _ (.tail _ (.head _))), ?_⟩
      exact mem6 512 (by decide) y h
    · refine ⟨_, .tail _ (.tail _ (.head _)), ?_⟩
      exact mem6 640 (by decide) y h
    · refine ⟨_, .tail _ (.head _), ?_⟩
      exact mem6 768 (by decide) y h
    · refine ⟨_, .head _, ?_⟩
      exact mem6 896 (by decide) y h
  · refine ⟨?_, ?_, ?_, ?_, ?_, ?_, ?_, ?_, trivial⟩
    · exact fun x => step7_piece x0 x3 hz _ _ hb8 hq _ h7 7 896 rfl (by decide) _ ho.2.2.2.2.2.2.2 _ (by decide) x
    · exact fun x => step7_piece x0 x3 hz _ _ hb8 hq _ h7 6 768 rfl (by decide) _ ho.2.2.2.2.2.2.1 _ (by decide) x
    · exact fun x => step7_piece x0 x3 hz _ _ hb8 hq _ h7 5 640 rfl (by decide) _ ho.2.2.2.2.2.1 _ (by decide) x
    · exact fun x => step7_piece x0 x3 hz _ _ hb8 hq _ h7 4 512 rfl (by decide) _ ho.2.2.2.2.1 _ (by decide) x
    · exact fun x => step7_piece x0 x3 hz _ _ hb8 hq _ h7 3 384 rfl (by decide) _ ho.2.2.2.1 _ (by decide) x
    · exact fun x => step7_piece x0 x3 hz _ _ hb8 hq _ h7 2 256 rfl (by decide) _ ho.2.2.1 _ (by decide) x
    · exact fun x => step7_piece x0 x3 hz _ _ hb8 hq _ h7 1 128 rfl (by decide) _ ho.2.1 _ (by decide) x
    · exact fun x => step7_piece x0 x3 hz _ _ hb8 hq _ h7 0 0 rfl (by decide) _ ho.1 _ (by decide) x
  · clear h6 h7
    have h0 : (y 0).val < 8 := (y 0).isLt
    rcases (by omega : (0 ≤ (y 0).val ∧ (y 0).val < 0 + 1) ∨ (1 ≤ (y 0).val ∧ (y 0).val < 1 + 1) ∨ (2 ≤ (y 0).val ∧ (y 0).val < 2 + 1) ∨ (3 ≤ (y 0).val ∧ (y 0).val < 3 + 1) ∨ (4 ≤ (y 0).val ∧ (y 0).val < 4 + 1) ∨ (5 ≤ (y 0).val ∧ (y 0).val < 5 + 1) ∨ (6 ≤ (y 0).val ∧ (y 0).val < 6 + 1) ∨ (7 ≤ (y 0).val ∧ (y 0).val < 7 + 1)) with h | h | h | h | h | h | h | h
    · refine ⟨_, .tail _ (.tail _ (.tail _ (.tail _ (.tail _ (.tail _ (.tail _ (.head _))))))), ?_⟩
      exact mem7 0 (by decide) y h
    · refine ⟨_, .tail _ (.tail _ (.tail _ (.tail _ (.tail _ (.tail _ (.head _)))))), ?_⟩
      exact mem7 1 (by decide) y h
    · refine ⟨_, .tail _ (.tail _ (.tail _ (.tail _ (.tail _ (.head _))))), ?_⟩
      exact mem7 2 (by decide) y h
    · refine ⟨_, .tail _ (.tail _ (.tail _ (.tail _ (.head _)))), ?_⟩
      exact mem7 3 (by decide) y h
    · refine ⟨_, .tail _ (.tail _ (.tail _ (.head _))), ?_⟩
      exact mem7 4 (by decide) y h
    · refine ⟨_, .tail _ (.tail _ (.head _)), ?_⟩
      exact mem7 5 (by decide) y h
    · refine ⟨_, .tail _ (.head _), ?_⟩
      exact mem7 6 (by decide) y h
    · refine ⟨_, .head _, ?_⟩
      exact mem7 7 (by decide) y h

/-- After `j` trips the scratch buffers hold the invariants `j` key blocks further back. -/
theorem loop_keeps (t : Fin cfg0.N) (𝒱 : Variants) (c : Dev nD) (bd : Option 𝒱.V) (arg2 : Memref sig .tc .vmem S128x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S128x1024 .bf16) (harg5 : arg5.IsWhole) (arg6 : Memref sig .tc .vmem S128x1024 .f32) (harg6 : arg6.IsWhole) (arg7 : Memref sig .tc .vmem S8x128x256 .f32) (harg7 : arg7.IsWhole) (v46 : BitVec 32) (x0 : Vec Ideal S128x1024 .bf16) (x3 x4 : Vec Ideal S2048x1024 .bf16) (hz : ∀ i h k, ∃ r : ℝ, zr x0 x3 i h k = r)
    (G6 : BufTy.Contents (Elt Ideal) arg6.view.ty) (G7 : BufTy.Contents (Elt Ideal) arg7.view.ty)
    (h6 : ∀ y, arg6.view.read (Elt Ideal) G6 y = inv6 x0 x3 x4 (grid0.coords t 1).val ((grid0.coords t 1).val / 2) y)
    (h7 : ∀ y, arg7.view.read (Elt Ideal) G7 y = inv7 x0 x3 (grid0.coords t 1).val ((grid0.coords t 1).val / 2) y) :
    ∀ j : ℕ, j ≤ (k0_t1_loop (grid0.coords t)).trips →
    (∀ y, arg6.view.read (Elt Ideal) (arg6.view.writes (Elt Ideal) G6 (pb_k0_t1 (F := Ideal) 𝒱 c bd (grid0.coords t) arg2 harg2 arg3 harg3 arg4 harg4 arg5 harg5 arg6 harg6 arg7 harg7 k0_pay121 (View.ld (Val := Elt Ideal) (e' := .bf16) x0 (Rect.unit (s := S128x1024) ![0, 0] ![128, 128] (by decide)) : Vec Ideal S128x128 .bf16) (View.ld (Val := Elt Ideal) (e' := .bf16) x0 (Rect.unit (s := S128x1024) ![0, 128] ![128, 128] (by decide)) : Vec Ideal S128x128 .bf16) (View.ld (Val := Elt Ideal) (e' := .bf16) x0 (Rect.unit (s := S128x1024) ![0, 256] ![128, 128] (by decide)) : Vec Ideal S128x128 .bf16) (View.ld (Val := Elt Ideal) (e' := .bf16) x0 (Rect.unit (s := S128x1024) ![0, 384] ![128, 128] (by decide)) : Vec Ideal S128x128 .bf16) (View.ld (Val := Elt Ideal) (e' := .bf16) x0 (Rect.unit (s := S128x1024) ![0, 512] ![128, 128] (by decide)) : Vec Ideal S128x128 .bf16) (View.ld (Val := Elt Ideal) (e' := .bf16) x0 (Rect.unit (s := S128x1024) ![0, 640] ![128, 128] (by decide)) : Vec Ideal S128x128 .bf16) (View.ld (Val := Elt Ideal) (e' := .bf16) x0 (Rect.unit (s := S128x1024) ![0, 768] ![128, 128] (by decide)) : Vec Ideal S128x128 .bf16) (View.ld (Val := Elt Ideal) (e' := .bf16) x0 (Rect.unit (s := S128x1024) ![0, 896] ![128, 128] (by decide)) : Vec Ideal S128x128 .bf16) v46 (harg3.unread x3) (harg4.unread x4) G6 G7 j).1) y = inv6 x0 x3 x4 (grid0.coords t 1).val ((grid0.coords t 1).val / 2 - j) y)
    ∧ (∀ y, arg7.view.read (Elt Ideal) (arg7.view.writes (Elt Ideal) G7 (pb_k0_t1 (F := Ideal) 𝒱 c bd (grid0.coords t) arg2 harg2 arg3 harg3 arg4 harg4 arg5 harg5 arg6 harg6 arg7 harg7 k0_pay121 (View.ld (Val := Elt Ideal) (e' := .bf16) x0 (Rect.unit (s := S128x1024) ![0, 0] ![128, 128] (by decide)) : Vec Ideal S128x128 .bf16) (View.ld (Val := Elt Ideal) (e' := .bf16) x0 (Rect.unit (s := S128x1024) ![0, 128] ![128, 128] (by decide)) : Vec Ideal S128x128 .bf16) (View.ld (Val := Elt Ideal) (e' := .bf16) x0 (Rect.unit (s := S128x1024) ![0, 256] ![128, 128] (by decide)) : Vec Ideal S128x128 .bf16) (View.ld (Val := Elt Ideal) (e' := .bf16) x0 (Rect.unit (s := S128x1024) ![0, 384] ![128, 128] (by decide)) : Vec Ideal S128x128 .bf16) (View.ld (Val := Elt Ideal) (e' := .bf16) x0 (Rect.unit (s := S128x1024) ![0, 512] ![128, 128] (by decide)) : Vec Ideal S128x128 .bf16) (View.ld (Val := Elt Ideal) (e' := .bf16) x0 (Rect.unit (s := S128x1024) ![0, 640] ![128, 128] (by decide)) : Vec Ideal S128x128 .bf16) (View.ld (Val := Elt Ideal) (e' := .bf16) x0 (Rect.unit (s := S128x1024) ![0, 768] ![128, 128] (by decide)) : Vec Ideal S128x128 .bf16) (View.ld (Val := Elt Ideal) (e' := .bf16) x0 (Rect.unit (s := S128x1024) ![0, 896] ![128, 128] (by decide)) : Vec Ideal S128x128 .bf16) v46 (harg3.unread x3) (harg4.unread x4) G6 G7 j).2) y = inv7 x0 x3 (grid0.coords t 1).val ((grid0.coords t 1).val / 2 - j) y)
  | 0, _ => ⟨h6, h7⟩
  | j + 1, hj => by
    obtain ⟨i6, i7⟩ := loop_keeps t 𝒱 c bd arg2 harg2 arg3 harg3 arg4 harg4 arg5 harg5 arg6 harg6 arg7 harg7 v46 x0 x3 x4 hz G6 G7 h6 h7 j (by omega)
    have hs := pb_k0_t1_succ (F := Ideal) 𝒱 c bd (grid0.coords t) arg2 harg2 arg3 harg3 arg4 harg4 arg5 harg5 arg6 harg6 arg7 harg7 k0_pay121 (View.ld (Val := Elt Ideal) (e' := .bf16) x0 (Rect.unit (s := S128x1024) ![0, 0] ![128, 128] (by decide)) : Vec Ideal S128x128 .bf16) (View.ld (Val := Elt Ideal) (e' := .bf16) x0 (Rect.unit (s := S128x1024) ![0, 128] ![128, 128] (by decide)) : Vec Ideal S128x128 .bf16) (View.ld (Val := Elt Ideal) (e' := .bf16) x0 (Rect.unit (s := S128x1024) ![0, 256] ![128, 128] (by decide)) : Vec Ideal S128x128 .bf16) (View.ld (Val := Elt Ideal) (e' := .bf16) x0 (Rect.unit (s := S128x1024) ![0, 384] ![128, 128] (by decide)) : Vec Ideal S128x128 .bf16) (View.ld (Val := Elt Ideal) (e' := .bf16) x0 (Rect.unit (s := S128x1024) ![0, 512] ![128, 128] (by decide)) : Vec Ideal S128x128 .bf16) (View.ld (Val := Elt Ideal) (e' := .bf16) x0 (Rect.unit (s := S128x1024) ![0, 640] ![128, 128] (by decide)) : Vec Ideal S128x128 .bf16) (View.ld (Val := Elt Ideal) (e' := .bf16) x0 (Rect.unit (s := S128x1024) ![0, 768] ![128, 128] (by decide)) : Vec Ideal S128x128 .bf16) (View.ld (Val := Elt Ideal) (e' := .bf16) x0 (Rect.unit (s := S128x1024) ![0, 896] ![128, 128] (by decide)) : Vec Ideal S128x128 .bf16) v46 (harg3.unread x3) (harg4.unread x4) G6 G7 ⟨j, hj⟩
    dsimp only at hs
    rw [hs, View.writes_append, View.writes_append, show (grid0.coords t 1).val / 2 - (j + 1) = (grid0.coords t 1).val / 2 - 1 - j by omega]
    exact trip_keeps t 𝒱 c bd arg2 harg2 arg3 harg3 arg4 harg4 arg5 harg5 arg6 harg6 arg7 harg7 v46 x0 x3 x4 hz ⟨j, hj⟩ _ _ i6 i7

variable (m : (ℓ : Loc nD τ sig) → Buf (Elt Ideal) ℓ) (c : Dev nD)

/-- A grid point's result is the weighted sum over all keys. -/
theorem outs_at (t : Fin cfg0.N) (hz : ∀ i h k, ∃ r : ℝ, zr (iblk m c 0 t) (iblk m c 1 t) i h k = r) (y : S128x1024.Idx) :
    outsAt0 m c t y = inv6 (iblk m c 0 t) (iblk m c 1 t) (iblk m c 2 t) (grid0.coords t 1).val 0 y := by
  obtain ⟨v46, j6, j7, h⟩ := outs m c t
  rw [h, out_at]
  have hc := diag6_covers (iblk m c 0 t) (iblk m c 1 t) (iblk m c 2 t) (grid0.coords t) y
  have hl := (loop_keeps t Variants.none c none (ms0_0 t) (hs0_0 t) (ms0_1 t) (hs0_1 t) (ms0_2 t) (hs0_2 t) (ms0_3 t) (hs0_3 t) scM0_0 (Memref.isWhole_whole _) scM0_1 (Memref.isWhole_whole _) v46
    (iblk m c 0 t) (iblk m c 1 t) (iblk m c 2 t) hz _ _
    (fun y => View.read_writes_apply_of_pieces _ j6 _ _ (diag6_pieces (iblk m c 0 t) (iblk m c 1 t) (iblk m c 2 t) hz t).mem y (diag6_covers _ _ _ _ y))
    (fun y => View.read_writes_apply_of_pieces _ j7 _ _ (diag7_pieces (iblk m c 0 t) (iblk m c 1 t) hz t).mem y (diag7_covers _ _ _ y)) _ le_rfl).1 y
  rw [← View.writes_append, View.read_writes_apply_eq_canon] at hl
  · refine hl.trans ?_
    rw [trips1 t, Nat.sub_self]
  · obtain ⟨p, hp, hy⟩ := hc
    exact ⟨p, List.mem_append_right _ hp, hy⟩

end Cert.SbIdeal.Sb
-- ==== Proof.SbRef.lean ====
/-
  Stick-breaking attention as the layer defines it, entry by entry.
-/
module

public import proofs.«01_k».proof.Proof.Gen.SbRefIdeal
public import proofs.«01_k».proof.Proof.Gen.SbRefIdeal.Run
public import proofs.«01_k».proof.Proof.Stick
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.SbRefIdeal

open Cert.SbRefIdeal.Gen Cert.SbRefIdeal.Value

/-- The queries, by batch, head, position and lane. -/
def part0 (x : FVec Ideal S16384x3072 .bf16) : FVec Ideal S8x8x2048x128 .f32 :=
  transpose S8x8x2048x128 [0, 2, 1, 3] (shapeCast _ (extractStridedSlice S8x2048x1x8x128 ![0, 0, 0, 0, 0] (shapeCast _ (extf .f32 x bitsLt_bf16_f32) shapeCasts_S16384x3072_S8x2048x3x8x128) slices_S8x2048x3x8x128_S8x2048x1x8x128_0_0_0_0_0) shapeCasts_S8x2048x1x8x128_S8x2048x8x128) transposes_S8x2048x8x128_S8x8x2048x128_0_2_1_3

/-- The keys. -/
def part1 (x : FVec Ideal S16384x3072 .bf16) : FVec Ideal S8x8x2048x128 .f32 :=
  transpose S8x8x2048x128 [0, 2, 1, 3] (shapeCast _ (extractStridedSlice S8x2048x1x8x128 ![0, 0, 1, 0, 0] (shapeCast _ (extf .f32 x bitsLt_bf16_f32) shapeCasts_S16384x3072_S8x2048x3x8x128) slices_S8x2048x3x8x128_S8x2048x1x8x128_0_0_1_0_0) shapeCasts_S8x2048x1x8x128_S8x2048x8x128) transposes_S8x2048x8x128_S8x8x2048x128_0_2_1_3

/-- The values. -/
def part2 (x : FVec Ideal S16384x3072 .bf16) : FVec Ideal S8x8x2048x128 .f32 :=
  transpose S8x8x2048x128 [0, 2, 1, 3] (shapeCast _ (extractStridedSlice S8x2048x1x8x128 ![0, 0, 2, 0, 0] (shapeCast _ (extf .f32 x bitsLt_bf16_f32) shapeCasts_S16384x3072_S8x2048x3x8x128) slices_S8x2048x3x8x128_S8x2048x1x8x128_0_0_2_0_0) shapeCasts_S8x2048x1x8x128_S8x2048x8x128) transposes_S8x2048x8x128_S8x8x2048x128_0_2_1_3

/-- The scaled scores. -/
def scores (q k : FVec Ideal S8x8x2048x128 .f32) : FVec Ideal S8x8x2048x2048 .f32 :=
  mulf (Host.dotGeneral dot_S8x8x2048x128_S8x8x2048x128_S8x8x2048x2048_3_3_2_2_01_01 none q k) (broadcastInDim S8x8x2048x2048 ![] bcast_S_S8x8x2048x2048 (constant S_ .f32 0x3DB504F3#32))

/-- Which keys come before which queries. -/
def mask : IVec S8x8x2048x2048 1 :=
  broadcastInDim S8x8x2048x2048 ![2, 3] bcast_S2048x2048_S8x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- A zero everywhere. -/
def zeros : FVec Ideal S8x8x2048x2048 .f32 := broadcastInDim S8x8x2048x2048 ![] bcast_S_S8x8x2048x2048 (constant S_ .f32 0x00000000#32)

/-- The logarithm of the logistic function. -/
def lsig (y : FVec Ideal S8x8x2048x2048 .f32) : FVec Ideal S8x8x2048x2048 .f32 :=
  Host.negf (select (cmpf .une (subf (Host.negf y) zeros) (subf (Host.negf y) zeros)) (addf (Host.negf y) zeros) (addf (maximumf (Host.negf y) zeros) (Host.log1p (Host.exp (Host.negf (Host.absf (subf (Host.negf y) zeros)))))))

/-- The logarithms of what each key leaves of the stick. -/
def log1m (z : FVec Ideal S8x8x2048x2048 .f32) : FVec Ideal S8x8x2048x2048 .f32 :=
  select mask (lsig (Host.negf z)) zeros

/-- Their sums from each key on. -/
def cums (l : FVec Ideal S8x8x2048x2048 .f32) : FVec Ideal S8x8x2048x2048 .f32 :=
  Host.reduceWindowAdd ![1, 1, 1, 2048] ![1, 1, 1, 1] ![0, 0, 0, 0] ![0, 0, 0, 2047] l (broadcastInDim S_ ![] bcast_S_S_ (constant S_ .f32 0x00000000#32)) reduceWindows_S8x8x2048x2048_S8x8x2048x2048_w1s1p0_0_w1s1p0_0_w1s1p0_0_w2048s1p0_2047 h_S_

/-- The weights. -/
def weights (z : FVec Ideal S8x8x2048x2048 .f32) : FVec Ideal S8x8x2048x2048 .f32 :=
  select mask (Host.exp (addf (lsig z) (subf (cums (log1m z)) (log1m z)))) zeros

/-- The weighted sums of the values, laid out by rows. -/
def result (w : FVec Ideal S8x8x2048x2048 .f32) (v : FVec Ideal S8x8x2048x128 .f32) : FVec Ideal S16384x1024 .bf16 :=
  truncf .bf16 (shapeCast _ (transpose S8x2048x8x128 [0, 2, 1, 3] (Host.dotGeneral dot_S8x8x2048x2048_S8x8x2048x128_S8x8x2048x128_3_2_2_3_01_01 none w v) transposes_S8x8x2048x128_S8x2048x8x128_0_2_1_3) shapeCasts_S8x2048x8x128_S16384x1024) bitsLt_bf16_f32

/-- The reference's result is these put together. -/
theorem value (m : (ℓ : Loc nD τ sig) → Buf (Elt Ideal) ℓ) (c : Dev nD) :
    res_main_v33 m c = result (weights (scores (part0 (m ((c.tc : Thread nD τ).loc main_arg0))) (part1 (m ((c.tc : Thread nD τ).loc main_arg0))))) (part2 (m ((c.tc : Thread nD τ).loc main_arg0))) := by
  unfold res_main_v33
  rfl

/-- A query entry is an entry of the projections' first third. -/
theorem part0_at (x : FVec Ideal S16384x3072 .bf16) (b h : Fin 8) (s : Fin 2048) (e : Fin 128) :
    part0 x (ix4 b h s e) = x (ix2 ⟨2048 * b.val + s.val, by omega⟩ ⟨128 * h.val + e.val, by omega⟩) := by
  pointwise [part0]
  exact congrArg₂ (fun p q => x (ix2 p q)) (Fin.ext (by dsimp only; omega)) (Fin.ext (by dsimp only; omega))

/-- A key entry is an entry of their second third. -/
theorem part1_at (x : FVec Ideal S16384x3072 .bf16) (b h : Fin 8) (s : Fin 2048) (e : Fin 128) :
    part1 x (ix4 b h s e) = x (ix2 ⟨2048 * b.val + s.val, by omega⟩ ⟨1024 + 128 * h.val + e.val, by omega⟩) := by
  pointwise [part1]
  exact congrArg₂ (fun p q => x (ix2 p q)) (Fin.ext (by dsimp only; omega)) (Fin.ext (by dsimp only; omega))

/-- A value entry is an entry of their last third. -/
theorem part2_at (x : FVec Ideal S16384x3072 .bf16) (b h : Fin 8) (s : Fin 2048) (e : Fin 128) :
    part2 x (ix4 b h s e) = x (ix2 ⟨2048 * b.val + s.val, by omega⟩ ⟨2048 + 128 * h.val + e.val, by omega⟩) := by
  pointwise [part2]
  exact congrArg₂ (fun p q => x (ix2 p q)) (Fin.ext (by dsimp only; omega)) (Fin.ext (by dsimp only; omega))

/-- The scores, entry by entry. -/
theorem scores_at (q k : FVec Ideal S8x8x2048x128 .f32) (b h : Fin 8) (i j : Fin 2048) :
    scores q k (ix4 b h i j) = (∑ e : Fin 128, q (ix4 b h i e) * k (ix4 b h j e)) * Ideal.ofBits .f32 0x3DB504F3#32 := by
  pointwise [scores]

/-- The mask, entry by entry. -/
theorem mask_at (b h : Fin 8) (i j : Fin 2048) : mask (ix4 b h i j) = BitVec.ofBool (decide (j.val < i.val)) := by
  pointwise [mask]
  exact WordCmp.cmpi_slt_ofNat (lt_trans j.isLt (by norm_num)) (lt_trans i.isLt (by norm_num))

/-- The logarithm of the logistic function, entry by entry. -/
theorem lsig_at (y : FVec Ideal S8x8x2048x2048 .f32) (b h : Fin 8) (i j : Fin 2048) :
    lsig y (ix4 b h i j) = -Stick.softplus (-(y (ix4 b h i j))) := by
  pointwise [lsig, zeros, Stick.softplus]
  rw [if_neg (not_not.mpr rfl), zero_sub]
  rfl

/-- A fold of addition is the starting value and the sum. -/
theorem foldl_add (g : ℕ → EReal) (v : EReal) : ∀ l : List ℕ, l.foldl (fun r n => r + g n) v = v + (l.map g).sum := by
  intro l
  induction l generalizing v with
  | nil => simp
  | cons a l ih => rw [List.foldl_cons, ih, List.map_cons, List.sum_cons, add_assoc]

/-- A window of one entry by 2048, read at its position in row-major order: its last coordinate is that position. -/
theorem window_at (n : Fin (⟨4, ![1, 1, 1, 2048]⟩ : Shape).numel) :
    ((⟨4, ![1, 1, 1, 2048]⟩ : Shape).rowMajor.symm n 0).val = 0 ∧ ((⟨4, ![1, 1, 1, 2048]⟩ : Shape).rowMajor.symm n 1).val = 0
      ∧ ((⟨4, ![1, 1, 1, 2048]⟩ : Shape).rowMajor.symm n 2).val = 0 ∧ ((⟨4, ![1, 1, 1, 2048]⟩ : Shape).rowMajor.symm n 3).val = n.val := by
  have h := Shape.rowMajor_val_four ((⟨4, ![1, 1, 1, 2048]⟩ : Shape).rowMajor.symm n)
  rw [Equiv.apply_symm_apply] at h
  have h0 : ((⟨4, ![1, 1, 1, 2048]⟩ : Shape).rowMajor.symm n 0).val < 1 := ((⟨4, ![1, 1, 1, 2048]⟩ : Shape).rowMajor.symm n 0).isLt
  have h1 : ((⟨4, ![1, 1, 1, 2048]⟩ : Shape).rowMajor.symm n 1).val < 1 := ((⟨4, ![1, 1, 1, 2048]⟩ : Shape).rowMajor.symm n 1).isLt
  have h2 : ((⟨4, ![1, 1, 1, 2048]⟩ : Shape).rowMajor.symm n 2).val < 1 := ((⟨4, ![1, 1, 1, 2048]⟩ : Shape).rowMajor.symm n 2).isLt
  have e0 : ((⟨4, ![1, 1, 1, 2048]⟩ : Shape).rowMajor.symm n 0).val = 0 := by omega
  have e1 : ((⟨4, ![1, 1, 1, 2048]⟩ : Shape).rowMajor.symm n 1).val = 0 := by omega
  have e2 : ((⟨4, ![1, 1, 1, 2048]⟩ : Shape).rowMajor.symm n 2).val = 0 := by omega
  refine ⟨e0, e1, e2, ?_⟩
  rw [e0, e1, e2] at h
  simpa using h.symm

/-- Over the reals the summing window is the fold of addition over the window's positions. -/
theorem windowAdd_eq {s t u : Shape} (window strides lo hi : Fin s.rank → Nat) (x : FVec Ideal s .f32) (init : u.Idx → Ideal .f32)
    (h : s.ReduceWindows window strides lo hi t) (hu : 0 < u.numel) :
    Host.reduceWindowAdd window strides lo hi x init h hu
      = Host.reduceWindow (fun p q : EReal => p + q) window strides lo hi x (fun _ : (⟨0, ![]⟩ : Shape).Idx => init (Shape.Idx.first hu)) h := rfl

/-- The reversed running sum: an entry is the sum of its row from it on. -/
theorem cums_at (l : FVec Ideal S8x8x2048x2048 .f32) (X : ℕ → EReal) (b h : Fin 8) (i k : Fin 2048) (hX : ∀ j : Fin 2048, l (ix4 b h i j) = X j.val) :
    cums l (ix4 b h i k) = ∑ j ∈ Finset.Ico k.val 2048, X j := by
  have hN : (⟨4, ![1, 1, 1, 2048]⟩ : Shape).numel = 2048 := by decide +kernel
  have hv : (broadcastInDim S_ ![] bcast_S_S_ (constant (F := Ideal) S_ .f32 0x00000000#32)) (Shape.Idx.first h_S_) = (0 : EReal) := by pointwise
  have step : cums l (ix4 b h i k) = (List.finRange (⟨4, ![1, 1, 1, 2048]⟩ : Shape).numel).foldl
      (fun r n => r + (fun n : ℕ => if k.val + n < 2048 then X (k.val + n) else 0) n.val) (0 : EReal) := by
    unfold cums
    rw [windowAdd_eq, hv]
    unfold Host.reduceWindow
    dsimp only
    refine congrArg (fun f => List.foldl f (0 : EReal) _) (funext fun r => funext fun n => congrArg (r + ·) ?_)
    obtain ⟨w0, w1, w2, w3⟩ := window_at n
    split
    · next hin =>
      have h3 := hin 3
      change 0 ≤ k.val * 1 + ((⟨4, ![1, 1, 1, 2048]⟩ : Shape).rowMajor.symm n 3).val
        ∧ k.val * 1 + ((⟨4, ![1, 1, 1, 2048]⟩ : Shape).rowMajor.symm n 3).val - 0 < 2048 at h3
      rw [w3] at h3
      rw [if_pos (by omega)]
      refine (congrArg l (funext fun a => Fin.ext ?_)).trans (hX ⟨k.val + n.val, by omega⟩)
      match a with
      | ⟨0, _⟩ =>
        show b.val * 1 + ((⟨4, ![1, 1, 1, 2048]⟩ : Shape).rowMajor.symm n 0).val - 0 = b.val
        rw [w0]; omega
      | ⟨1, _⟩ =>
        show h.val * 1 + ((⟨4, ![1, 1, 1, 2048]⟩ : Shape).rowMajor.symm n 1).val - 0 = h.val
        rw [w1]; omega
      | ⟨2, _⟩ =>
        show i.val * 1 + ((⟨4, ![1, 1, 1, 2048]⟩ : Shape).rowMajor.symm n 2).val - 0 = i.val
        rw [w2]; omega
      | ⟨3, _⟩ =>
        show k.val * 1 + ((⟨4, ![1, 1, 1, 2048]⟩ : Shape).rowMajor.symm n 3).val - 0 = k.val + n.val
        rw [w3]; omega
    · next hin =>
      refine (if_neg fun hlt => hin fun a => ?_).symm
      match a with
      | ⟨0, _⟩ =>
        show 0 ≤ b.val * 1 + ((⟨4, ![1, 1, 1, 2048]⟩ : Shape).rowMajor.symm n 0).val
          ∧ b.val * 1 + ((⟨4, ![1, 1, 1, 2048]⟩ : Shape).rowMajor.symm n 0).val - 0 < 8
        rw [w0]; omega
      | ⟨1, _⟩ =>
        show 0 ≤ h.val * 1 + ((⟨4, ![1, 1, 1, 2048]⟩ : Shape).rowMajor.symm n 1).val
          ∧ h.val * 1 + ((⟨4, ![1, 1, 1, 2048]⟩ : Shape).rowMajor.symm n 1).val - 0 < 8
        rw [w1]; omega
      | ⟨2, _⟩ =>
        show 0 ≤ i.val * 1 + ((⟨4, ![1, 1, 1, 2048]⟩ : Shape).rowMajor.symm n 2).val
          ∧ i.val * 1 + ((⟨4, ![1, 1, 1, 2048]⟩ : Shape).rowMajor.symm n 2).val - 0 < 2048
        rw [w2]; omega
      | ⟨3, _⟩ =>
        show 0 ≤ k.val * 1 + ((⟨4, ![1, 1, 1, 2048]⟩ : Shape).rowMajor.symm n 3).val
          ∧ k.val * 1 + ((⟨4, ![1, 1, 1, 2048]⟩ : Shape).rowMajor.symm n 3).val - 0 < 2048
        rw [w3]; omega
  rw [step, hN]
  have e : (List.finRange 2048).foldl (fun r n => r + (fun n : ℕ => if k.val + n < 2048 then X (k.val + n) else 0) n.val) (0 : EReal)
      = ((List.finRange 2048).map Fin.val).foldl (fun r n => r + (fun n : ℕ => if k.val + n < 2048 then X (k.val + n) else 0) n) 0 := by
    rw [List.foldl_map]
  rw [e, foldl_add, zero_add, List.map_coe_finRange_eq_range, ← List.sum_toFinset _ List.nodup_range, List.toFinset_range]
  rw [← Finset.sum_filter, Finset.sum_Ico_eq_sum_range]
  refine Finset.sum_congr ?_ fun _ _ => rfl
  ext j
  have := k.isLt
  simp only [Finset.mem_filter, Finset.mem_range]
  omega

/-- The scores of one query row, as a row over all positions. -/
def zrow (z : FVec Ideal S8x8x2048x2048 .f32) (b h : Fin 8) (i : Fin 2048) (k : ℕ) : EReal :=
  if hk : k < 2048 then z (ix4 b h i ⟨k, hk⟩) else 0

/-- The logarithms of what the keys leave, entry by entry, for real scores. -/
theorem log1m_at (z : FVec Ideal S8x8x2048x2048 .f32) (b h : Fin 8) (i j : Fin 2048) (hz : ∀ k, ∃ r : ℝ, zrow z b h i k = r) :
    log1m z (ix4 b h i j) = Stick.L (zrow z b h i) i.val j.val := by
  have e : zrow z b h i j.val = z (ix4 b h i j) := dif_pos j.isLt
  pointwise [log1m, mask_at, lsig_at, zeros]
  unfold Stick.L
  rw [e]
  by_cases hk : j.val < i.val
  · simp only [hk, decide_true, BitVec.ofBool_true, ValueIdx.select_one, if_true]
    rw [neg_neg]
    exact Stick.neg_softplus _ (by rw [← e]; exact hz _)
  · simp only [hk, decide_false, BitVec.ofBool_false, ValueIdx.select_zero, if_false]

/-- The weights, entry by entry, for real scores. -/
theorem weights_at (z : FVec Ideal S8x8x2048x2048 .f32) (b h : Fin 8) (i j : Fin 2048) (hz : ∀ k, ∃ r : ℝ, zrow z b h i k = r) :
    weights z (ix4 b h i j) = Stick.A (zrow z b h i) i.val j.val := by
  have e : zrow z b h i j.val = z (ix4 b h i j) := dif_pos j.isLt
  have hc := cums_at (log1m z) (Stick.L (zrow z b h i) i.val) b h i j fun k => log1m_at z b h i k hz
  rw [← Stick.ref_weight _ hz]
  unfold Stick.S
  rw [← hc, ← log1m_at z b h i j hz, e]
  pointwise [weights, mask_at, lsig_at, zeros]

/-- The result, entry by entry. -/
theorem result_at (w : FVec Ideal S8x8x2048x2048 .f32) (v : FVec Ideal S8x8x2048x128 .f32) (r : Fin 16384) (k : Fin 1024) :
    result w v (ix2 r k) = ∑ j : Fin 2048, w (ix4 ⟨r.val / 2048, by omega⟩ ⟨k.val / 128, by omega⟩ ⟨r.val % 2048, by omega⟩ j) * v (ix4 ⟨r.val / 2048, by omega⟩ ⟨k.val / 128, by omega⟩ j ⟨k.val % 128, by omega⟩) := by
  pointwise [result]

end Cert.SbRefIdeal

end
-- ==== Proof.SbFinite.lean ====
/-
  What the precondition says: every query and key entry is a real number.
-/
module

public import proofs.«01_k».proof.Pre_finite_qk
public import Idealize.ShloMosaic.Lib.ReduceAll
public import Idealize.ShloMosaic.Lib.Pipeline.ValueKit
public import Idealize.ShloMosaic.Lib.IdealHost

@[expose] public section

set_option maxRecDepth 16384

noncomputable section

open Idealize.ShloMosaic

namespace Cert.Pre_finite_qk

/-- The side conditions of the precondition's operations. -/
instance facts : Cert.Pre_finite_qk.Facts where
  slices_S16384x3072_S16384x2048_0_0 := by decide +kernel
  bitsLt_bf16_f32 := by decide +kernel
  bcast_S_S16384x2048 := by decide +kernel
  reducesTo_S16384x2048_S_d0_1 := by decide +kernel
  h_S_ := by decide +kernel

/-- The bit pattern of infinity. -/
theorem inf_bits : Ideal.ofBits .f32 0x7F800000#32 = ⊤ := by
  simp [Ideal.ofBits, Ideal.ieee]

/-- An extended real whose absolute value is below infinity is a real. -/
theorem real_of_abs (x : EReal) (h : max x (-x) < ⊤) : ∃ r : ℝ, x = r := by
  induction x using EReal.rec with
  | bot => simp at h
  | coe r => exact ⟨r, rfl⟩
  | top => simp at h

/-- Under the precondition, the entries of the first 2048 columns are reals. -/
theorem real (x : FVec Ideal S16384x3072 .bf16) (h : Cert.Pre_finite_qk.fn (F := Ideal) x = fun _ => 1#1) (r : Fin 16384) (k : Fin 3072) (hk : k.val < 2048) :
    ∃ q : ℝ, (x (ix2 r k) : EReal) = q := by
  have h0 := congrFun h (fun a => a.elim0)
  unfold Cert.Pre_finite_qk.fn at h0
  have h1 := Host.reduce_andi_all _ _ _ _ _ h0 (ix2 r ⟨k.val, hk⟩)
  refine real_of_abs _ ?_
  have h2 : FloatOps.cmpf (F := Ideal) (φ := .f32) .olt (FloatOps.hostAbsf (x (ix2 r k))) (FloatOps.ofBits .f32 0x7F800000#32) = 1#1 := by
    refine Eq.trans ?_ h1
    pointwise []
  change Ideal.cmp .olt (max (x (ix2 r k) : EReal) (-(x (ix2 r k) : EReal))) (Ideal.ofBits .f32 0x7F800000#32) = 1#1 at h2
  rw [inf_bits] at h2
  unfold Ideal.cmp at h2
  by_contra hn
  simp [hn] at h2

/-- The scale of the scores is a real number. -/
theorem scale_real : ∃ q : ℝ, Ideal.ofBits .f32 0x3DB504F3#32 = q := by
  simp [Ideal.ofBits, Ideal.ieee]
  exact ⟨_, rfl⟩

end Cert.Pre_finite_qk

end
-- ==== Proof.SbResult.lean ====
/-
  The result array of stick-breaking attention is the layer's.
-/
module

public import proofs.«01_k».proof.Proof.SbLoop
public import proofs.«01_k».proof.Proof.SbRef
public import proofs.«01_k».proof.Proof.SbFinite

@[expose] public section

set_option maxRecDepth 16384

noncomputable section

open Idealize.ShloMosaic Idealize.ShloMosaic.TcCoe Idealize.SL.Sem

namespace Cert.SbIdeal.Sb

open Cert.SbIdeal Cert.SbIdeal.Gen

variable (m : (ℓ : Loc nD τ sig) → Buf (Elt Ideal) ℓ) (c : Dev nD)

/-- Where each operand's block sits at a grid point, and which point that is. -/
theorem idx : ∀ t : Fin cfg0.N, win0_0.index t = ![t.val, 0] ∧ win0_1.index t = ![t.val / 16, 1] ∧ win0_2.index t = ![t.val / 16, 2] ∧ win0_3.index t = ![t.val, 0]
    ∧ (grid0.coords t 1).val = t.val % 16 ∧ t.val < 128 :=
  (by decide +kernel : ∀ t : Fin grid0.N, _)

/-- The projections the kernel is given. -/
def X : FVec Ideal S16384x3072 .bf16 := m ((c : Thread nD τ).loc main_arg0)

/-- The block of queries. -/
theorem blk0 (t : Fin cfg0.N) (i k : ℕ) (hi : i < 128) (hk : k < 1024) :
    at2 (iblk m c 0 t) i k = at2 (X m c) (128 * t.val + i) k := by
  obtain ⟨h0, h1, h2, h3, h4, h5⟩ := idx t
  unfold at2
  rw [dif_pos ⟨hi, hk⟩, dif_pos ⟨by omega, by omega⟩]
  unfold X
  blk_point [iblk, V, idx t]

/-- The block of keys. -/
theorem blk1 (t : Fin cfg0.N) (i k : ℕ) (hi : i < 2048) (hk : k < 1024) :
    at2 (iblk m c 1 t) i k = at2 (X m c) (2048 * (t.val / 16) + i) (1024 + k) := by
  obtain ⟨h0, h1, h2, h3, h4, h5⟩ := idx t
  unfold at2
  rw [dif_pos ⟨hi, hk⟩, dif_pos ⟨by omega, by omega⟩]
  unfold X
  blk_point [iblk, V, idx t]

/-- The block of values. -/
theorem blk2 (t : Fin cfg0.N) (i k : ℕ) (hi : i < 2048) (hk : k < 1024) :
    at2 (iblk m c 2 t) i k = at2 (X m c) (2048 * (t.val / 16) + i) (2048 + k) := by
  obtain ⟨h0, h1, h2, h3, h4, h5⟩ := idx t
  unfold at2
  rw [dif_pos ⟨hi, hk⟩, dif_pos ⟨by omega, by omega⟩]
  unfold X
  blk_point [iblk, V, idx t]

/-- An entry read outside its array is zero. -/
theorem at2_out {a b : ℕ} (x : (⟨2, ![a, b]⟩ : Shape).Idx → EReal) (r k : ℕ) (h : ¬ (r < a ∧ k < b)) : at2 x r k = 0 := dif_neg h

/-- An entry read inside it is that entry. -/
theorem at2_in {a b : ℕ} (x : (⟨2, ![a, b]⟩ : Shape).Idx → EReal) (r k : ℕ) (h : r < a ∧ k < b) : at2 x r k = x (ix2 ⟨r, h.1⟩ ⟨k, h.2⟩) := dif_pos h

section
variable (hX : ∀ r k, k < 2048 → ∃ q : ℝ, at2 (X m c) r k = q)

include hX in
/-- The scores at a grid point are reals. -/
theorem zr_real (t : Fin cfg0.N) (i h k : ℕ) : ∃ r : ℝ, zr (iblk m c 0 t) (iblk m c 1 t) i h k = r := by
  have hq : ∀ i k, ∃ q : ℝ, at2 (iblk m c 0 t) i k = q := fun i k => by
    by_cases hh : i < 128 ∧ k < 1024
    · rw [blk0 m c t i k hh.1 hh.2]; exact hX _ _ (by omega)
    · exact ⟨0, at2_out _ _ _ hh⟩
  have hk : ∀ i k, ∃ q : ℝ, at2 (iblk m c 1 t) i k = q := fun i k => by
    by_cases hh : i < 2048 ∧ k < 1024
    · rw [blk1 m c t i k hh.1 hh.2]; exact hX _ _ (by omega)
    · exact ⟨0, at2_out _ _ _ hh⟩
  unfold zr
  obtain ⟨s, hs⟩ := Stick.sum_real Finset.univ (fun e : Fin 128 => at2 (iblk m c 0 t) i (128 * h + e.val) * at2 (iblk m c 1 t) k (128 * h + e.val)) (fun e => by
    obtain ⟨a, ha⟩ := hq i (128 * h + e.val)
    obtain ⟨b, hb⟩ := hk k (128 * h + e.val)
    exact ⟨a * b, by rw [ha, hb, EReal.coe_mul]⟩)
  obtain ⟨q, hq⟩ := Cert.Pre_finite_qk.scale_real
  exact ⟨s * q, by rw [hs, hq, EReal.coe_mul]⟩

/-- They are the layer's scores of that query. -/
theorem zr_row (t : Fin cfg0.N) (i h : ℕ) (hi : i < 128) (hh : h < 8) (hb : t.val / 16 < 8) (hr : 128 * (t.val % 16) + i < 2048) (k : ℕ) :
    zr (iblk m c 0 t) (iblk m c 1 t) i h k
      = SbRefIdeal.zrow (SbRefIdeal.scores (SbRefIdeal.part0 (X m c)) (SbRefIdeal.part1 (X m c))) ⟨t.val / 16, hb⟩ ⟨h, hh⟩ ⟨128 * (t.val % 16) + i, hr⟩ k := by
  unfold zr SbRefIdeal.zrow
  by_cases hk : k < 2048
  · rw [dif_pos hk, SbRefIdeal.scores_at]
    congr 1
    refine Finset.sum_congr rfl fun e _ => ?_
    have he := e.isLt
    rw [SbRefIdeal.part0_at, SbRefIdeal.part1_at, blk0 m c t _ _ hi (by omega), blk1 m c t _ _ hk (by omega), at2_in _ _ _ ⟨by omega, by omega⟩, at2_in _ _ _ ⟨by omega, by omega⟩]
    refine congrArg₂ (fun p q : EReal => p * q) ?_ ?_
    · exact congrArg₂ (fun p q => X m c (ix2 p q)) (Fin.ext (by dsimp only; omega)) (Fin.ext (by dsimp only))
    · exact congrArg₂ (fun p q => X m c (ix2 p q)) (Fin.ext (by dsimp only)) (Fin.ext (by dsimp only; omega))
  · rw [dif_neg hk]
    rw [Finset.sum_eq_zero fun e _ => ?_, zero_mul]
    rw [at2_out (iblk m c 1 t) _ _ (by omega), mul_zero]

include hX in
/-- The sums a grid point ends with are the layer's results of its rows. -/
theorem inv_result (t : Fin cfg0.N) (y : S128x1024.Idx) (R : S16384x1024.Idx) (e0 : (R 0).val = 128 * t.val + (y 0).val) (e1 : (R 1).val = (y 1).val) :
    inv6 (iblk m c 0 t) (iblk m c 1 t) (iblk m c 2 t) (grid0.coords t 1).val 0 y
      = SbRefIdeal.result (SbRefIdeal.weights (SbRefIdeal.scores (SbRefIdeal.part0 (X m c)) (SbRefIdeal.part1 (X m c)))) (SbRefIdeal.part2 (X m c)) R := by
  obtain ⟨h0, h1, h2, h3, h4, h5⟩ := idx t
  have y0 : (y 0).val < 128 := (y 0).isLt
  have y1 : (y 1).val < 1024 := (y 1).isLt
  have hb : t.val / 16 < 8 := by omega
  have hr : 128 * (t.val % 16) + (y 0).val < 2048 := by omega
  have hh : (y 1).val / 128 < 8 := by omega
  have hrow : zr (iblk m c 0 t) (iblk m c 1 t) (y 0).val ((y 1).val / 128)
      = SbRefIdeal.zrow (SbRefIdeal.scores (SbRefIdeal.part0 (X m c)) (SbRefIdeal.part1 (X m c))) ⟨t.val / 16, hb⟩ ⟨(y 1).val / 128, hh⟩ ⟨128 * (t.val % 16) + (y 0).val, hr⟩ :=
    funext fun k => zr_row m c t _ _ y0 hh hb hr k
  have hz := zr_real m c hX t (y 0).val ((y 1).val / 128)
  rw [hrow] at hz
  unfold inv6
  rw [hrow, h4, Nat.mul_zero, Nat.Ico_zero_eq_range, ← Fin.sum_univ_eq_sum_range (fun k => Stick.A _ _ k * at2 (iblk m c 2 t) k (y 1).val) 2048]
  refine Eq.trans ?_ ((SbRefIdeal.result_at _ _ (R 0) (R 1)).symm.trans (congrArg _ (ValueIdx.eq_ix2 (n0 := 16384) (n1 := 1024) R).symm))
  refine Finset.sum_congr rfl fun k _ => ?_
  have c0 : (⟨(R 0).val / 2048, by omega⟩ : Fin 8) = ⟨t.val / 16, hb⟩ := Fin.ext (by dsimp only; omega)
  have c1 : (⟨(R 1).val / 128, by omega⟩ : Fin 8) = ⟨(y 1).val / 128, hh⟩ := Fin.ext (by dsimp only; omega)
  have c2 : (⟨(R 0).val % 2048, by omega⟩ : Fin 2048) = ⟨128 * (t.val % 16) + (y 0).val, hr⟩ := Fin.ext (by dsimp only; omega)
  rw [c0, c1, c2, SbRefIdeal.weights_at _ _ _ _ _ hz, SbRefIdeal.part2_at, blk2 m c t _ _ k.isLt y1, at2_in _ _ _ ⟨by omega, by omega⟩]
  exact congrArg _ (congrArg₂ (fun p q => X m c (ix2 p q)) (Fin.ext (by dsimp only)) (Fin.ext (by dsimp only; omega)))

include hX in
/-- The result array is the layer's. -/
theorem final : (dats m 0 c).arrAt 3 (cfgs 0).N
    = SbRefIdeal.result (SbRefIdeal.weights (SbRefIdeal.scores (SbRefIdeal.part0 (X m c)) (SbRefIdeal.part1 (X m c)))) (SbRefIdeal.part2 (X m c)) := by
  refine (dats m 0 c).arrAt_eq_of_covers 3 _ (by decide +kernel) fun t _ y => ?_
  blk_simp
  rw [after0_3]
  refine (outs_at m c t (zr_real m c hX t) y).trans (inv_result m c hX t y _ ?_ ?_)
  · blk_simp [idx t]
    omega
  · blk_simp [idx t]

/-- Under the precondition, so it is. -/
theorem final_pre (h : Cert.Pre_finite_qk.fn (F := Ideal) (X m c) = fun _ => 1#1) : (dats m 0 c).arrAt 3 (cfgs 0).N
    = SbRefIdeal.result (SbRefIdeal.weights (SbRefIdeal.scores (SbRefIdeal.part0 (X m c)) (SbRefIdeal.part1 (X m c)))) (SbRefIdeal.part2 (X m c)) :=
  final m c fun r k hk => by
    by_cases hh : r < 16384
    · rw [at2_in _ _ _ ⟨hh, by omega⟩]
      exact Cert.Pre_finite_qk.real _ h ⟨r, hh⟩ ⟨k, by omega⟩ hk
    · exact ⟨0, at2_out _ _ _ fun hn => hh hn.1⟩

end

end Cert.SbIdeal.Sb

end
-- ==== Proof.ClaimSb.lean ====
/-
  The claims of stick-breaking attention: its programs end, and the kernel's results are the layer's
  where every query and key entry is a real number.
-/
module

public import proofs.«01_k».proof.Defs
public import proofs.«01_k».proof.Proof.Gen.Sb
public import proofs.«01_k».proof.Proof.Gen.Sb.Frame
public import proofs.«01_k».proof.Proof.Gen.SbIdeal
public import proofs.«01_k».proof.Proof.Gen.SbIdeal.Frame
public import proofs.«01_k».proof.Proof.Gen.SbIdeal.Value
public import proofs.«01_k».proof.Proof.Gen.SbRefIdeal
public import proofs.«01_k».proof.Proof.Gen.SbRefIdeal.Run
public import proofs.«01_k».proof.Proof.SbResult
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of stick-breaking attention ends and leaves its argument. -/
theorem quiescent_Sb : Cert.quiescent_Sb (hSb := Cert.Sb.Gen.facts) := fun m g _ => Cert.Sb.Gen.frame m g

/-- So does the kernel over the reals. -/
theorem quiescent_SbIdeal : Cert.quiescent_SbIdeal (hSbIdeal := Cert.SbIdeal.Gen.facts) := fun m g _ => Cert.SbIdeal.Gen.frame m g

/-- So it does under the precondition. -/
theorem quiescent_SbIdeal_pre_finite_qk : Cert.quiescent_SbIdeal_pre_finite_qk (hSbIdeal := Cert.SbIdeal.Gen.facts) (hPre_finite_qk := Cert.Pre_finite_qk.facts) :=
  fun m g _ => Cert.SbIdeal.Gen.frame m g

/-- So does the layer's own text. -/
theorem quiescent_SbRefIdeal : Cert.quiescent_SbRefIdeal (hSbRefIdeal := Cert.SbRefIdeal.Gen.facts) := fun m g _ =>
  (θ_run Cert.SbRefIdeal.defs _ _).mono (fun r h => ⟨fun c => (h c).2, sem_eq_zero_of_no_sems (by decide) r.2⟩) (Cert.SbRefIdeal.Value.run m g)

/-- So does that text under the precondition. -/
theorem quiescent_SbRefIdeal_pre_finite_qk : Cert.quiescent_SbRefIdeal_pre_finite_qk (hSbRefIdeal := Cert.SbRefIdeal.Gen.facts) (hPre_finite_qk := Cert.Pre_finite_qk.facts) :=
  fun m g _ => quiescent_SbRefIdeal m g trivial

/-- The kernel's results over the reals are those of the layer's text, where queries and keys are reals. -/
theorem algebraic_SbIdeal_SbRefIdeal_pre_finite_qk : Cert.algebraic_SbIdeal_SbRefIdeal_pre_finite_qk (hSbIdeal := Cert.SbIdeal.Gen.facts) (hSbRefIdeal := Cert.SbRefIdeal.Gen.facts) (hPre_finite_qk := Cert.Pre_finite_qk.facts) := by
  pair_intro
  · run_from Cert.SbIdeal.Gen.run_main m g
  · run_from Cert.SbRefIdeal.Value.run m' g'
    rw [Cert.SbRefIdeal.value]
    simp only [hagree c]
    exact (Cert.SbIdeal.Sb.final_pre m c (hpre c)).symm

end Cert.Proof

end
-- ==== Proof.PrepRef.lean ====
/-
  The recurrent branch's preparation, as the layer writes it: the projection, its mix with the step before, and the five results made of it, entry by entry.
-/
module

public import proofs.«01_k».proof.Proof.Gen.PrepRefIdeal
public import proofs.«01_k».proof.Proof.Gen.PrepRefIdeal.Run
public import Idealize.ShloMosaic.Lib.Pipeline.ValueKit

@[expose] public section

set_option maxRecDepth 16384

noncomputable section

open Idealize.ShloMosaic Idealize.ShloMosaic.TcCoe Idealize.SL.Sem

namespace Cert.PrepRefIdeal

open Cert.PrepRefIdeal.Gen

/-- The projection, sequence by sequence. -/
def proj (a0 : FVec Ideal S16384x2048 .bf16) (a1 : FVec Ideal S2048x13088 .f32) : FVec Ideal S8x2048x3360 .f32 :=
  shapeCast S8x2048x3360 (Host.dotGeneral dot_S16384x2048_S2048x3360_S16384x3360_1_0_0_1_n_n none (extf .f32 a0 bitsLt_bf16_f32) (extractStridedSlice S2048x3360 ![0, 9728] a1 slices_S2048x13088_S2048x3360_0_9728)) shapeCasts_S16384x3360_S8x2048x3360

/-- The projection mixed with the step before. -/
def mixed (a0 : FVec Ideal S16384x2048 .bf16) (a1 : FVec Ideal S2048x13088 .f32) (a2 : FVec Ideal S3360 .f32) : FVec Ideal S16384x3360 .f32 :=
  shapeCast S16384x3360 (addf (proj a0 a1) (mulf (subf (extractStridedSlice S8x2048x3360 ![0, 0, 0] (pad S8x2049x3360 ![0, 1, 0] ![0, 0, 0] ![0, 0, 0] (proj a0 a1) (sitofp .f32 (constantI S_ 32 0#32)) pads_S8x2048x3360_S8x2049x3360_000_100_000 h_S_) slices_S8x2049x3360_S8x2048x3360_0_0_0) (proj a0 a1)) (broadcastInDim S8x2048x3360 ![0, 1, 2] bcast_S1x1x3360_S8x2048x3360_0_1_2 (broadcastInDim S1x1x3360 ![2] bcast_S3360_S1x1x3360_2 a2)))) shapeCasts_S8x2048x3360_S16384x3360

/-- The receptance. -/
def recep (x : FVec Ideal S16384x3360 .f32) : FVec Ideal S16384x1024 .bf16 :=
  truncf .bf16 (extractStridedSlice S16384x1024 ![0, 0] x slices_S16384x3360_S16384x1024_0_0) bitsLt_bf16_f32

/-- What drives the decay, negated. -/
def drive (x : FVec Ideal S16384x3360 .f32) (a3 : FVec Ideal S1024 .f32) (a4 : FVec Ideal S64x1024 .f32) : FVec Ideal S16384x1024 .f32 :=
  Host.negf (addf (broadcastInDim S16384x1024 ![0, 1] bcast_S1x1024_S16384x1024_0_1 (broadcastInDim S1x1024 ![1] bcast_S1024_S1x1024_1 a3)) (Host.dotGeneral dot_S16384x64_S64x1024_S16384x1024_1_0_0_1_n_n none (Host.tanh (extractStridedSlice S16384x64 ![0, 3072] x slices_S16384x3360_S16384x64_0_3072)) a4))

/-- The logarithm of the decay. -/
def logDecay (x : FVec Ideal S16384x3360 .f32) (a3 : FVec Ideal S1024 .f32) (a4 : FVec Ideal S64x1024 .f32) : FVec Ideal S16384x1024 .f32 :=
  Host.negf (Host.exp (subf (Host.negf (select (cmpf .une (subf (drive x a3 a4) (broadcastInDim S16384x1024 ![] bcast_S_S16384x1024 (constant S_ .f32 0x00000000#32))) (subf (drive x a3 a4) (broadcastInDim S16384x1024 ![] bcast_S_S16384x1024 (constant S_ .f32 0x00000000#32)))) (addf (drive x a3 a4) (broadcastInDim S16384x1024 ![] bcast_S_S16384x1024 (constant S_ .f32 0x00000000#32))) (addf (maximumf (drive x a3 a4) (broadcastInDim S16384x1024 ![] bcast_S_S16384x1024 (constant S_ .f32 0x00000000#32))) (Host.log1p (Host.exp (Host.negf (Host.absf (subf (drive x a3 a4) (broadcastInDim S16384x1024 ![] bcast_S_S16384x1024 (constant S_ .f32 0x00000000#32)))))))))) (broadcastInDim S16384x1024 ![] bcast_S_S16384x1024 (constant S_ .f32 0x3F000000#32))))

/-- The learning rate. -/
def rate (x : FVec Ideal S16384x3360 .f32) (a5 : FVec Ideal S1024 .f32) (a6 : FVec Ideal S64x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (broadcastInDim S16384x1024 ![0, 1] bcast_S1x1024_S16384x1024_0_1 (broadcastInDim S1x1024 ![1] bcast_S1024_S1x1024_1 a5)) (Host.dotGeneral dot_S16384x64_S64x1024_S16384x1024_1_0_0_1_n_n none (extractStridedSlice S16384x64 ![0, 3136] x slices_S16384x3360_S16384x64_0_3136) a6)))))

/-- The key. -/
def key (x : FVec Ideal S16384x3360 .f32) (a5 : FVec Ideal S1024 .f32) (a6 : FVec Ideal S64x1024 .f32) (a9 : FVec Ideal S1024 .f32) : FVec Ideal S16384x1024 .bf16 :=
  truncf .bf16 (mulf (extractStridedSlice S16384x1024 ![0, 1024] x slices_S16384x3360_S16384x1024_0_1024) (addf (broadcastInDim S16384x1024 ![] bcast_S_S16384x1024 (constant S_ .f32 0x3F800000#32)) (mulf (subf (rate x a5 a6) (broadcastInDim S16384x1024 ![] bcast_S_S16384x1024 (constant S_ .f32 0x3F800000#32))) (broadcastInDim S16384x1024 ![0, 1] bcast_S1x1024_S16384x1024_0_1 (broadcastInDim S1x1024 ![1] bcast_S1024_S1x1024_1 a9))))) bitsLt_bf16_f32

/-- The value. -/
def val (x : FVec Ideal S16384x3360 .f32) : FVec Ideal S16384x1024 .f32 :=
  extractStridedSlice S16384x1024 ![0, 2048] x slices_S16384x3360_S16384x1024_0_2048

/-- The gate. -/
def gate (x : FVec Ideal S16384x3360 .f32) (a7 : FVec Ideal S160x1024 .f32) : FVec Ideal S16384x1024 .bf16 :=
  truncf .bf16 (Host.dotGeneral dot_S16384x160_S160x1024_S16384x1024_1_0_0_1_n_n none (Host.divf (broadcastInDim S16384x160 ![] bcast_S_S16384x160 (constant S_ .f32 0x3F800000#32)) (addf (broadcastInDim S16384x160 ![] bcast_S_S16384x160 (constant S_ .f32 0x3F800000#32)) (Host.exp (Host.negf (extractStridedSlice S16384x160 ![0, 3200] x slices_S16384x3360_S16384x160_0_3200))))) a7) bitsLt_bf16_f32

/-- An entry of the projection. -/
def entry (a0 : FVec Ideal S16384x2048 .bf16) (a1 : FVec Ideal S2048x13088 .f32) (r : Fin 16384) (k : Fin 3360) : EReal :=
  ∑ e : Fin 2048, a0 (ix2 r e) * a1 (ix2 e ⟨9728 + k.val, by omega⟩)

/-- The entry one step before, nothing before the sequence's start. -/
def before (a0 : FVec Ideal S16384x2048 .bf16) (a1 : FVec Ideal S2048x13088 .f32) (r : Fin 16384) (k : Fin 3360) : EReal :=
  if h : 1 ≤ r.val % 2048 then entry a0 a1 ⟨r.val - 1, by omega⟩ k else 0

/-- The mix at a row and a column. -/
def mixAt (a0 : FVec Ideal S16384x2048 .bf16) (a1 : FVec Ideal S2048x13088 .f32) (a2 : FVec Ideal S3360 .f32) (r : Fin 16384) (k : Fin 3360) : EReal :=
  entry a0 a1 r k + (before a0 a1 r k - entry a0 a1 r k) * a2 (ix1 k)

/-- The logarithm of the decay an argument drives. -/
def decayOf (d : EReal) : EReal :=
  -Ideal.exp (-(max (-d) 0 + Ideal.log1p (Ideal.exp (-(FloatOps.absf (F := Ideal) (φ := .f32) (-d))))) - Ideal.ofBits .f32 0x3F000000#32)

/-- The padding is zero. -/
theorem zero_word : (FloatOps.sitofp FTy.f32 0#32 : Ideal .f32) = (0 : EReal) := by
  simp [FloatOps.sitofp]

/-- The projection, entry by entry. -/
theorem proj_at (a0 : FVec Ideal S16384x2048 .bf16) (a1 : FVec Ideal S2048x13088 .f32) (b : Fin 8) (s : Fin 2048) (k : Fin 3360) :
    proj a0 a1 (ix3 b s k) = entry a0 a1 ⟨b.val * 2048 + s.val, by omega⟩ k := by
  pointwise [proj, entry]

/-- The mix, entry by entry. -/
theorem mixed_at (a0 : FVec Ideal S16384x2048 .bf16) (a1 : FVec Ideal S2048x13088 .f32) (a2 : FVec Ideal S3360 .f32) (r : Fin 16384) (k : Fin 3360) :
    mixed a0 a1 a2 (ix2 r k) = mixAt a0 a1 a2 r k := by
  have e : (⟨r.val / 2048 * 2048 + r.val % 2048, by omega⟩ : Fin 16384) = r := Fin.ext (by dsimp only; omega)
  pointwise [mixed, mixAt, before, proj_at]
  simp only [e]
  refine congrArg (entry a0 a1 r k + ·) (congrArg (· * _) (congrArg (· - _) ?_))
  split_ifs with p q q
  · exact congrArg (fun r => entry a0 a1 r k) (Fin.ext (by dsimp only; omega))
  · exfalso; omega
  · exfalso; omega
  · exact zero_word

/-- The receptance, entry by entry. -/
theorem recep_at (x : FVec Ideal S16384x3360 .f32) (r : Fin 16384) (k : Fin 1024) : recep x (ix2 r k) = x (ix2 r ⟨k.val, by omega⟩) := by
  pointwise [recep]

/-- The value, entry by entry. -/
theorem val_at (x : FVec Ideal S16384x3360 .f32) (r : Fin 16384) (k : Fin 1024) : val x (ix2 r k) = x (ix2 r ⟨2048 + k.val, by omega⟩) := by
  pointwise [val]

/-- What drives the decay, entry by entry. -/
theorem drive_at (x : FVec Ideal S16384x3360 .f32) (a3 : FVec Ideal S1024 .f32) (a4 : FVec Ideal S64x1024 .f32) (r : Fin 16384) (k : Fin 1024) :
    drive x a3 a4 (ix2 r k) = -(a3 (ix1 k) + ∑ e : Fin 64, Ideal.tanh (x (ix2 r ⟨3072 + e.val, by omega⟩)) * a4 (ix2 e k)) := by
  pointwise [drive]

/-- The logarithm of the decay, entry by entry. -/
theorem logDecay_at (x : FVec Ideal S16384x3360 .f32) (a3 : FVec Ideal S1024 .f32) (a4 : FVec Ideal S64x1024 .f32) (r : Fin 16384) (k : Fin 1024) :
    logDecay x a3 a4 (ix2 r k) = decayOf (a3 (ix1 k) + ∑ e : Fin 64, Ideal.tanh (x (ix2 r ⟨3072 + e.val, by omega⟩)) * a4 (ix2 e k)) := by
  unfold decayOf
  rw [← drive_at]
  pointwise [logDecay]
  rw [if_neg (not_not.mpr rfl)]

/-- The learning rate, entry by entry. -/
theorem rate_at (x : FVec Ideal S16384x3360 .f32) (a5 : FVec Ideal S1024 .f32) (a6 : FVec Ideal S64x1024 .f32) (r : Fin 16384) (k : Fin 1024) :
    rate x a5 a6 (ix2 r k) = Ideal.logistic (a5 (ix1 k) + ∑ e : Fin 64, x (ix2 r ⟨3136 + e.val, by omega⟩) * a6 (ix2 e k)) := by
  pointwise [rate, Ideal.logistic]

/-- The key, entry by entry. -/
theorem key_at (x : FVec Ideal S16384x3360 .f32) (a5 : FVec Ideal S1024 .f32) (a6 : FVec Ideal S64x1024 .f32) (a9 : FVec Ideal S1024 .f32) (r : Fin 16384) (k : Fin 1024) :
    key x a5 a6 a9 (ix2 r k) = x (ix2 r ⟨1024 + k.val, by omega⟩) * (1 + (rate x a5 a6 (ix2 r k) - 1) * a9 (ix1 k)) := by
  pointwise [key]

/-- The gate, entry by entry. -/
theorem gate_at (x : FVec Ideal S16384x3360 .f32) (a7 : FVec Ideal S160x1024 .f32) (r : Fin 16384) (k : Fin 1024) :
    gate x a7 (ix2 r k) = ∑ e : Fin 160, Ideal.logistic (x (ix2 r ⟨3200 + e.val, by omega⟩)) * a7 (ix2 e k) := by
  pointwise [gate, Ideal.logistic]

end Cert.PrepRefIdeal

end
-- ==== Proof.Prep.lean ====
/-
  The recurrent branch's preparation: the rows the kernel stores are those of the layer's five results.
-/
module

public import proofs.«01_k».proof.Proof.Gen.PrepIdeal.Frame
public import proofs.«01_k».proof.Proof.Gen.PrepIdeal.Value
public import proofs.«01_k».proof.Proof.PrepRef
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem

namespace Cert.PrepIdeal.Prep

open Cert.PrepIdeal Cert.PrepIdeal.Gen Cert.PrepRefIdeal

/-! The weights as the call pads them with zeros. -/

/-- The projection's columns. -/
def padW (a1 : FVec Ideal S2048x13088 .f32) : FVec Ideal S2048x3584 .bf16 :=
  truncf .bf16 (pad S2048x3584 ![0, 0] ![0, 224] ![0, 0] (extractStridedSlice S2048x3360 ![0, 9728] a1 slices_S2048x13088_S2048x3360_0_9728) (sitofp .f32 (constantI S_ 32 0#32)) pads_S2048x3360_S2048x3584_000_02240 h_S_) bitsLt_bf16_f32

/-- The mixing weights. -/
def padMu (a2 : FVec Ideal S3360 .f32) : FVec Ideal S1x3584 .f32 :=
  shapeCast S1x3584 (pad S3584 ![0] ![224] ![0] a2 (sitofp .f32 (constantI S_ 32 0#32)) pads_S3360_S3584_02240 h_S_) shapeCasts_S3584_S1x3584

/-- The decay's weights. -/
def padWup (a4 : FVec Ideal S64x1024 .f32) : FVec Ideal S128x1024 .bf16 :=
  truncf .bf16 (pad S128x1024 ![0, 0] ![64, 0] ![0, 0] a4 (sitofp .f32 (constantI S_ 32 0#32)) pads_S64x1024_S128x1024_0640_000 h_S_) bitsLt_bf16_f32

/-- The learning rate's weights. -/
def padAup (a6 : FVec Ideal S64x1024 .f32) : FVec Ideal S128x1024 .bf16 :=
  truncf .bf16 (pad S128x1024 ![64, 0] ![0, 0] ![0, 0] a6 (sitofp .f32 (constantI S_ 32 0#32)) pads_S64x1024_S128x1024_6400_000 h_S_) bitsLt_bf16_f32

/-- The gate's weights. -/
def padGup (a7 : FVec Ideal S160x1024 .f32) : FVec Ideal S256x1024 .bf16 :=
  truncf .bf16 (pad S256x1024 ![0, 0] ![96, 0] ![0, 0] a7 (sitofp .f32 (constantI S_ 32 0#32)) pads_S160x1024_S256x1024_0960_000 h_S_) bitsLt_bf16_f32

/-- The projection's columns, entry by entry. -/
theorem padW_at (a1 : FVec Ideal S2048x13088 .f32) (e : Fin 2048) (k : Fin 3584) (hk : k.val < 3360) : padW a1 (ix2 e k) = a1 (ix2 e ⟨9728 + k.val, by omega⟩) := by
  pointwise [padW]
  rw [dif_pos (by omega)]

/-- The mixing weights, entry by entry. -/
theorem padMu_at (a2 : FVec Ideal S3360 .f32) (k : Fin 3584) (hk : k.val < 3360) : padMu a2 (ix2 0 k) = a2 (ix1 ⟨k.val, hk⟩) := by
  pointwise [padMu]
  rw [dif_pos (by omega)]

/-- The decay's weights, entry by entry. -/
theorem padWup_at (a4 : FVec Ideal S64x1024 .f32) (e : Fin 64) (k : Fin 1024) : padWup a4 (ix2 ⟨e.val, by omega⟩ k) = a4 (ix2 e k) := by
  pointwise [padWup]

/-- Past them are zeros. -/
theorem padWup_zero (a4 : FVec Ideal S64x1024 .f32) (e : Fin 64) (k : Fin 1024) : padWup a4 (ix2 ⟨64 + e.val, by omega⟩ k) = (0 : EReal) := by
  pointwise [padWup]
  exact zero_word

/-- The learning rate's weights, entry by entry. -/
theorem padAup_at (a6 : FVec Ideal S64x1024 .f32) (e : Fin 64) (k : Fin 1024) : padAup a6 (ix2 ⟨64 + e.val, by omega⟩ k) = a6 (ix2 e k) := by
  pointwise [padAup]

/-- Before them are zeros. -/
theorem padAup_zero (a6 : FVec Ideal S64x1024 .f32) (e : Fin 64) (k : Fin 1024) : padAup a6 (ix2 ⟨e.val, by omega⟩ k) = (0 : EReal) := by
  pointwise [padAup]
  rw [dif_neg fun h => h.1]
  exact zero_word

/-- The gate's weights, entry by entry. -/
theorem padGup_at (a7 : FVec Ideal S160x1024 .f32) (e : Fin 160) (k : Fin 1024) : padGup a7 (ix2 ⟨e.val, by omega⟩ k) = a7 (ix2 e k) := by
  pointwise [padGup]

/-- Past them are zeros. -/
theorem padGup_zero (a7 : FVec Ideal S160x1024 .f32) (e : Fin 96) (k : Fin 1024) : padGup a7 (ix2 ⟨160 + e.val, by omega⟩ k) = (0 : EReal) := by
  pointwise [padGup]
  exact zero_word

/-- A sum whose second half is zero. -/
theorem sum_first (f : Fin 128 → EReal) (h : ∀ e : Fin 64, f ⟨64 + e.val, by omega⟩ = 0) : ∑ e, f e = ∑ e : Fin 64, f ⟨e.val, by omega⟩ := by
  refine (Fin.sum_univ_add (a := 64) (b := 64) f).trans ?_
  rw [Finset.sum_eq_zero (s := Finset.univ) (f := fun e : Fin 64 => f (Fin.natAdd 64 e)) fun e _ => h e, add_zero]
  rfl

/-- A sum whose first half is zero. -/
theorem sum_second (f : Fin 128 → EReal) (h : ∀ e : Fin 64, f ⟨e.val, by omega⟩ = 0) : ∑ e, f e = ∑ e : Fin 64, f ⟨64 + e.val, by omega⟩ := by
  refine (Fin.sum_univ_add (a := 64) (b := 64) f).trans ?_
  rw [Finset.sum_eq_zero (s := Finset.univ) (f := fun e : Fin 64 => f (Fin.castAdd 64 e)) fun e _ => h e, zero_add]
  rfl

/-- A sum whose terms past the first 160 are zero. -/
theorem sum_160 (f : Fin 256 → EReal) (h : ∀ e : Fin 96, f ⟨160 + e.val, by omega⟩ = 0) : ∑ e, f e = ∑ e : Fin 160, f ⟨e.val, by omega⟩ := by
  refine (Fin.sum_univ_add (a := 160) (b := 96) f).trans ?_
  rw [Finset.sum_eq_zero (s := Finset.univ) (f := fun e : Fin 96 => f (Fin.natAdd 160 e)) fun e _ => h e, add_zero]
  rfl

/-! The rows carried from one block to the next. -/

/-- A row block of the projection. -/
abbrev Block := Vec Ideal S256x3584 .f32

/-- The rows `d` steps earlier: of the block itself, or of the eight rows before it. -/
def shifted (d : ℕ) (prev : Fin 8 → Fin 3584 → EReal) (w : Block) (r : Fin 256) (k : Fin 3584) : EReal :=
  if d ≤ r.val then w (ix2 ⟨r.val - d, by omega⟩ k) else prev ⟨(8 - d + r.val) % 8, Nat.mod_lt _ (by decide)⟩ k

/-- Reading 256 rows from row `8 - d` on, over the buffer as it was and a block stored from row 8 on. -/
theorem read_over {κ : Kind} {sp : Space} (v : View sig κ sp S264x3584 .f32) (f : v.ty.Contents (Elt Ideal)) (L : List (View.Piece (Elt Ideal) S264x3584 .f32)) (w : Block) (inb) (d : ℕ) (hd : d ≤ 8)
    (prev : Fin 8 → Fin 3584 → EReal) (hp : ∀ (i : Fin 8) (k : Fin 3584), v.read (Elt Ideal) (v.writes (Elt Ideal) f L) (ix2 ⟨i.val, by omega⟩ k) = prev i k)
    (z : S264x3584.Idx) (r : Fin 256) (k : Fin 3584) (h0 : (z 0).val = 8 - d + r.val) (h1 : (z 1).val = k.val) :
    v.read (Elt Ideal) (v.writes (Elt Ideal) f ((⟨Rect.unit (s := S264x3584) ![8, 0] ![256, 3584] inb, w⟩ : View.Piece (Elt Ideal) S264x3584 .f32) :: L)) z
      = shifted d prev w r k := by
  unfold shifted
  split
  · rename_i hr
    exact View.read_writes_cons_rows_of_mem v f inb w L z (ix2 ⟨r.val - d, by omega⟩ k) rfl (by show (z 0).val = 8 + (r.val - d); omega) h1
  · rename_i hr
    refine (View.read_writes_cons_rows_of_not_mem (W := 256) v f inb w L z rfl rfl (Or.inl (by show (z 0).val < 8; omega))).trans ?_
    refine Eq.trans ?_ (hp _ k)
    refine congrArg _ (funext fun a => Fin.ext ?_)
    match a with
    | ⟨0, _⟩ => show (z 0).val = (8 - d + r.val) % 8; omega
    | ⟨1, _⟩ => exact h1

/-- So a load through the buffer. -/
theorem load_over {κ : Kind} {sp : Space} (v : View sig κ sp S264x3584 .f32) (f : v.ty.Contents (Elt Ideal)) (w : Block) (inb) (o : ℕ) (inb') (ho : o ≤ 8)
    (prev : Fin 8 → Fin 3584 → EReal) (hp : ∀ (i : Fin 8) (k : Fin 3584), v.read (Elt Ideal) f (ix2 ⟨i.val, by omega⟩ k) = prev i k) (r : Fin 256) (k : Fin 3584) :
    View.ld (v.read (Elt Ideal) (v.writes (Elt Ideal) f [(⟨Rect.unit (s := S264x3584) ![8, 0] ![256, 3584] inb, w⟩ : View.Piece (Elt Ideal) S264x3584 .f32)]))
      (Rect.unit (s := S264x3584) ![o, 0] ![256, 3584] inb') (ix2 r k) = shifted (8 - o) prev w r k :=
  read_over v f [] w inb (8 - o) (by omega) prev hp _ r k
    ((Rect.idx_unit_val (s := S264x3584) ![o, 0] ![256, 3584] inb' (ix2 r k) 0).trans (by show o + r.val = _; omega))
    ((Rect.idx_unit_val (s := S264x3584) ![o, 0] ![256, 3584] inb' (ix2 r k) 1).trans (by show 0 + k.val = _; omega))

/-- And one after the first eight rows are filled with zeros. -/
theorem load_zero {κ : Kind} {sp : Space} (v : View sig κ sp S264x3584 .f32) (w : Block) (z : Vec Ideal S8x3584 .f32) (hz : ∀ x, z x = 0) (inb inbz) (o : ℕ) (inb') (ho : o ≤ 8) (r : Fin 256) (k : Fin 3584) :
    v.readCov [(⟨Rect.unit (s := S264x3584) ![8, 0] ![256, 3584] inb, w⟩ : View.Piece (Elt Ideal) S264x3584 .f32), ⟨Rect.unit (s := S264x3584) ![0, 0] ![8, 3584] inbz, z⟩]
      (Rect.unit (s := S264x3584) ![o, 0] ![256, 3584] inb').toLoadRect (ix2 r k) = shifted (8 - o) (fun _ _ => 0) w r k := by
  have hp : ∀ (i : Fin 8) (k : Fin 3584), v.read (Elt Ideal) (v.writes (Elt Ideal) v.junk [(⟨Rect.unit (s := S264x3584) ![0, 0] ![8, 3584] inbz, z⟩ : View.Piece (Elt Ideal) S264x3584 .f32)])
      (ix2 ⟨i.val, by omega⟩ k) = (fun _ _ => 0 : Fin 8 → Fin 3584 → EReal) i k := fun i k' =>
    (View.read_writes_cons_rows_of_mem v v.junk inbz z [] (ix2 ⟨i.val, by omega⟩ k') (ix2 i k') rfl (by show i.val = 0 + i.val; omega) rfl).trans (hz _)
  exact read_over v v.junk _ w inb (8 - o) (by omega) _ hp
    ((Rect.unit (s := S264x3584) ![o, 0] ![256, 3584] inb').toLoadRect.idx (ix2 r k)) r k
    ((Rect.idx_unit_val (s := S264x3584) ![o, 0] ![256, 3584] inb' (ix2 r k) 0).trans (by show o + r.val = _; omega))
    ((Rect.idx_unit_val (s := S264x3584) ![o, 0] ![256, 3584] inb' (ix2 r k) 1).trans (by show 0 + k.val = _; omega))

/-- The last eight rows of a stored block. -/
theorem load_last {κ : Kind} {sp : Space} (v : View sig κ sp S264x3584 .f32) (L : List (View.Piece (Elt Ideal) S264x3584 .f32)) (w : Block) (inb inb') (r : Fin 8) (k : Fin 3584) :
    v.readCov ((⟨Rect.unit (s := S264x3584) ![8, 0] ![256, 3584] inb, w⟩ : View.Piece (Elt Ideal) S264x3584 .f32) :: L)
      (Rect.unit (s := S264x3584) ![256, 0] ![8, 3584] inb').toLoadRect (ix2 r k) = w (ix2 ⟨248 + r.val, by omega⟩ k) :=
  View.read_writes_cons_rows_of_mem v v.junk inb w L ((Rect.unit (s := S264x3584) ![256, 0] ![8, 3584] inb').toLoadRect.idx (ix2 r k)) (ix2 ⟨248 + r.val, by omega⟩ k) rfl
    ((Rect.idx_unit_val (s := S264x3584) ![256, 0] ![8, 3584] inb' (ix2 r k) 0).trans (by show 256 + r.val = 8 + (248 + r.val); omega))
    ((Rect.idx_unit_val (s := S264x3584) ![256, 0] ![8, 3584] inb' (ix2 r k) 1).trans (by show 0 + k.val = k.val; omega))

/-- The buffer's first eight rows are the last stored there. -/
theorem first_rows (L : List (View.Piece (Elt Ideal) S264x3584 .f32)) (z : Vec Ideal S8x3584 .f32) (inb) (r : Fin 8) (k : Fin 3584) :
    View.canon ((⟨Rect.unit (s := S264x3584) ![0, 0] ![8, 3584] inb, z⟩ : View.Piece (Elt Ideal) S264x3584 .f32) :: L) (ix2 ⟨r.val, by omega⟩ k) = z (ix2 r k) := by
  refine Eq.trans (congrArg _ ?_) (View.canon_cons_emb (Rect.unit (s := S264x3584) ![0, 0] ![8, 3584] inb) z L (ix2 r k))
  funext a
  apply Fin.ext
  match a with
  | ⟨0, _⟩ => show r.val = 0 + 1 * r.val; omega
  | ⟨1, _⟩ => show k.val = 0 + 1 * k.val; omega

/-! What the body stores, at a row and a column. -/

/-- The product. -/
def prod (h : Vec Ideal S256x2048 .bf16) (w : Vec Ideal S2048x3584 .bf16) (r : Fin 256) (k : Fin 3584) : EReal :=
  ∑ e : Fin 2048, h (ix2 r e) * w (ix2 e k)

/-- The product, entry by entry. -/
theorem prod_at (h : Vec Ideal S256x2048 .bf16) (w : Vec Ideal S2048x3584 .bf16) (r : Fin 256) (k : Fin 3584) : k0_pay7 h w (ix2 r k) = prod h w r k := by
  pointwise [k0_pay7, k0_pay6, prod]

/-- The mix. -/
theorem mix_at (h : Vec Ideal S256x2048 .bf16) (w : Vec Ideal S2048x3584 .bf16) (y : Block) (u : Vec Ideal S1x3584 .f32) (r : Fin 256) (k : Fin 3584) :
    k0_pay8 h w y u (ix2 r k) = prod h w r k + (y (ix2 r k) - prod h w r k) * u (ix2 0 k) := by
  pointwise [k0_pay8, k0_pay6, prod]

/-- The receptance. -/
theorem kr_at (h : Vec Ideal S256x2048 .bf16) (w : Vec Ideal S2048x3584 .bf16) (y : Block) (u : Vec Ideal S1x3584 .f32) (r : Fin 256) (k : Fin 1024) :
    k0_pay39 (k0_pay9 h w y u) (ix2 r k) = k0_pay8 h w y u (ix2 r ⟨k.val, by omega⟩) := by
  pointwise [k0_pay39, k0_pay9]

/-- The value. -/
theorem kv_at (h : Vec Ideal S256x2048 .bf16) (w : Vec Ideal S2048x3584 .bf16) (y : Block) (u : Vec Ideal S1x3584 .f32) (r : Fin 256) (k : Fin 1024) :
    k0_pay11 h w y u (ix2 r k) = k0_pay8 h w y u (ix2 r ⟨2048 + k.val, by omega⟩) := by
  pointwise [k0_pay11]

/-- The learning rate. -/
theorem ka_at (x : Block) (b : Vec Ideal S1x1024 .f32) (w : Vec Ideal S128x1024 .bf16) (r : Fin 256) (k : Fin 1024) :
    k0_pay14 x b w (ix2 r k) = Ideal.logistic (b (ix2 0 k) + ∑ e : Fin 128, x (ix2 r ⟨3072 + e.val, by omega⟩) * w (ix2 e k)) := by
  pointwise [k0_pay14, k0_pay12]

/-- The key. -/
theorem kk_at (h : Vec Ideal S256x2048 .bf16) (w : Vec Ideal S2048x3584 .bf16) (y : Block) (u : Vec Ideal S1x3584 .f32) (a : Vec Ideal S256x1024 .f32) (s : Vec Ideal S1x1024 .f32) (r : Fin 256) (k : Fin 1024) :
    k0_pay40 (k0_pay27 (k0_pay10 h w y u) a s) (ix2 r k) = k0_pay8 h w y u (ix2 r ⟨1024 + k.val, by omega⟩) * (1 + (a (ix2 r k) - 1) * s (ix2 0 k)) := by
  pointwise [k0_pay40, k0_pay27, k0_pay10]

/-- The logarithm of the decay. -/
theorem kw_at (x : Block) (b : Vec Ideal S1x1024 .f32) (w : Vec Ideal S128x1024 .bf16) (r : Fin 256) (k : Fin 1024) :
    k0_pay13 x b w (ix2 r k) = decayOf (b (ix2 0 k) + ∑ e : Fin 128, Ideal.tanh (x (ix2 r ⟨3072 + e.val, by omega⟩)) * w (ix2 e k)) := by
  unfold decayOf
  pointwise [k0_pay13, k0_pay12]
  simp only [zero_sub]

/-- The gate. -/
theorem kg_at (x : Block) (w : Vec Ideal S256x1024 .bf16) (r : Fin 256) (k : Fin 1024) :
    k0_pay16 (k0_pay15 x) w (ix2 r k) = ∑ e : Fin 256, Ideal.logistic (x (ix2 r ⟨3200 + e.val, by omega⟩)) * w (ix2 e k) := by
  pointwise [k0_pay16, k0_pay15]

/-- The rows before a sequence's start are zero. -/
theorem zeros (x : S8x3584.Idx) : (k0_pay2 : FVec Ideal S8x3584 .f32) x = 0 := by
  pointwise [k0_pay2]

variable (m : (ℓ : Loc nD τ sig) → Buf (Elt Ideal) ℓ)

/-- Where each operand's block sits at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_9.index t = ![0, 0] ∧ win0_11.index t = ![t.val, 0] ∧ win0_12.index t = ![t.val, 0] ∧ win0_13.index t = ![t.val, 0] ∧ win0_14.index t = ![t.val, 0]
    ∧ win0_17.index t = ![t.val, 0] ∧ t.val < 64 :=
  (by decide +kernel : ∀ t : Fin grid0.N, _)

/-- The grid has 64 points. -/
theorem lt_64 (t : Fin cfg0.N) : t.val < 64 := by
  have h := idx t
  omega

/-! The operands the call reads, in terms of its arguments. -/

/-- The projection's columns the call reads. -/
theorem host1 (c : Dev nD) : V m c main_v2 = padW (m ((c : Thread nD τ).loc main_arg1)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- The mixing weights it reads. -/
theorem host2 (c : Dev nD) : V m c main_v11 = padMu (m ((c : Thread nD τ).loc main_arg2)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- The decay's weights it reads. -/
theorem host4 (c : Dev nD) : V m c main_v5 = padWup (m ((c : Thread nD τ).loc main_arg4)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- The learning rate's weights it reads. -/
theorem host6 (c : Dev nD) : V m c main_v7 = padAup (m ((c : Thread nD τ).loc main_arg6)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- The gate's weights it reads. -/
theorem host7 (c : Dev nD) : V m c main_v9 = padGup (m ((c : Thread nD τ).loc main_arg7)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- The decay's offset it reads. -/
theorem host3 (c : Dev nD) : V m c main_v12 = shapeCast S1x1024 ((m ((c : Thread nD τ).loc main_arg3)) : FVec Ideal S1024 .f32) shapeCasts_S1024_S1x1024 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- The learning rate's offset it reads. -/
theorem host5 (c : Dev nD) : V m c main_v13 = shapeCast S1x1024 ((m ((c : Thread nD τ).loc main_arg5)) : FVec Ideal S1024 .f32) shapeCasts_S1024_S1x1024 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- The key's weights it reads. -/
theorem host9 (c : Dev nD) : V m c main_v15 = shapeCast S1x1024 ((m ((c : Thread nD τ).loc main_arg9)) : FVec Ideal S1024 .f32) shapeCasts_S1024_S1x1024 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, StableHlo.TRef.binary, StableHlo.TRef.nullary, StableHlo.TRef.unary, StableHlo.TRef.toBuf, StableHlo.TRef.ofBuf, cast_eq]
  after_results_simp <;> rfl

/-- A grid point's block of the projection's columns. -/
theorem in1 (c : Dev nD) (t : Fin cfg0.N) (e : Fin 2048) (k : Fin 3584) : (iblk m c 1 t : Vec Ideal S2048x3584 .bf16) (ix2 e k) = padW (m ((c : Thread nD τ).loc main_arg1)) (ix2 e k) := by
  refine Eq.trans ?_ (congrFun (host1 m c) (ix2 e k))
  blk_point [iblk, idx t]

/-- Of the mixing weights. -/
theorem in2 (c : Dev nD) (t : Fin cfg0.N) (e : Fin 1) (k : Fin 3584) : (iblk m c 2 t : Vec Ideal S1x3584 .f32) (ix2 e k) = padMu (m ((c : Thread nD τ).loc main_arg2)) (ix2 e k) := by
  refine Eq.trans ?_ (congrFun (host2 m c) (ix2 e k))
  blk_point [iblk, idx t]

/-- Of the decay's weights. -/
theorem in4 (c : Dev nD) (t : Fin cfg0.N) (e : Fin 128) (k : Fin 1024) : (iblk m c 4 t : Vec Ideal S128x1024 .bf16) (ix2 e k) = padWup (m ((c : Thread nD τ).loc main_arg4)) (ix2 e k) := by
  refine Eq.trans ?_ (congrFun (host4 m c) (ix2 e k))
  blk_point [iblk, idx t]

/-- Of the learning rate's weights. -/
theorem in6 (c : Dev nD) (t : Fin cfg0.N) (e : Fin 128) (k : Fin 1024) : (iblk m c 6 t : Vec Ideal S128x1024 .bf16) (ix2 e k) = padAup (m ((c : Thread nD τ).loc main_arg6)) (ix2 e k) := by
  refine Eq.trans ?_ (congrFun (host6 m c) (ix2 e k))
  blk_point [iblk, idx t]

/-- Of the gate's weights. -/
theorem in7 (c : Dev nD) (t : Fin cfg0.N) (e : Fin 256) (k : Fin 1024) : (iblk m c 7 t : Vec Ideal S256x1024 .bf16) (ix2 e k) = padGup (m ((c : Thread nD τ).loc main_arg7)) (ix2 e k) := by
  refine Eq.trans ?_ (congrFun (host7 m c) (ix2 e k))
  blk_point [iblk, idx t]

/-- Of the decay's offset. -/
theorem in3 (c : Dev nD) (t : Fin cfg0.N) (k : Fin 1024) : (iblk m c 3 t : Vec Ideal S1x1024 .f32) (ix2 0 k) = (m ((c : Thread nD τ).loc main_arg3)) (ix1 k) := by
  have e : (iblk m c 3 t : Vec Ideal S1x1024 .f32) (ix2 0 k) = V m c main_v12 (ix2 0 k) := by
    blk_point [iblk, idx t]
  refine e.trans ((congrFun (host3 m c) (ix2 0 k)).trans ?_)
  pointwise []

/-- Of the learning rate's offset. -/
theorem in5 (c : Dev nD) (t : Fin cfg0.N) (k : Fin 1024) : (iblk m c 5 t : Vec Ideal S1x1024 .f32) (ix2 0 k) = (m ((c : Thread nD τ).loc main_arg5)) (ix1 k) := by
  have e : (iblk m c 5 t : Vec Ideal S1x1024 .f32) (ix2 0 k) = V m c main_v13 (ix2 0 k) := by
    blk_point [iblk, idx t]
  refine e.trans ((congrFun (host5 m c) (ix2 0 k)).trans ?_)
  pointwise []

/-- Of the key's weights. -/
theorem in9 (c : Dev nD) (t : Fin cfg0.N) (k : Fin 1024) : (iblk m c 9 t : Vec Ideal S1x1024 .f32) (ix2 0 k) = (m ((c : Thread nD τ).loc main_arg9)) (ix1 k) := by
  have e : (iblk m c 9 t : Vec Ideal S1x1024 .f32) (ix2 0 k) = V m c main_v15 (ix2 0 k) := by
    blk_point [iblk, idx t]
  refine e.trans ((congrFun (host9 m c) (ix2 0 k)).trans ?_)
  pointwise []

/-- What a scratch buffer holds, read back. -/
theorem unread0 (v : Vec Ideal S264x3584 .f32) :
    View.read (Elt Ideal) (View.whole cc0_scratch0) ((Memref.isWhole_whole cc0_scratch0).unread v) = v :=
  (Memref.isWhole_whole cc0_scratch0).read_unread v

/-- The product's block is the projection's rows. -/
theorem block (c : Dev nD) (t : Fin cfg0.N) (r : Fin 256) (k : Fin 3584) (hk : k.val < 3360) :
    prod (iblk m c 0 t) (iblk m c 1 t) r k = entry (m ((c : Thread nD τ).loc main_arg0)) (m ((c : Thread nD τ).loc main_arg1)) ⟨t.val * 256 + r.val, by have := lt_64 t; omega⟩ ⟨k.val, hk⟩ := by
  unfold prod entry
  refine Finset.sum_congr rfl fun e _ => ?_
  rw [in1 m c t e k, padW_at _ e k hk]
  refine congrArg (· * _) ?_
  blk_point [iblk, V, idx t]

/-- The rows a row block leaves for the next one. -/
theorem held (c : Dev nD) (t : Fin cfg0.N) (r : Fin 8) (k : Fin 3584) (hk : k.val < 3360) :
    (outsAt0 m c t.val t.isLt).2.2.2.2.2.2.2.2 (ix2 ⟨r.val, by omega⟩ k)
      = entry (m ((c : Thread nD τ).loc main_arg0)) (m ((c : Thread nD τ).loc main_arg1)) ⟨t.val * 256 + (248 + r.val), by have := lt_64 t; omega⟩ ⟨k.val, hk⟩ := by
  by_cases h0 : t.val % 8 = 0
  · rw [outsAt0_A m c t h0]
    dsimp only
    frame_out
    refine (first_rows _ _ _ r k).trans ?_
    pointwise [k0_pay1]
    refine (load_last _ _ _ _ _ r k).trans ?_
    rw [prod_at]
    exact block m c t ⟨248 + r.val, by omega⟩ k hk
  · rw [outsAt0_B m c t h0]
    dsimp only
    frame_out
    refine (first_rows _ _ _ r k).trans ?_
    pointwise [k0_pay1]
    refine (load_last _ _ _ _ _ r k).trans ?_
    rw [prod_at]
    exact block m c t ⟨248 + r.val, by omega⟩ k hk

/-- What a grid point stores: the body's values over rows that are the step before's. -/
theorem outs (c : Dev nD) (t : Fin cfg0.N) : ∃ y : Block,
    (∀ (r : Fin 256) (k : Fin 3584) (hk : k.val < 3360), y (ix2 r k) = before (m ((c : Thread nD τ).loc main_arg0)) (m ((c : Thread nD τ).loc main_arg1)) ⟨t.val * 256 + r.val, by have := lt_64 t; omega⟩ ⟨k.val, hk⟩)
    ∧ (∀ (r : Fin 256) (k : Fin 1024), (outsAt0 m c t.val t.isLt).1 (ix2 r k) = k0_pay39 (k0_pay9 (iblk m c 0 t) (iblk m c 1 t) y (iblk m c 2 t)) (ix2 r k))
    ∧ (∀ (r : Fin 256) (k : Fin 1024), (outsAt0 m c t.val t.isLt).2.1 (ix2 r k) = k0_pay40 (k0_pay27 (k0_pay10 (iblk m c 0 t) (iblk m c 1 t) y (iblk m c 2 t)) (k0_pay14 (k0_pay8 (iblk m c 0 t) (iblk m c 1 t) y (iblk m c 2 t)) (iblk m c 5 t) (iblk m c 6 t)) (iblk m c 9 t)) (ix2 r k))
    ∧ (∀ (r : Fin 256) (k : Fin 1024), (outsAt0 m c t.val t.isLt).2.2.1 (ix2 r k) = k0_pay11 (iblk m c 0 t) (iblk m c 1 t) y (iblk m c 2 t) (ix2 r k))
    ∧ (∀ (r : Fin 256) (k : Fin 1024), (outsAt0 m c t.val t.isLt).2.2.2.1 (ix2 r k) = k0_pay13 (k0_pay8 (iblk m c 0 t) (iblk m c 1 t) y (iblk m c 2 t)) (iblk m c 3 t) (iblk m c 4 t) (ix2 r k))
    ∧ (∀ (r : Fin 256) (k : Fin 1024), (outsAt0 m c t.val t.isLt).2.2.2.2.2.2.1 (ix2 r k) = k0_pay16 (k0_pay15 (k0_pay8 (iblk m c 0 t) (iblk m c 1 t) y (iblk m c 2 t))) (iblk m c 7 t) (ix2 r k)) := by
  have hN := lt_64 t
  by_cases h0 : t.val % 8 = 0
  · rw [outsAt0_A m c t h0]
    dsimp only
    refine ⟨(View.whole cc0_scratch0).readCov [(⟨Rect.unit (s := S264x3584) ![8, 0] ![256, 3584] inb_S264x3584_S256x3584_8_0, k0_pay7 (iblk m c 0 t) (iblk m c 1 t)⟩ : View.Piece (Elt Ideal) S264x3584 .f32), ⟨Rect.unit (s := S264x3584) ![0, 0] ![8, 3584] inb_S264x3584_S8x3584_0_0, (k0_pay2 : FVec Ideal S8x3584 .f32)⟩] (Rect.unit (s := S264x3584) ![7, 0] ![256, 3584] inb_S264x3584_S256x3584_7_0).toLoadRect, fun r k hk => ?_, fun r k => ?_, fun r k => ?_, fun r k => ?_, fun r k => ?_, fun r k => ?_⟩
    rotate_left
    · frame_out
    · frame_out
    · frame_out
    · frame_out
    · frame_out
    refine (load_zero _ _ _ zeros _ _ 7 _ (by omega) r k).trans ?_
    unfold shifted before
    by_cases h : 1 ≤ r.val
    · rw [if_pos (by omega), dif_pos (by dsimp only; omega), prod_at, block m c t _ k hk]
      exact congrArg (fun q => entry _ _ q _) (Fin.ext (by dsimp only; omega))
    · rw [if_neg (by omega), dif_neg (by dsimp only; omega)]
  · have hlt : t.val - 1 < cfg0.N := by have := t.isLt; omega
    have hP := held m c ⟨t.val - 1, hlt⟩
    dsimp only at hP
    rw [outsAt0_B m c t h0]
    dsimp only
    refine ⟨View.ld (View.read (Elt Ideal) (View.whole cc0_scratch0) ((View.whole cc0_scratch0).writes (Elt Ideal) ((Memref.isWhole_whole cc0_scratch0).unread (outsAt0 m c (t.val - 1) hlt).2.2.2.2.2.2.2.2) [(⟨Rect.unit (s := S264x3584) ![8, 0] ![256, 3584] inb_S264x3584_S256x3584_8_0, k0_pay7 (iblk m c 0 t) (iblk m c 1 t)⟩ : View.Piece (Elt Ideal) S264x3584 .f32)])) (Rect.unit (s := S264x3584) ![7, 0] ![256, 3584] inb_S264x3584_S256x3584_7_0), fun r k hk => ?_, fun r k => ?_, fun r k => ?_, fun r k => ?_, fun r k => ?_, fun r k => ?_⟩
    rotate_left
    · frame_out
      rfl
    · frame_out
      rfl
    · frame_out
      rfl
    · frame_out
      rfl
    · frame_out
      rfl
    have hG : ∀ (i : Fin 8) (k : Fin 3584), View.read (Elt Ideal) (View.whole cc0_scratch0) ((Memref.isWhole_whole cc0_scratch0).unread (outsAt0 m c (t.val - 1) hlt).2.2.2.2.2.2.2.2) (ix2 ⟨i.val, by omega⟩ k)
        = (outsAt0 m c (t.val - 1) hlt).2.2.2.2.2.2.2.2 (ix2 ⟨i.val, by omega⟩ k) := fun i k => by rw [unread0]
    refine (load_over _ _ _ _ 7 _ (by omega) _ hG r k).trans ?_
    unfold shifted before
    rw [dif_pos (by dsimp only; omega)]
    by_cases h : 1 ≤ r.val
    · rw [if_pos (by omega), prod_at, block m c t _ k hk]
      exact congrArg (fun q => entry _ _ q _) (Fin.ext (by dsimp only; omega))
    · rw [if_neg (by omega)]
      refine (hP ⟨(8 - (8 - 7) + r.val) % 8, Nat.mod_lt _ (by decide)⟩ k hk).trans ?_
      exact congrArg (fun q => entry _ _ q _) (Fin.ext (by dsimp only; omega))

/-- The body's mix is the layer's. -/
theorem mix_of (c : Dev nD) (t : Fin cfg0.N) (y : Block)
    (hy : ∀ (r : Fin 256) (k : Fin 3584) (hk : k.val < 3360), y (ix2 r k) = before (m ((c : Thread nD τ).loc main_arg0)) (m ((c : Thread nD τ).loc main_arg1)) ⟨t.val * 256 + r.val, by have := lt_64 t; omega⟩ ⟨k.val, hk⟩)
    (r : Fin 256) (k : Fin 3584) (hk : k.val < 3360) :
    k0_pay8 (iblk m c 0 t) (iblk m c 1 t) y (iblk m c 2 t) (ix2 r k)
      = mixed (m ((c : Thread nD τ).loc main_arg0)) (m ((c : Thread nD τ).loc main_arg1)) (m ((c : Thread nD τ).loc main_arg2)) (ix2 ⟨t.val * 256 + r.val, by have := lt_64 t; omega⟩ ⟨k.val, hk⟩) := by
  rw [mix_at, hy r k hk, block m c t r k hk, in2 m c t 0 k, padMu_at _ k hk, mixed_at]
  rfl

/-- The receptances a grid point stores. -/
theorem out_r (c : Dev nD) (t : Fin cfg0.N) (r : Fin 256) (k : Fin 1024) :
    (outsAt0 m c t.val t.isLt).1 (ix2 r k) = recep (mixed (m ((c : Thread nD τ).loc main_arg0)) (m ((c : Thread nD τ).loc main_arg1)) (m ((c : Thread nD τ).loc main_arg2))) (ix2 ⟨t.val * 256 + r.val, by have := lt_64 t; omega⟩ k) := by
  obtain ⟨y, hy, hr, hk, hv, hw, hg⟩ := outs m c t
  rw [hr, kr_at, recep_at]
  exact mix_of m c t y hy r _ (by dsimp only; omega)

/-- The keys it stores. -/
theorem out_k (c : Dev nD) (t : Fin cfg0.N) (r : Fin 256) (k : Fin 1024) :
    (outsAt0 m c t.val t.isLt).2.1 (ix2 r k) = key (mixed (m ((c : Thread nD τ).loc main_arg0)) (m ((c : Thread nD τ).loc main_arg1)) (m ((c : Thread nD τ).loc main_arg2))) (m ((c : Thread nD τ).loc main_arg5)) (m ((c : Thread nD τ).loc main_arg6)) (m ((c : Thread nD τ).loc main_arg9)) (ix2 ⟨t.val * 256 + r.val, by have := lt_64 t; omega⟩ k) := by
  obtain ⟨y, hy, hr, hk, hv, hw, hg⟩ := outs m c t
  rw [hk, kk_at, key_at, ka_at, rate_at, in9]
  refine congrArg₂ (· * ·) (mix_of m c t y hy r _ (by dsimp only; omega)) (congrArg (fun z => 1 + (Ideal.logistic z - 1) * _) ?_)
  rw [in5, sum_second _ fun e => by rw [in6, padAup_zero, mul_zero]]
  refine congrArg (fun z : EReal => (_ : EReal) + z) (Finset.sum_congr rfl fun e _ => ?_)
  rw [in6, padAup_at]
  refine congrArg (fun z : EReal => z * (_ : EReal)) ?_
  refine (mix_of m c t y hy r _ (by dsimp only; omega)).trans (congrArg _ (congrArg _ (Fin.ext ?_)))
  dsimp only
  omega

/-- The values it stores. -/
theorem out_v (c : Dev nD) (t : Fin cfg0.N) (r : Fin 256) (k : Fin 1024) :
    (outsAt0 m c t.val t.isLt).2.2.1 (ix2 r k) = val (mixed (m ((c : Thread nD τ).loc main_arg0)) (m ((c : Thread nD τ).loc main_arg1)) (m ((c : Thread nD τ).loc main_arg2))) (ix2 ⟨t.val * 256 + r.val, by have := lt_64 t; omega⟩ k) := by
  obtain ⟨y, hy, hr, hk, hv, hw, hg⟩ := outs m c t
  rw [hv, kv_at, val_at]
  exact mix_of m c t y hy r _ (by dsimp only; omega)

/-- The decays it stores. -/
theorem out_w (c : Dev nD) (t : Fin cfg0.N) (r : Fin 256) (k : Fin 1024) :
    (outsAt0 m c t.val t.isLt).2.2.2.1 (ix2 r k) = logDecay (mixed (m ((c : Thread nD τ).loc main_arg0)) (m ((c : Thread nD τ).loc main_arg1)) (m ((c : Thread nD τ).loc main_arg2))) (m ((c : Thread nD τ).loc main_arg3)) (m ((c : Thread nD τ).loc main_arg4)) (ix2 ⟨t.val * 256 + r.val, by have := lt_64 t; omega⟩ k) := by
  obtain ⟨y, hy, hr, hk, hv, hw, hg⟩ := outs m c t
  rw [hw, kw_at, logDecay_at, in3, sum_first _ fun e => by rw [in4, padWup_zero, mul_zero]]
  refine congrArg (fun z => decayOf (_ + z)) (Finset.sum_congr rfl fun e _ => ?_)
  rw [in4, padWup_at]
  exact congrArg (fun z => Ideal.tanh z * _) (mix_of m c t y hy r _ (by dsimp only; omega))

/-- The gates it stores. -/
theorem out_g (c : Dev nD) (t : Fin cfg0.N) (r : Fin 256) (k : Fin 1024) :
    (outsAt0 m c t.val t.isLt).2.2.2.2.2.2.1 (ix2 r k) = gate (mixed (m ((c : Thread nD τ).loc main_arg0)) (m ((c : Thread nD τ).loc main_arg1)) (m ((c : Thread nD τ).loc main_arg2))) (m ((c : Thread nD τ).loc main_arg7)) (ix2 ⟨t.val * 256 + r.val, by have := lt_64 t; omega⟩ k) := by
  obtain ⟨y, hy, hr, hk, hv, hw, hg⟩ := outs m c t
  rw [hg, kg_at, gate_at, sum_160 _ fun e => by rw [in7, padGup_zero, mul_zero]]
  refine Finset.sum_congr rfl fun e _ => ?_
  rw [in7, padGup_at]
  exact congrArg (fun z => Ideal.logistic z * _) (mix_of m c t y hy r _ (by dsimp only; omega))

/-- The array of receptances is the layer's. -/
theorem final_r (c : Dev nD) : (dats m 0 c).arrAt 11 (cfgs 0).N = recep (mixed (m ((c : Thread nD τ).loc main_arg0)) (m ((c : Thread nD τ).loc main_arg1)) (m ((c : Thread nD τ).loc main_arg2))) := by
  refine (dats m 0 c).arrAt_eq_of_covers 11 _ (by decide +kernel) fun t hf y => ?_
  have hN := lt_64 t
  blk_simp
  rw [after0_11]
  have hy : (ix2 (y 0) (y 1) : S256x1024.Idx) = y := by
    funext a
    match a with
    | ⟨0, _⟩ => rfl
    | ⟨1, _⟩ => rfl
  have e := out_r m c t (y 0) (y 1)
  rw [hy] at e
  refine e.trans ?_
  refine congrArg _ (funext fun a => Fin.ext ?_)
  match a with
  | ⟨0, _⟩ =>
    blk_simp [idx t]
    rfl
  | ⟨1, _⟩ =>
    blk_simp [idx t]
    rfl

/-- The array of keys is the layer's. -/
theorem final_k (c : Dev nD) : (dats m 0 c).arrAt 12 (cfgs 0).N = key (mixed (m ((c : Thread nD τ).loc main_arg0)) (m ((c : Thread nD τ).loc main_arg1)) (m ((c : Thread nD τ).loc main_arg2))) (m ((c : Thread nD τ).loc main_arg5)) (m ((c : Thread nD τ).loc main_arg6)) (m ((c : Thread nD τ).loc main_arg9)) := by
  refine (dats m 0 c).arrAt_eq_of_covers 12 _ (by decide +kernel) fun t hf y => ?_
  have hN := lt_64 t
  blk_simp
  rw [after0_12]
  have hy : (ix2 (y 0) (y 1) : S256x1024.Idx) = y := by
    funext a
    match a with
    | ⟨0, _⟩ => rfl
    | ⟨1, _⟩ => rfl
  have e := out_k m c t (y 0) (y 1)
  rw [hy] at e
  refine e.trans ?_
  refine congrArg _ (funext fun a => Fin.ext ?_)
  match a with
  | ⟨0, _⟩ =>
    blk_simp [idx t]
    rfl
  | ⟨1, _⟩ =>
    blk_simp [idx t]
    rfl

/-- The array of values is the layer's. -/
theorem final_v (c : Dev nD) : (dats m 0 c).arrAt 13 (cfgs 0).N = val (mixed (m ((c : Thread nD τ).loc main_arg0)) (m ((c : Thread nD τ).loc main_arg1)) (m ((c : Thread nD τ).loc main_arg2))) := by
  refine (dats m 0 c).arrAt_eq_of_covers 13 _ (by decide +kernel) fun t hf y => ?_
  have hN := lt_64 t
  blk_simp
  rw [after0_13]
  have hy : (ix2 (y 0) (y 1) : S256x1024.Idx) = y := by
    funext a
    match a with
    | ⟨0, _⟩ => rfl
    | ⟨1, _⟩ => rfl
  have e := out_v m c t (y 0) (y 1)
  rw [hy] at e
  refine e.trans ?_
  refine congrArg _ (funext fun a => Fin.ext ?_)
  match a with
  | ⟨0, _⟩ =>
    blk_simp [idx t]
    rfl
  | ⟨1, _⟩ =>
    blk_simp [idx t]
    rfl

/-- The array of decays is the layer's. -/
theorem final_w (c : Dev nD) : (dats m 0 c).arrAt 14 (cfgs 0).N = logDecay (mixed (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 14 _ (by decide +kernel) fun t hf y => ?_
  have hN := lt_64 t
  blk_simp
  rw [after0_14]
  have hy : (ix2 (y 0) (y 1) : S256x1024.Idx) = y := by
    funext a
    match a with
    | ⟨0, _⟩ => rfl
    | ⟨1, _⟩ => rfl
  have e := out_w m c t (y 0) (y 1)
  rw [hy] at e
  refine e.trans ?_
  refine congrArg _ (funext fun a => Fin.ext ?_)
  match a with
  | ⟨0, _⟩ =>
    blk_simp [idx t]
    rfl
  | ⟨1, _⟩ =>
    blk_simp [idx t]
    rfl

/-- The array of gates is the layer's. -/
theorem final_g (c : Dev nD) : (dats m 0 c).arrAt 17 (cfgs 0).N = gate (mixed (m ((c : Thread nD τ).loc main_arg0)) (m ((c : Thread nD τ).loc main_arg1)) (m ((c : Thread nD τ).loc main_arg2))) (m ((c : Thread nD τ).loc main_arg7)) := by
  refine (dats m 0 c).arrAt_eq_of_covers 17 _ (by decide +kernel) fun t hf y => ?_
  have hN := lt_64 t
  blk_simp
  rw [after0_17]
  have hy : (ix2 (y 0) (y 1) : S256x1024.Idx) = y := by
    funext a
    match a with
    | ⟨0, _⟩ => rfl
    | ⟨1, _⟩ => rfl
  have e := out_g m c t (y 0) (y 1)
  rw [hy] at e
  refine e.trans ?_
  refine congrArg _ (funext fun a => Fin.ext ?_)
  match a with
  | ⟨0, _⟩ =>
    blk_simp [idx t]
    rfl
  | ⟨1, _⟩ =>
    blk_simp [idx t]
    rfl

end Cert.PrepIdeal.Prep

end
-- ==== Proof.ClaimPrep.lean ====
/-
  The claims of the recurrent branch's preparation: its programs end, and the kernel's results are the layer's.
-/
module

public import proofs.«01_k».proof.Defs
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Prep
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel of the recurrent branch's preparation ends and leaves its arguments. -/
theorem quiescent_Prep : Cert.quiescent_Prep (hPrep := Cert.Prep.Gen.facts) := fun m g _ => Cert.Prep.Gen.frame m g

/-- So does the kernel over the reals. -/
theorem quiescent_PrepIdeal : Cert.quiescent_PrepIdeal (hPrepIdeal := Cert.PrepIdeal.Gen.facts) := fun m g _ => Cert.PrepIdeal.Gen.frame m g

/-- So does the layer's own text. -/
theorem quiescent_PrepRefIdeal : Cert.quiescent_PrepRefIdeal (hPrepRefIdeal := Cert.PrepRefIdeal.Gen.facts) := fun m g _ =>
  (θ_run Cert.PrepRefIdeal.defs _ _).mono (fun r h => ⟨fun c => (h c).2.2.2.2.2, sem_eq_zero_of_no_sems (by decide) r.2⟩) (Cert.PrepRefIdeal.Value.run m g)

set_option maxHeartbeats 4000000 in
/-- The kernel's results over the reals are those of the layer's text. -/
theorem algebraic_PrepIdeal_PrepRefIdeal : Cert.algebraic_PrepIdeal_PrepRefIdeal (hPrepIdeal := Cert.PrepIdeal.Gen.facts) (hPrepRefIdeal := Cert.PrepRefIdeal.Gen.facts) := by
  pair_intro
  · run_from Cert.PrepIdeal.Gen.run_main m g
    all_goals first
      | exact Cert.PrepIdeal.Gen.V_main_arg0 m c
      | exact Cert.PrepIdeal.Gen.V_main_arg1 m c
      | exact Cert.PrepIdeal.Gen.V_main_arg2 m c
      | exact Cert.PrepIdeal.Gen.V_main_arg3 m c
      | exact Cert.PrepIdeal.Gen.V_main_arg4 m c
      | exact Cert.PrepIdeal.Gen.V_main_arg5 m c
      | exact Cert.PrepIdeal.Gen.V_main_arg6 m c
      | exact Cert.PrepIdeal.Gen.V_main_arg7 m c
      | exact Cert.PrepIdeal.Gen.V_main_arg8 m c
      | exact Cert.PrepIdeal.Gen.V_main_arg9 m c
      | exact Cert.PrepIdeal.Gen.V_main_arg10 m c
      | exact hc.1 17
  · run_from Cert.PrepRefIdeal.Value.run m' g'
    · exact (Cert.PrepIdeal.Prep.final_r m c).symm
    · exact (Cert.PrepIdeal.Prep.final_k m c).symm
    · exact (Cert.PrepIdeal.Prep.final_v m c).symm
    · unfold Cert.PrepRefIdeal.Value.res_main_v56
      simp only [hagree c]
      exact (Cert.PrepIdeal.Prep.final_w m c).symm
    · exact (Cert.PrepIdeal.Prep.final_g m c).symm

end Cert.Proof

end
-- ==== Proof.lean ====
/-
  The certificate: each call of the layer against the lines of the layer it computes.
-/
module

public import proofs.«01_k».proof.Proof.Gen.Sb
public import proofs.«01_k».proof.Proof.Gen.Sb.Frame
public import proofs.«01_k».proof.Proof.Gen.SbIdeal
public import proofs.«01_k».proof.Proof.Gen.SbIdeal.Frame
public import proofs.«01_k».proof.Proof.Gen.SbIdeal.Value
public import proofs.«01_k».proof.Proof.Gen.SbRefIdeal
public import proofs.«01_k».proof.Proof.Gen.SbRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Defs
public import proofs.«01_k».proof.Proof.ClaimLru
public import proofs.«01_k».proof.Proof.ClaimMerge
public import proofs.«01_k».proof.Proof.ClaimFfn
public import proofs.«01_k».proof.Proof.ClaimDown
public import proofs.«01_k».proof.Proof.ClaimOutp
public import proofs.«01_k».proof.Proof.ClaimPle
public import proofs.«01_k».proof.Proof.ClaimRope
public import proofs.«01_k».proof.Proof.ClaimProja
public import proofs.«01_k».proof.Proof.ClaimProjc
public import proofs.«01_k».proof.Proof.ClaimNorm
public import proofs.«01_k».proof.Proof.ClaimSb
public import proofs.«01_k».proof.Proof.ClaimPrep

@[expose] public section

set_option maxRecDepth 16384

noncomputable section

namespace Cert.Proof

open Idealize.ShloMosaic Idealize.SL.Sem

/-- The certificate. -/
theorem claim : Cert.Claim :=
  ⟨Cert.Lru.Gen.facts, Cert.LruIdeal.Gen.facts, Cert.LruRefIdeal.Gen.facts, Cert.Merge.Gen.facts, Cert.MergeIdeal.Gen.facts, Cert.MergeRefIdeal.Gen.facts, Cert.Ffn.Gen.facts, Cert.FfnIdeal.Gen.facts, Cert.FfnRefIdeal.Gen.facts, Cert.Down.Gen.facts, Cert.DownIdeal.Gen.facts, Cert.DownRefIdeal.Gen.facts, Cert.Outp.Gen.facts, Cert.OutpIdeal.Gen.facts, Cert.OutpRefIdeal.Gen.facts, Cert.Ple.Gen.facts, Cert.PleIdeal.Gen.facts, Cert.PleRefIdeal.Gen.facts, Cert.Rope.Gen.facts, Cert.RopeIdeal.Gen.facts, Cert.RopeRefIdeal.Gen.facts, Cert.Proja.Gen.facts, Cert.ProjaIdeal.Gen.facts, Cert.ProjaRefIdeal.Gen.facts, Cert.Projc.Gen.facts, Cert.ProjcIdeal.Gen.facts, Cert.ProjcRefIdeal.Gen.facts, Cert.Norm.Gen.facts, Cert.NormIdeal.Gen.facts, Cert.NormRefIdeal.Gen.facts, Cert.Sb.Gen.facts, Cert.SbIdeal.Gen.facts, Cert.SbRefIdeal.Gen.facts, Cert.Prep.Gen.facts, Cert.PrepIdeal.Gen.facts, Cert.PrepRefIdeal.Gen.facts, Cert.Pre_finite_qk.facts,
    quiescent_Lru, quiescent_LruIdeal, quiescent_LruRefIdeal, quiescent_Merge, quiescent_MergeIdeal, quiescent_MergeRefIdeal, quiescent_Ffn, quiescent_FfnIdeal, quiescent_FfnRefIdeal, quiescent_Down, quiescent_DownIdeal, quiescent_DownRefIdeal, quiescent_Outp, quiescent_OutpIdeal, quiescent_OutpRefIdeal, quiescent_Ple, quiescent_PleIdeal, quiescent_PleRefIdeal, quiescent_Rope, quiescent_RopeIdeal, quiescent_RopeRefIdeal, quiescent_Proja, quiescent_ProjaIdeal, quiescent_ProjaRefIdeal, quiescent_Projc, quiescent_ProjcIdeal, quiescent_ProjcRefIdeal, quiescent_Norm, quiescent_NormIdeal, quiescent_NormRefIdeal, quiescent_Sb, quiescent_SbIdeal, quiescent_SbIdeal_pre_finite_qk, quiescent_SbRefIdeal, quiescent_SbRefIdeal_pre_finite_qk, quiescent_Prep, quiescent_PrepIdeal, quiescent_PrepRefIdeal,
    trivial, algebraic_LruIdeal_LruRefIdeal, trivial, algebraic_MergeIdeal_MergeRefIdeal, trivial, algebraic_FfnIdeal_FfnRefIdeal, trivial, algebraic_DownIdeal_DownRefIdeal, trivial, algebraic_OutpIdeal_OutpRefIdeal, trivial, algebraic_PleIdeal_PleRefIdeal, trivial, algebraic_RopeIdeal_RopeRefIdeal, trivial, algebraic_ProjaIdeal_ProjaRefIdeal, trivial, algebraic_ProjcIdeal_ProjcRefIdeal, trivial, algebraic_NormIdeal_NormRefIdeal, trivial, algebraic_SbIdeal_SbRefIdeal_pre_finite_qk, trivial, algebraic_PrepIdeal_PrepRefIdeal⟩

end Cert.Proof

end
